-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "mask" .f32 0xF149F2CA#32 ⊥

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v26)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v26) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v15)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v83) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v64) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v64) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S8x2048x8x64 : Shape := ⟨4, ![8, 2048, 8, 64]⟩
abbrev S8x2048x8 : Shape := ⟨3, ![8, 2048, 8]⟩
abbrev S_ : Shape := ⟨0, ![]⟩
abbrev S8x2048x8x1 : Shape := ⟨4, ![8, 2048, 8, 1]⟩

class Facts : Prop where
  bcast_S_S8x2048x8x64 : S_.BroadcastsInDim S8x2048x8x64 (![] : Fin 0 → Fin S8x2048x8x64.rank)
  bcast_S8x2048x8_S8x2048x8x1_0_1_2 : S8x2048x8.BroadcastsInDim S8x2048x8x1 (![0, 1, 2] : Fin 3 → Fin S8x2048x8x1.rank)
  bcast_S_S8x2048x8x1 : S_.BroadcastsInDim S8x2048x8x1 (![] : Fin 0 → Fin S8x2048x8x1.rank)
  bcast_S8x2048x8x1_S8x2048x8x64_0_1_2_3 : S8x2048x8x1.BroadcastsInDim S8x2048x8x64 (![0, 1, 2, 3] : Fin 4 → Fin S8x2048x8x64.rank)

variable [Facts]

def fn {F : FTy → Type} [FloatOps F] (main_arg0 : FVec F S8x2048x8x64 .f32) (main_arg1 : FVec F S8x2048x8x64 .f32) (main_arg2 : FVec F S8x2048x8x64 .f32) (main_arg3 : FVec F S8x2048x8 .f32) : IVec S8x2048x8x64 1 :=
  let main_v0 : FVec F S8x2048x8x64 .f32 := Host.absf main_arg0
  let main_cst : FVec F S_ .f32 := constant S_ .f32 0x7F800000#32
  let main_v1 : FVec F S8x2048x8x64 .f32 := broadcastInDim S8x2048x8x64 ![] bcast_S_S8x2048x8x64 main_cst
  let main_v2 : IVec S8x2048x8x64 1 := cmpf .olt main_v0 main_v1
  let main_v3 : FVec F S8x2048x8x64 .f32 := Host.absf main_arg1
  let main_cst_0 : FVec F S_ .f32 := constant S_ .f32 0x7F800000#32
  let main_v4 : FVec F S8x2048x8x64 .f32 := broadcastInDim S8x2048x8x64 ![] bcast_S_S8x2048x8x64 main_cst_0
  let main_v5 : IVec S8x2048x8x64 1 := cmpf .olt main_v3 main_v4
  let main_v6 : IVec S8x2048x8x64 1 := andi main_v2 main_v5
  let main_v7 : FVec F S8x2048x8x1 .f32 := broadcastInDim S8x2048x8x1 ![0, 1, 2] bcast_S8x2048x8_S8x2048x8x1_0_1_2 main_arg3
  let main_v8 : FVec F S8x2048x8x1 .f32 := Host.absf main_v7
  let main_cst_1 : FVec F S_ .f32 := constant S_ .f32 0x7F800000#32
  let main_v9 : FVec F S8x2048x8x1 .f32 := broadcastInDim S8x2048x8x1 ![] bcast_S_S8x2048x8x1 main_cst_1
  let main_v10 : IVec S8x2048x8x1 1 := cmpf .olt main_v8 main_v9
  let main_v11 : IVec S8x2048x8x64 1 := broadcastInDim S8x2048x8x64 ![0, 1, 2, 3] bcast_S8x2048x8x1_S8x2048x8x64_0_1_2_3 main_v10
  let main_v12 : IVec S8x2048x8x64 1 := andi main_v6 main_v11
  main_v12
-- ==== Pre_finite2.lean ====
abbrev S8x2048x8x64 : Shape := ⟨4, ![8, 2048, 8, 64]⟩
abbrev S8x2048x8x32 : Shape := ⟨4, ![8, 2048, 8, 32]⟩
abbrev S8x2048x256 : Shape := ⟨3, ![8, 2048, 256]⟩
abbrev S8x2048x32 : Shape := ⟨3, ![8, 2048, 32]⟩
abbrev S256x8x64 : Shape := ⟨3, ![256, 8, 64]⟩
abbrev S_ : Shape := ⟨0, ![]⟩

class Facts : Prop where
  bcast_S_S8x2048x8x64 : S_.BroadcastsInDim S8x2048x8x64 (![] : Fin 0 → Fin S8x2048x8x64.rank)
  reducesTo_S8x2048x8x64_S_d0_1_2_3 : S8x2048x8x64.ReducesTo [0, 1, 2, 3] S_
  h_S_ : 0 < S_.numel
  bcast_S_S8x2048x8x32 : S_.BroadcastsInDim S8x2048x8x32 (![] : Fin 0 → Fin S8x2048x8x32.rank)
  reducesTo_S8x2048x8x32_S_d0_1_2_3 : S8x2048x8x32.ReducesTo [0, 1, 2, 3] S_
  bcast_S_S8x2048x256 : S_.BroadcastsInDim S8x2048x256 (![] : Fin 0 → Fin S8x2048x256.rank)
  reducesTo_S8x2048x256_S_d0_1_2 : S8x2048x256.ReducesTo [0, 1, 2] S_
  bcast_S_S8x2048x32 : S_.BroadcastsInDim S8x2048x32 (![] : Fin 0 → Fin S8x2048x32.rank)
  reducesTo_S8x2048x32_S_d0_1_2 : S8x2048x32.ReducesTo [0, 1, 2] S_
  bcast_S_S256x8x64 : S_.BroadcastsInDim S256x8x64 (![] : Fin 0 → Fin S256x8x64.rank)
  reducesTo_S256x8x64_S_d0_1_2 : S256x8x64.ReducesTo [0, 1, 2] S_

variable [Facts]

def fn_part1 {F : FTy → Type} [FloatOps F] (main_arg4 : FVec F S256x8x64 .f32) (main_arg5 : FVec F S256x8x64 .f32) (main_v13 : IVec S_ 1) (main_v16 : IVec S8x2048x32 1) : IVec S_ 1 :=
  let main_c_5 : IVec S_ 1 := constantI S_ 1 1#1
  let main_v17 : IVec S_ 1 := (fun x v => Host.reduce IntOp.andi x v reducesTo_S8x2048x32_S_d0_1_2 h_S_) main_v16 main_c_5
  let main_v18 : IVec S_ 1 := andi main_v13 main_v17
  let main_v19 : FVec F S256x8x64 .f32 := Host.absf main_arg4
  let main_cst_6 : FVec F S_ .f32 := constant S_ .f32 0x7F800000#32
  let main_v20 : FVec F S256x8x64 .f32 := broadcastInDim S256x8x64 ![] bcast_S_S256x8x64 main_cst_6
  let main_v21 : IVec S256x8x64 1 := cmpf .olt main_v19 main_v20
  let main_c_7 : IVec S_ 1 := constantI S_ 1 1#1
  let main_v22 : IVec S_ 1 := (fun x v => Host.reduce IntOp.andi x v reducesTo_S256x8x64_S_d0_1_2 h_S_) main_v21 main_c_7
  let main_v23 : IVec S_ 1 := andi main_v18 main_v22
  let main_v24 : FVec F S256x8x64 .f32 := Host.absf main_arg5
  let main_cst_8 : FVec F S_ .f32 := constant S_ .f32 0x7F800000#32
  let main_v25 : FVec F S256x8x64 .f32 := broadcastInDim S256x8x64 ![] bcast_S_S256x8x64 main_cst_8
  let main_v26 : IVec S256x8x64 1 := cmpf .olt main_v24 main_v25
  let main_c_9 : IVec S_ 1 := constantI S_ 1 1#1
  let main_v27 : IVec S_ 1 := (fun x v => Host.reduce IntOp.andi x v reducesTo_S256x8x64_S_d0_1_2 h_S_) main_v26 main_c_9
  let main_v28 : IVec S_ 1 := andi main_v23 main_v27
  main_v28

def fn {F : FTy → Type} [FloatOps F] (main_arg0 : FVec F S8x2048x8x64 .f32) (main_arg1 : FVec F S8x2048x8x32 .f32) (main_arg2 : FVec F S8x2048x256 .f32) (main_arg3 : FVec F S8x2048x32 .f32) (main_arg4 : FVec F S256x8x64 .f32) (main_arg5 : FVec F S256x8x64 .f32) : IVec S_ 1 :=
  let main_v0 : FVec F S8x2048x8x64 .f32 := Host.absf main_arg0
  let main_cst : FVec F S_ .f32 := constant S_ .f32 0x7F800000#32
  let main_v1 : FVec F S8x2048x8x64 .f32 := broadcastInDim S8x2048x8x64 ![] bcast_S_S8x2048x8x64 main_cst
  let main_v2 : IVec S8x2048x8x64 1 := cmpf .olt main_v0 main_v1
  let main_c : IVec S_ 1 := constantI S_ 1 1#1
  let main_v3 : IVec S_ 1 := (fun x v => Host.reduce IntOp.andi x v reducesTo_S8x2048x8x64_S_d0_1_2_3 h_S_) main_v2 main_c
  let main_v4 : FVec F S8x2048x8x32 .f32 := Host.absf main_arg1
  let main_cst_0 : FVec F S_ .f32 := constant S_ .f32 0x7F800000#32
  let main_v5 : FVec F S8x2048x8x32 .f32 := broadcastInDim S8x2048x8x32 ![] bcast_S_S8x2048x8x32 main_cst_0
  let main_v6 : IVec S8x2048x8x32 1 := cmpf .olt main_v4 main_v5
  let main_c_1 : IVec S_ 1 := constantI S_ 1 1#1
  let main_v7 : IVec S_ 1 := (fun x v => Host.reduce IntOp.andi x v reducesTo_S8x2048x8x32_S_d0_1_2_3 h_S_) main_v6 main_c_1
  let main_v8 : IVec S_ 1 := andi main_v3 main_v7
  let main_v9 : FVec F S8x2048x256 .f32 := Host.absf main_arg2
  let main_cst_2 : FVec F S_ .f32 := constant S_ .f32 0x7F800000#32
  let main_v10 : FVec F S8x2048x256 .f32 := broadcastInDim S8x2048x256 ![] bcast_S_S8x2048x256 main_cst_2
  let main_v11 : IVec S8x2048x256 1 := cmpf .olt main_v9 main_v10
  let main_c_3 : IVec S_ 1 := constantI S_ 1 1#1
  let main_v12 : IVec S_ 1 := (fun x v => Host.reduce IntOp.andi x v reducesTo_S8x2048x256_S_d0_1_2 h_S_) main_v11 main_c_3
  let main_v13 : IVec S_ 1 := andi main_v8 main_v12
  let main_v14 : FVec F S8x2048x32 .f32 := Host.absf main_arg3
  let main_cst_4 : FVec F S_ .f32 := constant S_ .f32 0x7F800000#32
  let main_v15 : FVec F S8x2048x32 .f32 := broadcastInDim S8x2048x32 ![] bcast_S_S8x2048x32 main_cst_4
  let main_v16 : IVec S8x2048x32 1 := cmpf .olt main_v14 main_v15
  fn_part1 (F := F) main_arg4 main_arg5 main_v13 main_v16
-- ==== Kernel.lean ====
abbrev S8x2048x8x64 : Shape := ⟨4, ![8, 2048, 8, 64]⟩
abbrev S8x2048x8 : Shape := ⟨3, ![8, 2048, 8]⟩
abbrev S_ : Shape := ⟨0, ![]⟩
abbrev S16384x512 : Shape := ⟨2, ![16384, 512]⟩
abbrev S8x2048x4x2 : Shape := ⟨4, ![8, 2048, 4, 2]⟩
abbrev S8x4x2048x2 : Shape := ⟨4, ![8, 4, 2048, 2]⟩
abbrev S8x4x512x4x2 : Shape := ⟨5, ![8, 4, 512, 4, 2]⟩
abbrev S8x4x4x2x512 : Shape := ⟨5, ![8, 4, 4, 2, 512]⟩
abbrev S512x128 : Shape := ⟨2, ![512, 128]⟩
abbrev S2048x128 : Shape := ⟨2, ![2048, 128]⟩
abbrev S1x1x512x2 : Shape := ⟨4, ![1, 1, 512, 2]⟩
abbrev S1x1x4x2x512 : Shape := ⟨5, ![1, 1, 4, 2, 512]⟩
abbrev S1x128 : Shape := ⟨2, ![1, 128]⟩
abbrev S512x512 : Shape := ⟨2, ![512, 512]⟩
abbrev S512x1 : Shape := ⟨2, ![512, 1]⟩
abbrev S1x1x1x1x512 : Shape := ⟨5, ![1, 1, 1, 1, 512]⟩
abbrev S1x512 : Shape := ⟨2, ![1, 512]⟩
abbrev S512 : Shape := ⟨1, ![512]⟩
abbrev S1x1x512x1 : Shape := ⟨4, ![1, 1, 512, 1]⟩

abbrev nBuf : Space → Nat
  | .hbm => 21
  | .vmem => 12
  | .smem => 0
  | _ => 0

abbrev bufTy : (tb : Table) → Fin (tcTables nBuf tb) → BufTy
  | .hbm, ⟨0, _⟩ => ⟨S8x2048x8x64, .f32⟩
  | .hbm, ⟨1, _⟩ => ⟨S8x2048x8x64, .f32⟩
  | .hbm, ⟨2, _⟩ => ⟨S8x2048x8x64, .f32⟩
  | .hbm, ⟨3, _⟩ => ⟨S8x2048x8, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S16384x512, .f32⟩
  | .hbm, ⟨9, _⟩ => ⟨S16384x512, .f32⟩
  | .hbm, ⟨10, _⟩ => ⟨S16384x512, .f32⟩
  | .hbm, ⟨11, _⟩ => ⟨S16384x512, .bf16⟩
  | .hbm, ⟨12, _⟩ => ⟨S16384x512, .f32⟩
  | .hbm, ⟨13, _⟩ => ⟨S16384x512, .bf16⟩
  | .hbm, ⟨14, _⟩ => ⟨S16384x512, .f32⟩
  | .hbm, ⟨15, _⟩ => ⟨S16384x512, .bf16⟩
  | .hbm, ⟨16, _⟩ => ⟨S8x2048x4x2, .f32⟩
  | .hbm, ⟨17, _⟩ => ⟨S8x4x2048x2, .f32⟩
  | .hbm, ⟨18, _⟩ => ⟨S8x4x512x4x2, .f32⟩
  | .hbm, ⟨19, _⟩ => ⟨S8x4x4x2x512, .f32⟩
  | .hbm, ⟨20, _⟩ => ⟨S16384x512, .bf16⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x1x512x2, .f32⟩
  | .local _ .vmem, ⟨7, _⟩ => ⟨S1x1x512x2, .f32⟩
  | .local _ .vmem, ⟨8, _⟩ => ⟨S1x1x4x2x512, .f32⟩
  | .local _ .vmem, ⟨9, _⟩ => ⟨S1x1x4x2x512, .f32⟩
  | .local _ .vmem, ⟨10, _⟩ => ⟨S512x128, .bf16⟩
  | .local _ .vmem, ⟨11, _⟩ => ⟨S512x128, .bf16⟩
  | _, _ => ⟨S8x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 4], ![false, false, false]⟩

def k0_cond1 (i : grid0.Coords) : BitVec 1 :=
  let arg2 : BitVec 32 := BitVec.ofNat 32 (i 2).val
  let c0_i32 : BitVec 32 := 0#32
  let v22 : BitVec 1 := Scalar.cmpi .eq arg2 c0_i32
  let v23 : BitVec 32 := Scalar.extui v22
  let c0_i32_8 : BitVec 32 := 0#32
  let v24 : BitVec 1 := Scalar.cmpi .ne v23 c0_i32_8
  v24

def k0_cond2 (i : grid0.Coords) : BitVec 1 :=
  let arg2 : BitVec 32 := BitVec.ofNat 32 (i 2).val
  let c1_i32 : BitVec 32 := 1#32
  let v25 : BitVec 1 := Scalar.cmpi .eq arg2 c1_i32
  let v26 : BitVec 32 := Scalar.extui v25
  let c0_i32_9 : BitVec 32 := 0#32
  let v27 : BitVec 1 := Scalar.cmpi .ne v26 c0_i32_9
  v27

def k0_cond3 (i : grid0.Coords) : BitVec 1 :=
  let arg2 : BitVec 32 := BitVec.ofNat 32 (i 2).val
  let c2_i32 : BitVec 32 := 2#32
  let v28 : BitVec 1 := Scalar.cmpi .eq arg2 c2_i32
  let v29 : BitVec 32 := Scalar.extui v28
  let c0_i32_10 : BitVec 32 := 0#32
  let v30 : BitVec 1 := Scalar.cmpi .ne v29 c0_i32_10
  v30

def k0_cond4 (i : grid0.Coords) : BitVec 1 :=
  let arg2 : BitVec 32 := BitVec.ofNat 32 (i 2).val
  let c3_i32 : BitVec 32 := 3#32
  let v31 : BitVec 1 := Scalar.cmpi .eq arg2 c3_i32
  let v32 : BitVec 32 := Scalar.extui v31
  let c0_i32_11 : BitVec 32 := 0#32
  let v33 : BitVec 1 := Scalar.cmpi .ne v32 c0_i32_11
  v33

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x4x2x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S8x2048x8x64 : Shape := ⟨4, ![8, 2048, 8, 64]⟩
abbrev S8x2048x8 : Shape := ⟨3, ![8, 2048, 8]⟩
abbrev S2048 : Shape := ⟨1, ![2048]⟩
abbrev S8x8x2048x2048 : Shape := ⟨4, ![8, 8, 2048, 2048]⟩
abbrev S_ : Shape := ⟨0, ![]⟩
abbrev S8x8x2048 : Shape := ⟨3, ![8, 8, 2048]⟩
abbrev S8x8x2048x1 : Shape := ⟨4, ![8, 8, 2048, 1]⟩
abbrev S8x8x1x2048 : Shape := ⟨4, ![8, 8, 1, 2048]⟩
abbrev S1x2048 : Shape := ⟨2, ![1, 2048]⟩
abbrev S2048x1 : Shape := ⟨2, ![2048, 1]⟩
abbrev S2048x2048 : Shape := ⟨2, ![2048, 2048]⟩
abbrev S8x8x64x2048 : Shape := ⟨4, ![8, 8, 64, 2048]⟩
abbrev S16384x512 : Shape := ⟨2, ![16384, 512]⟩

abbrev nBuf : Space → Nat
  | .hbm => 45
  | .vmem => 0
  | .smem => 0
  | _ => 0

abbrev bufTy : (tb : Table) → Fin (tcTables nBuf tb) → BufTy
  | .hbm, ⟨0, _⟩ => ⟨S8x2048x8x64, .f32⟩
  | .hbm, ⟨1, _⟩ => ⟨S8x2048x8x64, .f32⟩
  | .hbm, ⟨2, _⟩ => ⟨S8x2048x8x64, .f32⟩
  | .hbm, ⟨3, _⟩ => ⟨S8x2048x8, .f32⟩
  | .hbm, ⟨4, _⟩ => ⟨S2048, .i32⟩
  | .hbm, ⟨5, _⟩ => ⟨S8x8x2048x2048, .f32⟩
  | .hbm, ⟨6, _⟩ => ⟨S_, .f32⟩
  | .hbm, ⟨7, _⟩ => ⟨S8x8x2048x2048, .f32⟩
  | .hbm, ⟨8, _⟩ => ⟨S8x8x2048x2048, .f32⟩
  | .hbm, ⟨9, _⟩ => ⟨S8x8x2048, .f32⟩
  | .hbm, ⟨10, _⟩ => ⟨S8x8x2048x1, .f32⟩
  | .hbm, ⟨11, _⟩ => ⟨S8x8x2048x2048, .f32⟩
  | .hbm, ⟨12, _⟩ => ⟨S8x8x2048x2048, .f32⟩
  | .hbm, ⟨13, _⟩ => ⟨S8x8x2048, .f32⟩
  | .hbm, ⟨14, _⟩ => ⟨S8x8x1x2048, .f32⟩
  | .hbm, ⟨15, _⟩ => ⟨S8x8x2048x2048, .f32⟩
  | .hbm, ⟨16, _⟩ => ⟨S8x8x2048x2048, .f32⟩
  | .hbm, ⟨17, _⟩ => ⟨S1x2048, .i32⟩
  | .hbm, ⟨18, _⟩ => ⟨S2048x1, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S8x8x2048x2048, .i1⟩
  | .hbm, ⟨25, _⟩ => ⟨S8x8x2048x2048, .f32⟩
  | .hbm, ⟨26, _⟩ => ⟨S8x8x2048x2048, .f32⟩
  | .hbm, ⟨27, _⟩ => ⟨S_, .f32⟩
  | .hbm, ⟨28, _⟩ => ⟨S8x8x2048, .f32⟩
  | .hbm, ⟨29, _⟩ => ⟨S_, .f32⟩
  | .hbm, ⟨30, _⟩ => ⟨S8x8x2048, .f32⟩
  | .hbm, ⟨31, _⟩ => ⟨S8x8x2048, .f32⟩
  | .hbm, ⟨32, _⟩ => ⟨S8x8x2048x1, .f32⟩
  | .hbm, ⟨33, _⟩ => ⟨S8x8x2048x2048, .f32⟩
  | .hbm, ⟨34, _⟩ => ⟨S8x8x2048x2048, .f32⟩
  | .hbm, ⟨35, _⟩ => ⟨S8x8x2048x2048, .f32⟩
  | .hbm, ⟨36, _⟩ => ⟨S_, .f32⟩
  | .hbm, ⟨37, _⟩ => ⟨S8x8x2048, .f32⟩
  | .hbm, ⟨38, _⟩ => ⟨S8x8x2048x1, .f32⟩
  | .hbm, ⟨39, _⟩ => ⟨S8x8x2048x2048, .f32⟩
  | .hbm, ⟨40, _⟩ => ⟨S8x8x2048x2048, .f32⟩
  | .hbm, ⟨41, _⟩ => ⟨S8x8x64x2048, .f32⟩
  | .hbm, ⟨42, _⟩ => ⟨S8x2048x8x64, .f32⟩
  | .hbm, ⟨43, _⟩ => ⟨S16384x512, .f32⟩
  | .hbm, ⟨44, _⟩ => ⟨S16384x512, .bf16⟩
  | _, _ => ⟨S8x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel2.lean ====
abbrev S8x2048x8x64 : Shape := ⟨4, ![8, 2048, 8, 64]⟩
abbrev S8x2048x8x32 : Shape := ⟨4, ![8, 2048, 8, 32]⟩
abbrev S8x2048x256 : Shape := ⟨3, ![8, 2048, 256]⟩
abbrev S8x2048x32 : Shape := ⟨3, ![8, 2048, 32]⟩
abbrev S256x8x64 : Shape := ⟨3, ![256, 8, 64]⟩
abbrev S_ : Shape := ⟨0, ![]⟩
abbrev S8x2048x8x128 : Shape := ⟨4, ![8, 2048, 8, 128]⟩
abbrev S16384x1024 : Shape := ⟨2, ![16384, 1024]⟩
abbrev S256x8x128 : Shape := ⟨3, ![256, 8, 128]⟩
abbrev S256x1024 : Shape := ⟨2, ![256, 1024]⟩
abbrev S16384x256 : Shape := ⟨2, ![16384, 256]⟩
abbrev S16384x64 : Shape := ⟨2, ![16384, 64]⟩
abbrev S16384x32 : Shape := ⟨2, ![16384, 32]⟩
abbrev S16384x128 : Shape := ⟨2, ![16384, 128]⟩
abbrev S256x512 : Shape := ⟨2, ![256, 512]⟩
abbrev S16384x512 : Shape := ⟨2, ![16384, 512]⟩
abbrev S512x256 : Shape := ⟨2, ![512, 256]⟩
abbrev S2048x256 : Shape := ⟨2, ![2048, 256]⟩
abbrev S2048x128 : Shape := ⟨2, ![2048, 128]⟩
abbrev S512x128 : Shape := ⟨2, ![512, 128]⟩
abbrev S1x128 : Shape := ⟨2, ![1, 128]⟩
abbrev S512x512 : Shape := ⟨2, ![512, 512]⟩
abbrev S512x1 : Shape := ⟨2, ![512, 1]⟩
abbrev S512 : Shape := ⟨1, ![512]⟩

abbrev nBuf : Space → Nat
  | .hbm => 39
  | .vmem => 8
  | .smem => 0
  | _ => 0

abbrev bufTy : (tb : Table) → Fin (tcTables nBuf tb) → BufTy
  | .hbm, ⟨0, _⟩ => ⟨S8x2048x8x64, .f32⟩
  | .hbm, ⟨1, _⟩ => ⟨S8x2048x8x32, .f32⟩
  | .hbm, ⟨2, _⟩ => ⟨S8x2048x256, .f32⟩
  | .hbm, ⟨3, _⟩ => ⟨S8x2048x32, .f32⟩
  | .hbm, ⟨4, _⟩ => ⟨S256x8x64, .f32⟩
  | .hbm, ⟨5, _⟩ => ⟨S256x8x64, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8x2048x8x32, .f32⟩
  | .hbm, ⟨12, _⟩ => ⟨S8x2048x8x128, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .bf16⟩
  | .hbm, ⟨17, _⟩ => ⟨S_, .f32⟩
  | .hbm, ⟨18, _⟩ => ⟨S256x8x64, .f32⟩
  | .hbm, ⟨19, _⟩ => ⟨S256x8x128, .f32⟩
  | .hbm, ⟨20, _⟩ => ⟨S256x1024, .f32⟩
  | .hbm, ⟨21, _⟩ => ⟨S256x1024, .bf16⟩
  | .hbm, ⟨22, _⟩ => ⟨S16384x256, .f32⟩
  | .hbm, ⟨23, _⟩ => ⟨S16384x256, .bf16⟩
  | .hbm, ⟨24, _⟩ => ⟨S_, .f32⟩
  | .hbm, ⟨25, _⟩ => ⟨S16384x64, .f32⟩
  | .hbm, ⟨26, _⟩ => ⟨S16384x32, .f32⟩
  | .hbm, ⟨27, _⟩ => ⟨S_, .f32⟩
  | .hbm, ⟨28, _⟩ => ⟨S16384x32, .f32⟩
  | .hbm, ⟨29, _⟩ => ⟨S16384x128, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .bf16⟩
  | .hbm, ⟨34, _⟩ => ⟨S256x512, .f32⟩
  | .hbm, ⟨35, _⟩ => ⟨S256x512, .bf16⟩
  | .hbm, ⟨36, _⟩ => ⟨S16384x512, .f32⟩
  | .hbm, ⟨37, _⟩ => ⟨S16384x512, .bf16⟩
  | .hbm, ⟨38, _⟩ => ⟨S16384x512, .bf16⟩
  | .local _ .vmem, ⟨0, _⟩ => ⟨S512x256, .bf16⟩
  | .local _ .vmem, ⟨1, _⟩ => ⟨S512x256, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S512x128, .bf16⟩
  | .local _ .vmem, ⟨7, _⟩ => ⟨S512x128, .bf16⟩
  | _, _ => ⟨S8x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond1 (i : grid0.Coords) : BitVec 1 :=
  let arg2 : BitVec 32 := BitVec.ofNat 32 (i 2).val
  let c0_i32 : BitVec 32 := 0#32
  let v10 : BitVec 1 := Scalar.cmpi .eq arg2 c0_i32
  let v11 : BitVec 32 := Scalar.extui v10
  let c0_i32_4 : BitVec 32 := 0#32
  let v12 : BitVec 1 := Scalar.cmpi .ne v11 c0_i32_4
  v12

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_5 : BitVec 32 := 0#32
  let v15 : BitVec 1 := Scalar.cmpi .ne v14 c0_i32_5
  v15

def k0_cond3 (i : grid0.Coords) : BitVec 1 :=
  let arg2 : BitVec 32 := BitVec.ofNat 32 (i 2).val
  let c2_i32 : BitVec 32 := 2#32
  let v16 : BitVec 1 := Scalar.cmpi .eq arg2 c2_i32
  let v17 : BitVec 32 := Scalar.extui v16
  let c0_i32_6 : BitVec 32 := 0#32
  let v18 : BitVec 1 := Scalar.cmpi .ne v17 c0_i32_6
  v18

def k0_cond4 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_7 : BitVec 32 := 0#32
  let v21 : BitVec 1 := Scalar.cmpi .ne v20 c0_i32_7
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Kernel2Ideal.lean ====
variable {F : FTy → Type} [FloatOps F] [Named F]
def κ : String → Option EReal := fun
  | "mask" => some ⊥
  | _ => none
-- ==== Reference2Ideal.lean ====
abbrev S8x2048x8x64 : Shape := ⟨4, ![8, 2048, 8, 64]⟩
abbrev S8x2048x8x32 : Shape := ⟨4, ![8, 2048, 8, 32]⟩
abbrev S8x2048x256 : Shape := ⟨3, ![8, 2048, 256]⟩
abbrev S8x2048x32 : Shape := ⟨3, ![8, 2048, 32]⟩
abbrev S256x8x64 : Shape := ⟨3, ![256, 8, 64]⟩
abbrev S2048 : Shape := ⟨1, ![2048]⟩
abbrev S8x256x8x2048 : Shape := ⟨4, ![8, 256, 8, 2048]⟩
abbrev S8x2048x8x256 : Shape := ⟨4, ![8, 2048, 8, 256]⟩
abbrev S8x2048x2048x8 : Shape := ⟨4, ![8, 2048, 2048, 8]⟩
abbrev S8x8x2048x2048 : Shape := ⟨4, ![8, 8, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S8x8x2048 : Shape := ⟨3, ![8, 8, 2048]⟩
abbrev S8x8x2048x1 : Shape := ⟨4, ![8, 8, 2048, 1]⟩
abbrev S8x64x8x2048 : Shape := ⟨4, ![8, 64, 8, 2048]⟩
abbrev S16384x512 : Shape := ⟨2, ![16384, 512]⟩

abbrev nBuf : Space → Nat
  | .hbm => 47
  | .vmem => 0
  | .smem => 0
  | _ => 0

abbrev bufTy : (tb : Table) → Fin (tcTables nBuf tb) → BufTy
  | .hbm, ⟨0, _⟩ => ⟨S8x2048x8x64, .f32⟩
  | .hbm, ⟨1, _⟩ => ⟨S8x2048x8x32, .f32⟩
  | .hbm, ⟨2, _⟩ => ⟨S8x2048x256, .f32⟩
  | .hbm, ⟨3, _⟩ => ⟨S8x2048x32, .f32⟩
  | .hbm, ⟨4, _⟩ => ⟨S256x8x64, .f32⟩
  | .hbm, ⟨5, _⟩ => ⟨S256x8x64, .f32⟩
  | .hbm, ⟨6, _⟩ => ⟨S2048, .i32⟩
  | .hbm, ⟨7, _⟩ => ⟨S8x256x8x2048, .f32⟩
  | .hbm, ⟨8, _⟩ => ⟨S8x2048x8x256, .f32⟩
  | .hbm, ⟨9, _⟩ => ⟨S8x2048x2048x8, .f32⟩
  | .hbm, ⟨10, _⟩ => ⟨S8x8x2048x2048, .f32⟩
  | .hbm, ⟨11, _⟩ => ⟨S8x2048x2048x8, .f32⟩
  | .hbm, ⟨12, _⟩ => ⟨S8x8x2048x2048, .f32⟩
  | .hbm, ⟨13, _⟩ => ⟨S8x8x2048x2048, .f32⟩
  | .hbm, ⟨14, _⟩ => ⟨S_, .f32⟩
  | .hbm, ⟨15, _⟩ => ⟨S8x8x2048x2048, .f32⟩
  | .hbm, ⟨16, _⟩ => ⟨S8x8x2048x2048, .f32⟩
  | .hbm, ⟨17, _⟩ => ⟨S1x2048, .i32⟩
  | .hbm, ⟨18, _⟩ => ⟨S2048x1, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S8x8x2048x2048, .i1⟩
  | .hbm, ⟨25, _⟩ => ⟨S8x8x2048x2048, .f32⟩
  | .hbm, ⟨26, _⟩ => ⟨S8x8x2048x2048, .f32⟩
  | .hbm, ⟨27, _⟩ => ⟨S_, .f32⟩
  | .hbm, ⟨28, _⟩ => ⟨S8x8x2048, .f32⟩
  | .hbm, ⟨29, _⟩ => ⟨S_, .f32⟩
  | .hbm, ⟨30, _⟩ => ⟨S8x8x2048, .f32⟩
  | .hbm, ⟨31, _⟩ => ⟨S8x8x2048, .f32⟩
  | .hbm, ⟨32, _⟩ => ⟨S8x8x2048x1, .f32⟩
  | .hbm, ⟨33, _⟩ => ⟨S8x8x2048x2048, .f32⟩
  | .hbm, ⟨34, _⟩ => ⟨S8x8x2048x2048, .f32⟩
  | .hbm, ⟨35, _⟩ => ⟨S8x8x2048x2048, .f32⟩
  | .hbm, ⟨36, _⟩ => ⟨S_, .f32⟩
  | .hbm, ⟨37, _⟩ => ⟨S8x8x2048, .f32⟩
  | .hbm, ⟨38, _⟩ => ⟨S8x8x2048x1, .f32⟩
  | .hbm, ⟨39, _⟩ => ⟨S8x8x2048x2048, .f32⟩
  | .hbm, ⟨40, _⟩ => ⟨S8x8x2048x2048, .f32⟩
  | .hbm, ⟨41, _⟩ => ⟨S8x256x8x2048, .f32⟩
  | .hbm, ⟨42, _⟩ => ⟨S8x2048x8x256, .f32⟩
  | .hbm, ⟨43, _⟩ => ⟨S8x64x8x2048, .f32⟩
  | .hbm, ⟨44, _⟩ => ⟨S8x2048x8x64, .f32⟩
  | .hbm, ⟨45, _⟩ => ⟨S16384x512, .f32⟩
  | .hbm, ⟨46, _⟩ => ⟨S16384x512, .bf16⟩
  | _, _ => ⟨S8x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x6144 : Shape := ⟨2, ![8, 6144]⟩
abbrev S8x2048x512 : Shape := ⟨3, ![8, 2048, 512]⟩
abbrev S1024x3072 : Shape := ⟨2, ![1024, 3072]⟩
abbrev S512x1024 : Shape := ⟨2, ![512, 1024]⟩
abbrev S1024x1024 : Shape := ⟨2, ![1024, 1024]⟩
abbrev S1024 : Shape := ⟨1, ![1024]⟩
abbrev S1x1024 : Shape := ⟨2, ![1, 1024]⟩
abbrev S8x1x6144 : Shape := ⟨3, ![8, 1, 6144]⟩
abbrev S16384x1024 : Shape := ⟨2, ![16384, 1024]⟩
abbrev S16384x512 : Shape := ⟨2, ![16384, 512]⟩
abbrev S1x1x1024 : Shape := ⟨3, ![1, 1, 1024]⟩
abbrev S512x512 : Shape := ⟨2, ![512, 512]⟩
abbrev S512 : Shape := ⟨1, ![512]⟩
abbrev S512x1 : Shape := ⟨2, ![512, 1]⟩

abbrev nBuf : Space → Nat
  | .hbm => 28
  | .vmem => 23
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S8x2048x512, .f32⟩
  | .hbm, ⟨3, _⟩ => ⟨S8x2048x512, .f32⟩
  | .hbm, ⟨4, _⟩ => ⟨S8x2048x512, .f32⟩
  | .hbm, ⟨5, _⟩ => ⟨S1024x3072, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S1024x3072, .bf16⟩
  | .hbm, ⟨13, _⟩ => ⟨S512x1024, .bf16⟩
  | .hbm, ⟨14, _⟩ => ⟨S512x1024, .bf16⟩
  | .hbm, ⟨15, _⟩ => ⟨S512x1024, .bf16⟩
  | .hbm, ⟨16, _⟩ => ⟨S1024x1024, .bf16⟩
  | .hbm, ⟨17, _⟩ => ⟨S1x1024, .f32⟩
  | .hbm, ⟨18, _⟩ => ⟨S1x1024, .f32⟩
  | .hbm, ⟨19, _⟩ => ⟨S8x1x6144, .f32⟩
  | .hbm, ⟨20, _⟩ => ⟨S16384x1024, .f32⟩
  | .hbm, ⟨21, _⟩ => ⟨S16384x512, .f32⟩
  | .hbm, ⟨22, _⟩ => ⟨S16384x512, .bf16⟩
  | .hbm, ⟨23, _⟩ => ⟨S16384x512, .f32⟩
  | .hbm, ⟨24, _⟩ => ⟨S16384x512, .bf16⟩
  | .hbm, ⟨25, _⟩ => ⟨S16384x512, .f32⟩
  | .hbm, ⟨26, _⟩ => ⟨S16384x512, .bf16⟩
  | .hbm, ⟨27, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S1024x3072, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S1024x1024, .bf16⟩
  | .local _ .vmem, ⟨19, _⟩ => ⟨S1x1024, .f32⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  ![v16.toNat, c0_i32_4.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S8x2048x1024 : Shape := ⟨3, ![8, 2048, 1024]⟩
abbrev S8x6144 : Shape := ⟨2, ![8, 6144]⟩
abbrev S8x2048x512 : Shape := ⟨3, ![8, 2048, 512]⟩
abbrev S1024x3072 : Shape := ⟨2, ![1024, 3072]⟩
abbrev S512x1024 : Shape := ⟨2, ![512, 1024]⟩
abbrev S1024x1024 : Shape := ⟨2, ![1024, 1024]⟩
abbrev S1024 : Shape := ⟨1, ![1024]⟩
abbrev S8x1x6144 : Shape := ⟨3, ![8, 1, 6144]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S8x2048x3072 : Shape := ⟨3, ![8, 2048, 3072]⟩
abbrev S8x2048x3x1024 : Shape := ⟨4, ![8, 2048, 3, 1024]⟩
abbrev S8x2048x1x1024 : Shape := ⟨4, ![8, 2048, 1, 1024]⟩
abbrev S1x1x1024 : Shape := ⟨3, ![1, 1, 1024]⟩
abbrev S16384x1024 : Shape := ⟨2, ![16384, 1024]⟩

abbrev nBuf : Space → Nat
  | .hbm => 110
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S8x2048x512, .f32⟩
  | .hbm, ⟨3, _⟩ => ⟨S8x2048x512, .f32⟩
  | .hbm, ⟨4, _⟩ => ⟨S8x2048x512, .f32⟩
  | .hbm, ⟨5, _⟩ => ⟨S1024x3072, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1024, .f32⟩
  | .hbm, ⟨11, _⟩ => ⟨S1024, .f32⟩
  | .hbm, ⟨12, _⟩ => ⟨S8x1x6144, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S_, .f32⟩
  | .hbm, ⟨20, _⟩ => ⟨S8x2048, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S_, .f32⟩
  | .hbm, ⟨29, _⟩ => ⟨S8x2048, .f32⟩
  | .hbm, ⟨30, _⟩ => ⟨S8x2048x1, .f32⟩
  | .hbm, ⟨31, _⟩ => ⟨S_, .f32⟩
  | .hbm, ⟨32, _⟩ => ⟨S8x2048x1, .f32⟩
  | .hbm, ⟨33, _⟩ => ⟨S8x2048x1, .f32⟩
  | .hbm, ⟨34, _⟩ => ⟨S8x2048x1024, .f32⟩
  | .hbm, ⟨35, _⟩ => ⟨S8x2048x1024, .f32⟩
  | .hbm, ⟨36, _⟩ => ⟨S_, .f32⟩
  | .hbm, ⟨37, _⟩ => ⟨S8x2048x1, .f32⟩
  | .hbm, ⟨38, _⟩ => ⟨S8x2048x1, .f32⟩
  | .hbm, ⟨39, _⟩ => ⟨S8x2048x1, .f32⟩
  | .hbm, ⟨40, _⟩ => ⟨S8x2048x1024, .f32⟩
  | .hbm, ⟨41, _⟩ => ⟨S8x2048x1024, .f32⟩
  | .hbm, ⟨42, _⟩ => ⟨S_, .f32⟩
  | .hbm, ⟨43, _⟩ => ⟨S8x1x1024, .f32⟩
  | .hbm, ⟨44, _⟩ => ⟨S8x1x1024, .f32⟩
  | .hbm, ⟨45, _⟩ => ⟨S8x2048x1024, .f32⟩
  | .hbm, ⟨46, _⟩ => ⟨S8x2048x1024, .f32⟩
  | .hbm, ⟨47, _⟩ => ⟨S8x2048x1024, .f32⟩
  | .hbm, ⟨48, _⟩ => ⟨S8x2048x1024, .f32⟩
  | .hbm, ⟨49, _⟩ => ⟨S8x2048x3072, .f32⟩
  | .hbm, ⟨50, _⟩ => ⟨S8x2048x1024, .f32⟩
  | .hbm, ⟨51, _⟩ => ⟨S8x2048x1024, .f32⟩
  | .hbm, ⟨52, _⟩ => ⟨S8x2048x1024, .f32⟩
  | .hbm, ⟨53, _⟩ => ⟨S8x2048x3x1024, .f32⟩
  | .hbm, ⟨54, _⟩ => ⟨S8x2048x3x1024, .f32⟩
  | .hbm, ⟨55, _⟩ => ⟨S8x2048x3x1024, .f32⟩
  | .hbm, ⟨56, _⟩ => ⟨S_, .f32⟩
  | .hbm, ⟨57, _⟩ => ⟨S8x2048x3x1024, .f32⟩
  | .hbm, ⟨58, _⟩ => ⟨S8x2048x3x1024, .f32⟩
  | .hbm, ⟨59, _⟩ => ⟨S_, .f32⟩
  | .hbm, ⟨60, _⟩ => ⟨S8x2048x3x1024, .f32⟩
  | .hbm, ⟨61, _⟩ => ⟨S8x2048x3x1024, .f32⟩
  | .hbm, ⟨62, _⟩ => ⟨S8x2048x1x1024, .f32⟩
  | .hbm, ⟨63, _⟩ => ⟨S8x2048x1024, .f32⟩
  | .hbm, ⟨64, _⟩ => ⟨S8x2048x1024, .f32⟩
  | .hbm, ⟨65, _⟩ => ⟨S8x2048x1x1024, .f32⟩
  | .hbm, ⟨66, _⟩ => ⟨S8x2048x1024, .f32⟩
  | .hbm, ⟨67, _⟩ => ⟨S8x2048x1024, .f32⟩
  | .hbm, ⟨68, _⟩ => ⟨S8x2048x1024, .f32⟩
  | .hbm, ⟨69, _⟩ => ⟨S8x2048x1x1024, .f32⟩
  | .hbm, ⟨70, _⟩ => ⟨S8x2048x1024, .f32⟩
  | .hbm, ⟨71, _⟩ => ⟨S8x2048x1024, .f32⟩
  | .hbm, ⟨72, _⟩ => ⟨S8x2048x1024, .f32⟩
  | .hbm, ⟨73, _⟩ => ⟨S8x2048x1024, .f32⟩
  | .hbm, ⟨74, _⟩ => ⟨S_, .f32⟩
  | .hbm, ⟨75, _⟩ => ⟨S8x2048x1024, .f32⟩
  | .hbm, ⟨76, _⟩ => ⟨S8x2048x1024, .f32⟩
  | .hbm, ⟨77, _⟩ => ⟨S8x2048x1024, .f32⟩
  | .hbm, ⟨78, _⟩ => ⟨S8x2048x1024, .f32⟩
  | .hbm, ⟨79, _⟩ => ⟨S8x2048x1024, .f32⟩
  | .hbm, ⟨80, _⟩ => ⟨S_, .f32⟩
  | .hbm, ⟨81, _⟩ => ⟨S8x2048, .f32⟩
  | .hbm, ⟨82, _⟩ => ⟨S8x2048x1, .f32⟩
  | .hbm, ⟨83, _⟩ => ⟨S_, .f32⟩
  | .hbm, ⟨84, _⟩ => ⟨S8x2048x1, .f32⟩
  | .hbm, ⟨85, _⟩ => ⟨S8x2048x1, .f32⟩
  | .hbm, ⟨86, _⟩ => ⟨S8x2048x1024, .f32⟩
  | .hbm, ⟨87, _⟩ => ⟨S8x2048x1024, .f32⟩
  | .hbm, ⟨88, _⟩ => ⟨S8x2048x1024, .f32⟩
  | .hbm, ⟨89, _⟩ => ⟨S_, .f32⟩
  | .hbm, ⟨90, _⟩ => ⟨S8x2048, .f32⟩
  | .hbm, ⟨91, _⟩ => ⟨S8x2048x1, .f32⟩
  | .hbm, ⟨92, _⟩ => ⟨S_, .f32⟩
  | .hbm, ⟨93, _⟩ => ⟨S8x2048x1, .f32⟩
  | .hbm, ⟨94, _⟩ => ⟨S8x2048x1, .f32⟩
  | .hbm, ⟨95, _⟩ => ⟨S8x2048x1024, .f32⟩
  | .hbm, ⟨96, _⟩ => ⟨S8x2048x1024, .f32⟩
  | .hbm, ⟨97, _⟩ => ⟨S_, .f32⟩
  | .hbm, ⟨98, _⟩ => ⟨S8x2048x1, .f32⟩
  | .hbm, ⟨99, _⟩ => ⟨S8x2048x1, .f32⟩
  | .hbm, ⟨100, _⟩ => ⟨S8x2048x1, .f32⟩
  | .hbm, ⟨101, _⟩ => ⟨S8x2048x1024, .f32⟩
  | .hbm, ⟨102, _⟩ => ⟨S8x2048x1024, .f32⟩
  | .hbm, ⟨103, _⟩ => ⟨S1x1x1024, .f32⟩
  | .hbm, ⟨104, _⟩ => ⟨S8x2048x1024, .f32⟩
  | .hbm, ⟨105, _⟩ => ⟨S8x2048x1024, .f32⟩
  | .hbm, ⟨106, _⟩ => ⟨S1x1x1024, .f32⟩
  | .hbm, ⟨107, _⟩ => ⟨S8x2048x1024, .f32⟩
  | .hbm, ⟨108, _⟩ => ⟨S8x2048x1024, .f32⟩
  | .hbm, ⟨109, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_5 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_7 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_8 : Ref sig .tc := ⟨.hbm, 80, rfl⟩
abbrev main_v59 : Ref sig .tc := ⟨.hbm, 81, rfl⟩
abbrev main_v60 : Ref sig .tc := ⟨.hbm, 82, rfl⟩
abbrev main_cst_9 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_10 : Ref sig .tc := ⟨.hbm, 89, rfl⟩
abbrev main_v66 : Ref sig .tc := ⟨.hbm, 90, rfl⟩
abbrev main_v67 : Ref sig .tc := ⟨.hbm, 91, rfl⟩
abbrev main_cst_11 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_12 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩

abbrev nD : Nat := 1
abbrev τ : Topo := Topo.v7x

variable {F : FTy → Type} [FloatOps F]
-- ==== Kernel4.lean ====
abbrev S8x2048x1024 : Shape := ⟨3, ![8, 2048, 1024]⟩
abbrev S8x6144 : Shape := ⟨2, ![8, 6144]⟩
abbrev S1024x4096 : Shape := ⟨2, ![1024, 4096]⟩
abbrev S4096x1024 : Shape := ⟨2, ![4096, 1024]⟩
abbrev S1024 : Shape := ⟨1, ![1024]⟩
abbrev S1x1024 : Shape := ⟨2, ![1, 1024]⟩
abbrev S8x1x6144 : Shape := ⟨3, ![8, 1, 6144]⟩
abbrev S16384x1024 : Shape := ⟨2, ![16384, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 13
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S1024x4096, .bf16⟩
  | .hbm, ⟨7, _⟩ => ⟨S4096x1024, .bf16⟩
  | .hbm, ⟨8, _⟩ => ⟨S1x1024, .f32⟩
  | .hbm, ⟨9, _⟩ => ⟨S1x1024, .f32⟩
  | .hbm, ⟨10, _⟩ => ⟨S8x1x6144, .f32⟩
  | .hbm, ⟨11, _⟩ => ⟨S16384x1024, .f32⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x4096, .bf16⟩
  | .local _ .vmem, ⟨9, _⟩ => ⟨S4096x1024, .bf16⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c3_i32 : BitVec 32 := 3#32
  let c0_i32_5 : BitVec 32 := 0#32
  ![v16.toNat, c0_i32_4.toNat, c3_i32.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c4_i32_5 : BitVec 32 := 4#32
  let c0_i32_6 : BitVec 32 := 0#32
  ![v16.toNat, c0_i32_4.toNat, c4_i32_5.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c5_i32 : BitVec 32 := 5#32
  let c0_i32_5 : BitVec 32 := 0#32
  ![v16.toNat, c0_i32_4.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S8x2048x1024 : Shape := ⟨3, ![8, 2048, 1024]⟩
abbrev S8x6144 : Shape := ⟨2, ![8, 6144]⟩
abbrev S1024x4096 : Shape := ⟨2, ![1024, 4096]⟩
abbrev S4096x1024 : Shape := ⟨2, ![4096, 1024]⟩
abbrev S1024 : Shape := ⟨1, ![1024]⟩
abbrev S8x1x6144 : Shape := ⟨3, ![8, 1, 6144]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S8x2048x4096 : Shape := ⟨3, ![8, 2048, 4096]⟩
abbrev S1x1x1024 : Shape := ⟨3, ![1, 1, 1024]⟩
abbrev S16384x1024 : Shape := ⟨2, ![16384, 1024]⟩

abbrev nBuf : Space → Nat
  | .hbm => 85
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x6144, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S8x1x6144, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S8x2048x1024, .f32⟩
  | .hbm, ⟨20, _⟩ => ⟨S8x2048x1024, .f32⟩
  | .hbm, ⟨21, _⟩ => ⟨S8x2048x1024, .f32⟩
  | .hbm, ⟨22, _⟩ => ⟨S_, .f32⟩
  | .hbm, ⟨23, _⟩ => ⟨S8x2048, .f32⟩
  | .hbm, ⟨24, _⟩ => ⟨S8x2048x1, .f32⟩
  | .hbm, ⟨25, _⟩ => ⟨S_, .f32⟩
  | .hbm, ⟨26, _⟩ => ⟨S8x2048x1, .f32⟩
  | .hbm, ⟨27, _⟩ => ⟨S8x2048x1, .f32⟩
  | .hbm, ⟨28, _⟩ => ⟨S8x2048x1024, .f32⟩
  | .hbm, ⟨29, _⟩ => ⟨S8x2048x1024, .f32⟩
  | .hbm, ⟨30, _⟩ => ⟨S_, .f32⟩
  | .hbm, ⟨31, _⟩ => ⟨S8x2048x1, .f32⟩
  | .hbm, ⟨32, _⟩ => ⟨S8x2048x1, .f32⟩
  | .hbm, ⟨33, _⟩ => ⟨S8x2048x1, .f32⟩
  | .hbm, ⟨34, _⟩ => ⟨S8x2048x1024, .f32⟩
  | .hbm, ⟨35, _⟩ => ⟨S8x2048x1024, .f32⟩
  | .hbm, ⟨36, _⟩ => ⟨S_, .f32⟩
  | .hbm, ⟨37, _⟩ => ⟨S8x1x1024, .f32⟩
  | .hbm, ⟨38, _⟩ => ⟨S8x1x1024, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S8x2048x1024, .f32⟩
  | .hbm, ⟨43, _⟩ => ⟨S8x2048x4096, .f32⟩
  | .hbm, ⟨44, _⟩ => ⟨S_, .f32⟩
  | .hbm, ⟨45, _⟩ => ⟨S8x2048x4096, .f32⟩
  | .hbm, ⟨46, _⟩ => ⟨S8x2048x4096, .f32⟩
  | .hbm, ⟨47, _⟩ => ⟨S8x2048x4096, .f32⟩
  | .hbm, ⟨48, _⟩ => ⟨S8x2048x1024, .f32⟩
  | .hbm, ⟨49, _⟩ => ⟨S_, .f32⟩
  | .hbm, ⟨50, _⟩ => ⟨S8x2048x1024, .f32⟩
  | .hbm, ⟨51, _⟩ => ⟨S8x2048x1024, .f32⟩
  | .hbm, ⟨52, _⟩ => ⟨S8x2048x1024, .f32⟩
  | .hbm, ⟨53, _⟩ => ⟨S8x2048x1024, .f32⟩
  | .hbm, ⟨54, _⟩ => ⟨S8x2048x1024, .f32⟩
  | .hbm, ⟨55, _⟩ => ⟨S_, .f32⟩
  | .hbm, ⟨56, _⟩ => ⟨S8x2048, .f32⟩
  | .hbm, ⟨57, _⟩ => ⟨S8x2048x1, .f32⟩
  | .hbm, ⟨58, _⟩ => ⟨S_, .f32⟩
  | .hbm, ⟨59, _⟩ => ⟨S8x2048x1, .f32⟩
  | .hbm, ⟨60, _⟩ => ⟨S8x2048x1, .f32⟩
  | .hbm, ⟨61, _⟩ => ⟨S8x2048x1024, .f32⟩
  | .hbm, ⟨62, _⟩ => ⟨S8x2048x1024, .f32⟩
  | .hbm, ⟨63, _⟩ => ⟨S8x2048x1024, .f32⟩
  | .hbm, ⟨64, _⟩ => ⟨S_, .f32⟩
  | .hbm, ⟨65, _⟩ => ⟨S8x2048, .f32⟩
  | .hbm, ⟨66, _⟩ => ⟨S8x2048x1, .f32⟩
  | .hbm, ⟨67, _⟩ => ⟨S_, .f32⟩
  | .hbm, ⟨68, _⟩ => ⟨S8x2048x1, .f32⟩
  | .hbm, ⟨69, _⟩ => ⟨S8x2048x1, .f32⟩
  | .hbm, ⟨70, _⟩ => ⟨S8x2048x1024, .f32⟩
  | .hbm, ⟨71, _⟩ => ⟨S8x2048x1024, .f32⟩
  | .hbm, ⟨72, _⟩ => ⟨S_, .f32⟩
  | .hbm, ⟨73, _⟩ => ⟨S8x2048x1, .f32⟩
  | .hbm, ⟨74, _⟩ => ⟨S8x2048x1, .f32⟩
  | .hbm, ⟨75, _⟩ => ⟨S8x2048x1, .f32⟩
  | .hbm, ⟨76, _⟩ => ⟨S8x2048x1024, .f32⟩
  | .hbm, ⟨77, _⟩ => ⟨S8x2048x1024, .f32⟩
  | .hbm, ⟨78, _⟩ => ⟨S1x1x1024, .f32⟩
  | .hbm, ⟨79, _⟩ => ⟨S8x2048x1024, .f32⟩
  | .hbm, ⟨80, _⟩ => ⟨S8x2048x1024, .f32⟩
  | .hbm, ⟨81, _⟩ => ⟨S1x1x1024, .f32⟩
  | .hbm, ⟨82, _⟩ => ⟨S8x2048x1024, .f32⟩
  | .hbm, ⟨83, _⟩ => ⟨S8x2048x1024, .f32⟩
  | .hbm, ⟨84, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_call0_cst : Ref sig .tc := ⟨.hbm, 44, rfl⟩
abbrev main_call0_v0 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩

abbrev nD : Nat := 1
abbrev τ : Topo := Topo.v7x

variable {F : FTy → Type} [FloatOps F]
-- ==== Kernel5.lean ====
abbrev S128x4x1024 : Shape := ⟨3, ![128, 4, 1024]⟩
abbrev S128x6144 : Shape := ⟨2, ![128, 6144]⟩
abbrev S1024x4096 : Shape := ⟨2, ![1024, 4096]⟩
abbrev S4096x1024 : Shape := ⟨2, ![4096, 1024]⟩
abbrev S1024 : Shape := ⟨1, ![1024]⟩
abbrev S1x1024 : Shape := ⟨2, ![1, 1024]⟩
abbrev S128x4x6144 : Shape := ⟨3, ![128, 4, 6144]⟩
abbrev S512x6144 : Shape := ⟨2, ![512, 6144]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩

abbrev nBuf : Space → Nat
  | .hbm => 14
  | .vmem => 14
  | .smem => 0
  | _ => 0

abbrev bufTy : (tb : Table) → Fin (tcTables nBuf tb) → BufTy
  | .hbm, ⟨0, _⟩ => ⟨S128x4x1024, .f32⟩
  | .hbm, ⟨1, _⟩ => ⟨S128x6144, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S1024x4096, .bf16⟩
  | .hbm, ⟨7, _⟩ => ⟨S4096x1024, .bf16⟩
  | .hbm, ⟨8, _⟩ => ⟨S1x1024, .f32⟩
  | .hbm, ⟨9, _⟩ => ⟨S1x1024, .f32⟩
  | .hbm, ⟨10, _⟩ => ⟨S128x4x6144, .f32⟩
  | .hbm, ⟨11, _⟩ => ⟨S512x6144, .f32⟩
  | .hbm, ⟨12, _⟩ => ⟨S512x1024, .f32⟩
  | .hbm, ⟨13, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1024x4096, .bf16⟩
  | .local _ .vmem, ⟨9, _⟩ => ⟨S4096x1024, .bf16⟩
  | .local _ .vmem, ⟨10, _⟩ => ⟨S1x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S128x4x1024 : Shape := ⟨3, ![128, 4, 1024]⟩
abbrev S128x6144 : Shape := ⟨2, ![128, 6144]⟩
abbrev S1024x4096 : Shape := ⟨2, ![1024, 4096]⟩
abbrev S4096x1024 : Shape := ⟨2, ![4096, 1024]⟩
abbrev S1024 : Shape := ⟨1, ![1024]⟩
abbrev S128x1x6144 : Shape := ⟨3, ![128, 1, 6144]⟩
abbrev S128x1x1024 : Shape := ⟨3, ![128, 1, 1024]⟩
abbrev S_ : Shape := ⟨0, ![]⟩
abbrev S128x4 : Shape := ⟨2, ![128, 4]⟩
abbrev S128x4x1 : Shape := ⟨3, ![128, 4, 1]⟩
abbrev S128x4x4096 : Shape := ⟨3, ![128, 4, 4096]⟩
abbrev S1x1x1024 : Shape := ⟨3, ![1, 1, 1024]⟩
abbrev S512x1024 : Shape := ⟨2, ![512, 1024]⟩

abbrev nBuf : Space → Nat
  | .hbm => 85
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S128x6144, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1024, .f32⟩
  | .hbm, ⟨6, _⟩ => ⟨S128x1x6144, .f32⟩
  | .hbm, ⟨7, _⟩ => ⟨S128x1x1024, .f32⟩
  | .hbm, ⟨8, _⟩ => ⟨S128x1x1024, .f32⟩
  | .hbm, ⟨9, _⟩ => ⟨S128x1x1024, .f32⟩
  | .hbm, ⟨10, _⟩ => ⟨S128x1x1024, .f32⟩
  | .hbm, ⟨11, _⟩ => ⟨S128x1x1024, .f32⟩
  | .hbm, ⟨12, _⟩ => ⟨S128x1x1024, .f32⟩
  | .hbm, ⟨13, _⟩ => ⟨S_, .f32⟩
  | .hbm, ⟨14, _⟩ => ⟨S128x4, .f32⟩
  | .hbm, ⟨15, _⟩ => ⟨S128x4x1, .f32⟩
  | .hbm, ⟨16, _⟩ => ⟨S_, .f32⟩
  | .hbm, ⟨17, _⟩ => ⟨S128x4x1, .f32⟩
  | .hbm, ⟨18, _⟩ => ⟨S128x4x1, .f32⟩
  | .hbm, ⟨19, _⟩ => ⟨S128x4x1024, .f32⟩
  | .hbm, ⟨20, _⟩ => ⟨S128x4x1024, .f32⟩
  | .hbm, ⟨21, _⟩ => ⟨S128x4x1024, .f32⟩
  | .hbm, ⟨22, _⟩ => ⟨S_, .f32⟩
  | .hbm, ⟨23, _⟩ => ⟨S128x4, .f32⟩
  | .hbm, ⟨24, _⟩ => ⟨S128x4x1, .f32⟩
  | .hbm, ⟨25, _⟩ => ⟨S_, .f32⟩
  | .hbm, ⟨26, _⟩ => ⟨S128x4x1, .f32⟩
  | .hbm, ⟨27, _⟩ => ⟨S128x4x1, .f32⟩
  | .hbm, ⟨28, _⟩ => ⟨S128x4x1024, .f32⟩
  | .hbm, ⟨29, _⟩ => ⟨S128x4x1024, .f32⟩
  | .hbm, ⟨30, _⟩ => ⟨S_, .f32⟩
  | .hbm, ⟨31, _⟩ => ⟨S128x4x1, .f32⟩
  | .hbm, ⟨32, _⟩ => ⟨S128x4x1, .f32⟩
  | .hbm, ⟨33, _⟩ => ⟨S128x4x1, .f32⟩
  | .hbm, ⟨34, _⟩ => ⟨S128x4x1024, .f32⟩
  | .hbm, ⟨35, _⟩ => ⟨S128x4x1024, .f32⟩
  | .hbm, ⟨36, _⟩ => ⟨S_, .f32⟩
  | .hbm, ⟨37, _⟩ => ⟨S128x1x1024, .f32⟩
  | .hbm, ⟨38, _⟩ => ⟨S128x1x1024, .f32⟩
  | .hbm, ⟨39, _⟩ => ⟨S128x4x1024, .f32⟩
  | .hbm, ⟨40, _⟩ => ⟨S128x4x1024, .f32⟩
  | .hbm, ⟨41, _⟩ => ⟨S128x4x1024, .f32⟩
  | .hbm, ⟨42, _⟩ => ⟨S128x4x1024, .f32⟩
  | .hbm, ⟨43, _⟩ => ⟨S128x4x4096, .f32⟩
  | .hbm, ⟨44, _⟩ => ⟨S_, .f32⟩
  | .hbm, ⟨45, _⟩ => ⟨S128x4x4096, .f32⟩
  | .hbm, ⟨46, _⟩ => ⟨S128x4x4096, .f32⟩
  | .hbm, ⟨47, _⟩ => ⟨S128x4x4096, .f32⟩
  | .hbm, ⟨48, _⟩ => ⟨S128x4x1024, .f32⟩
  | .hbm, ⟨49, _⟩ => ⟨S_, .f32⟩
  | .hbm, ⟨50, _⟩ => ⟨S128x4x1024, .f32⟩
  | .hbm, ⟨51, _⟩ => ⟨S128x4x1024, .f32⟩
  | .hbm, ⟨52, _⟩ => ⟨S128x4x1024, .f32⟩
  | .hbm, ⟨53, _⟩ => ⟨S128x4x1024, .f32⟩
  | .hbm, ⟨54, _⟩ => ⟨S128x4x1024, .f32⟩
  | .hbm, ⟨55, _⟩ => ⟨S_, .f32⟩
  | .hbm, ⟨56, _⟩ => ⟨S128x4, .f32⟩
  | .hbm, ⟨57, _⟩ => ⟨S128x4x1, .f32⟩
  | .hbm, ⟨58, _⟩ => ⟨S_, .f32⟩
  | .hbm, ⟨59, _⟩ => ⟨S128x4x1, .f32⟩
  | .hbm, ⟨60, _⟩ => ⟨S128x4x1, .f32⟩
  | .hbm, ⟨61, _⟩ => ⟨S128x4x1024, .f32⟩
  | .hbm, ⟨62, _⟩ => ⟨S128x4x1024, .f32⟩
  | .hbm, ⟨63, _⟩ => ⟨S128x4x1024, .f32⟩
  | .hbm, ⟨64, _⟩ => ⟨S_, .f32⟩
  | .hbm, ⟨65, _⟩ => ⟨S128x4, .f32⟩
  | .hbm, ⟨66, _⟩ => ⟨S128x4x1, .f32⟩
  | .hbm, ⟨67, _⟩ => ⟨S_, .f32⟩
  | .hbm, ⟨68, _⟩ => ⟨S128x4x1, .f32⟩
  | .hbm, ⟨69, _⟩ => ⟨S128x4x1, .f32⟩
  | .hbm, ⟨70, _⟩ => ⟨S128x4x1024, .f32⟩
  | .hbm, ⟨71, _⟩ => ⟨S128x4x1024, .f32⟩
  | .hbm, ⟨72, _⟩ => ⟨S_, .f32⟩
  | .hbm, ⟨73, _⟩ => ⟨S128x4x1, .f32⟩
  | .hbm, ⟨74, _⟩ => ⟨S128x4x1, .f32⟩
  | .hbm, ⟨75, _⟩ => ⟨S128x4x1, .f32⟩
  | .hbm, ⟨76, _⟩ => ⟨S128x4x1024, .f32⟩
  | .hbm, ⟨77, _⟩ => ⟨S128x4x1024, .f32⟩
  | .hbm, ⟨78, _⟩ => ⟨S1x1x1024, .f32⟩
  | .hbm, ⟨79, _⟩ => ⟨S128x4x1024, .f32⟩
  | .hbm, ⟨80, _⟩ => ⟨S128x4x1024, .f32⟩
  | .hbm, ⟨81, _⟩ => ⟨S1x1x1024, .f32⟩
  | .hbm, ⟨82, _⟩ => ⟨S128x4x1024, .f32⟩
  | .hbm, ⟨83, _⟩ => ⟨S128x4x1024, .f32⟩
  | .hbm, ⟨84, _⟩ => ⟨S512x1024, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_call0_cst : Ref sig .tc := ⟨.hbm, 44, rfl⟩
abbrev main_call0_v0 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩

abbrev nD : Nat := 1
abbrev τ : Topo := Topo.v7x

variable {F : FTy → Type} [FloatOps F]
-- ==== Proof.Finite.lean ====
/- The precondition decoded: at every index queries, keys and gates are neither infinity. -/
module

public import proofs.«01_k».proof.Proof.Gen.Pre_finite
public import Idealize.ShloMosaic.Lib.Pointwise
public import Idealize.ShloMosaic.Lib.WordCmp

@[expose] public section

noncomputable section

namespace Cert.Pre_finite.Attn

open Cert.Pre_finite Idealize.ShloMosaic

theorem inf_eq : Ideal.ofBits .f32 0x7F800000#32 = ⊤ := by simp [Ideal.ofBits, Ideal.ieee]

theorem and_one {a b : BitVec 1} (h : IntOp.andi a b = 1#1) : a = 1#1 ∧ b = 1#1 := by
  revert a b; decide

theorem of_bool {p : Prop} [Decidable p] (h : BitVec.ofBool (decide p) = 1#1) : p := by
  by_contra hp; simp [hp] at h

theorem finite_of_abs {x : EReal} (h : (FloatOps.absf (F := Ideal) (φ := .f32) x : EReal) < Ideal.ofBits .f32 0x7F800000#32) :
    x ≠ ⊤ ∧ x ≠ ⊥ := by
  rw [inf_eq] at h
  change max x (-x) < ⊤ at h
  constructor <;> rintro rfl <;> simp at h

theorem finite (x0 x1 x2 : FVec Ideal S8x2048x8x64 .f32) (x3 : FVec Ideal S8x2048x8 .f32)
    (h : Cert.Pre_finite.fn (F := Ideal) x0 x1 x2 x3 = fun _ => 1#1) (b : Fin 8) (t : Fin 2048) (g : Fin 8) (d : Fin 64) :
    (x0 (ix4 b t g d) ≠ ⊤ ∧ x0 (ix4 b t g d) ≠ ⊥) ∧ (x1 (ix4 b t g d) ≠ ⊤ ∧ x1 (ix4 b t g d) ≠ ⊥)
      ∧ (x3 (ix3 b t g) ≠ ⊤ ∧ x3 (ix3 b t g) ≠ ⊥) := by
  have e := congrFun h (ix4 b t g d)
  unfold Cert.Pre_finite.fn at e
  have key : IntOp.andi (IntOp.andi (BitVec.ofBool (decide ((FloatOps.absf (F := Ideal) (φ := .f32) (x0 (ix4 b t g d)) : EReal) < Ideal.ofBits .f32 0x7F800000#32)))
      (BitVec.ofBool (decide ((FloatOps.absf (F := Ideal) (φ := .f32) (x1 (ix4 b t g d)) : EReal) < Ideal.ofBits .f32 0x7F800000#32))))
      (BitVec.ofBool (decide ((FloatOps.absf (F := Ideal) (φ := .f32) (x3 (ix3 b t g)) : EReal) < Ideal.ofBits .f32 0x7F800000#32))) = 1#1 := by
    rw [← e]
    symm
    pointwise
  obtain ⟨h1, h3⟩ := and_one key
  obtain ⟨h0, h1⟩ := and_one h1
  exact ⟨finite_of_abs (of_bool h0), finite_of_abs (of_bool h1), finite_of_abs (of_bool h3)⟩

end Cert.Pre_finite.Attn

end
-- ==== Proof.Words.lean ====
/- Lane and row comparisons of small numbers, as the choices they make. -/
module

public import Idealize.ShloMosaic.Lib.WordCmp

@[expose] public section

noncomputable section

namespace Words

open Idealize.ShloMosaic Idealize.ShloMosaic.WordCmp

theorem sel_ofBool {α : Type} (p : Prop) [Decidable p] (x y : α) :
    Scalar.select (BitVec.ofBool (decide p)) x y = if p then x else y := by
  by_cases h : p <;> simp [Scalar.select, h]

theorem sel_le {α : Type} {a b : ℕ} (ha : a < 2 ^ 31) (hb : b < 2 ^ 31) (x y : α) :
    Scalar.select (IntOp.cmpi .sle (BitVec.ofNat 32 a) (BitVec.ofNat 32 b)) x y = if a ≤ b then x else y := by
  rw [cmpi_sle_ofNat ha hb, sel_ofBool]

theorem sel_lt {α : Type} {a b : ℕ} (ha : a < 2 ^ 31) (hb : b < 2 ^ 31) (x y : α) :
    Scalar.select (IntOp.cmpi .slt (BitVec.ofNat 32 a) (BitVec.ofNat 32 b)) x y = if a < b then x else y := by
  rw [cmpi_slt_ofNat ha hb, sel_ofBool]

theorem sel_ge {α : Type} {a b : ℕ} (ha : a < 2 ^ 31) (hb : b < 2 ^ 31) (x y : α) :
    Scalar.select (IntOp.cmpi .sge (BitVec.ofNat 32 a) (BitVec.ofNat 32 b)) x y = if b ≤ a then x else y := by
  rw [cmpi_sge_ofNat ha hb, sel_ofBool]

theorem addi_zero (a : BitVec 32) : IntOp.addi a 0#32 = a := BitVec.add_zero a

end Words

end
-- ==== Proof.Ref.lean ====
/- The reference read at coordinates, over the reals: the masked score, the row maximum, the softmax weight and the
   weighted sum of the values. -/
module

public import proofs.«01_k».proof.Proof.Gen.ReferenceIdeal.Read
public import proofs.«01_k».proof.Proof.Words
public import Idealize.ShloMosaic.Lib.Pointwise

@[expose] public section

noncomputable section

namespace Cert.ReferenceIdeal.Attn

open Cert.ReferenceIdeal Cert.ReferenceIdeal.Gen Cert.ReferenceIdeal.Facts Cert.ReferenceIdeal.Read Idealize.ShloMosaic Idealize.ShloMosaic.TcCoe

variable (x0 x1 x2 : FVec Ideal S8x2048x8x64 .f32) (x3 : FVec Ideal S8x2048x8 .f32)

theorem v17_at (b h : Fin 8) (t k : Fin 2048) :
    (val_main_v17 (F := Ideal) x0 x1 x3 : FVec Ideal S8x8x2048x2048 .f32) (ix4 b h t k) = if k.val ≤ t.val then
      (∑ x : Fin 64, x0 (ix4 b t h x) * x1 (ix4 b k h x)) * Ideal.ofBits .f32 0x3E000000#32 + x3 (ix3 b t h) - x3 (ix3 b k h)
      else Ideal.ofBits .f32 0xFF800000#32 := by
  unfold val_main_v17 val_main_call0_v1 val_main_v16 val_main_v14 val_main_v15 val_main_v12 val_main_v13 val_main_v0
    val_main_v11 val_main_v7 val_main_v3 val_main_v1 val_main_v2 val_main_cst val_main_v6 val_main_v5 val_main_v4
    val_main_v10 val_main_v9 val_main_v8 val_main_call0_v2 val_main_call0_v0 val_main_cst_0
  pointwise [dot_S8x2048x8x64_S8x2048x8x64_S8x8x2048x2048_3_3_1_1_02_02]
  exact Words.sel_le (by omega) (by omega) _ _

theorem max_at (S : FVec Ideal S8x8x2048x2048 .f32) (c : FVec Ideal S_ .f32) (b h : Fin 8) (t : Fin 2048) :
    Host.reduce FloatOps.maximumf S c reducesTo_S8x8x2048x2048_S8x8x2048_d3 h_S_ (ix3 b h t)
      = Finset.fold max (c (Shape.Idx.first h_S_)) (fun x : Fin 2048 => S (ix4 b h t x)) Finset.univ := by
  pointwise

theorem v20_at (b h : Fin 8) (t : Fin 2048) :
    (val_main_v20 (F := Ideal) x0 x1 x3 : FVec Ideal S8x8x2048 .f32) (ix3 b h t) =
      max (Ideal.ofBits .f32 0xFF800000#32) (Finset.fold max (Ideal.ofBits .f32 0xFF800000#32)
        (fun x : Fin 2048 => (val_main_v17 (F := Ideal) x0 x1 x3 : FVec Ideal S8x8x2048x2048 .f32) (ix4 b h t x)) Finset.univ) := by
  rw [val_main_v20_apply, val_main_v19_apply, val_main_cst_2_apply]
  unfold val_main_v18
  rw [max_at]
  rfl

theorem v28_at (b h : Fin 8) (t k : Fin 2048) :
    (val_main_v28 (F := Ideal) x0 x1 x3 : FVec Ideal S8x8x2048x2048 .f32) (ix4 b h t k) =
      Ideal.div (Ideal.exp ((val_main_v17 (F := Ideal) x0 x1 x3 : FVec Ideal S8x8x2048x2048 .f32) (ix4 b h t k)
          - (val_main_v20 (F := Ideal) x0 x1 x3 : FVec Ideal S8x8x2048 .f32) (ix3 b h t)))
        (∑ x : Fin 2048, Ideal.exp ((val_main_v17 (F := Ideal) x0 x1 x3 : FVec Ideal S8x8x2048x2048 .f32) (ix4 b h t x)
          - (val_main_v20 (F := Ideal) x0 x1 x3 : FVec Ideal S8x8x2048 .f32) (ix3 b h t))) := by
  unfold val_main_v28 val_main_v27 val_main_v26 val_main_v25 val_main_v24 val_main_v23 val_main_v22 val_main_v21
    val_main_cst_3
  generalize val_main_v17 (F := Ideal) x0 x1 x3 = S
  generalize val_main_v20 (F := Ideal) x0 x1 x3 = M
  pointwise

theorem v32_at (b h : Fin 8) (t : Fin 2048) (d : Fin 64) :
    (val_main_v32 (F := Ideal) x0 x1 x2 x3 : FVec Ideal S16384x512 .bf16)
        (ix2 ⟨2048 * b.val + t.val, by omega⟩ ⟨64 * h.val + d.val, by omega⟩)
      = ∑ k : Fin 2048, x2 (ix4 b k h d) *
          (val_main_v28 (F := Ideal) x0 x1 x3 : FVec Ideal S8x8x2048x2048 .f32) (ix4 b h t k) := by
  unfold val_main_v32 val_main_v31 val_main_v30 val_main_v29
  generalize val_main_v28 (F := Ideal) x0 x1 x3 = S
  pointwise [dot_S8x2048x8x64_S8x8x2048x2048_S8x8x64x2048_1_3_3_2_02_01]

end Cert.ReferenceIdeal.Attn

end
-- ==== Proof.Step.lean ====
/- One block of the kernel's online softmax, as functions of the vectors it reads: the scores of a query block against
   a key block, the causal mask on the diagonal block, the running maximum, the running sum of weights and the
   running weighted sum of value rows. The four cases of the kernel body are these functions composed. -/
module

public import proofs.«01_k».proof.Proof.Gen.KernelIdeal.Skeleton
public import Idealize.ShloMosaic.Lib.Pipeline.Value

@[expose] public section

noncomputable section

namespace Cert.KernelIdeal.Attn

open Cert.KernelIdeal Cert.KernelIdeal.Gen Cert.KernelIdeal.Facts Idealize.ShloMosaic

variable {F : FTy → Type} [FloatOps F] [Named F]

/-- A masked query block against a key block, less the scaled cumulated gate of each key. -/
def score (qm : FVec F S512x128 .bf16) (k : Vec F S512x128 .bf16) (ck : Vec F S1x1x1x1x512 .f32) : FVec F S512x512 .f32 :=
  subf (matmul dot_S512x128_S512x128_S512x512_1_1_0_0_n_n none qm (shapeCast S512x128 k shapeCasts_S512x128_S512x128)
      (constant S512x512 .f32 0x00000000#32))
    (broadcastTo S512x512 (mulf (shapeCast S1x512 ck shapeCasts_S1x1x1x1x512_S1x512)
      (broadcast S1x512 (Named.named κ "log2e" 0x3FB8AA3B#32))) broadcasts_S1x512_S512x512)

/-- The causal mask of the diagonal block: a key after its query gets the named mask. -/
def masked (z : FVec F S512x512 .f32) : FVec F S512x512 .f32 :=
  select (cmpi .sle (iota .tc S512x512 32 [1] iota_S512x512_d1_w32)
      (addi (iota .tc S512x512 32 [0] iota_S512x512_d0_w32) (broadcast S512x512 0#32)))
    z (broadcast S512x512 (Named.named κ "mask" 0xF149F2CA#32))

/-- The running maximum after a block. -/
def newMax (mx : FVec F S512x1 .f32) (z : FVec F S512x512 .f32) : FVec F S512x1 .f32 :=
  maximumf mx (shapeCast S512x1
    (multiReduction .maximumf [1] S512 z 0xFF800000#32 reduces_S512x512_S512 (.inl rfl) rfl) shapeCasts_S512_S512x1)

/-- The query's own scaled cumulated gate. -/
def ownGate (cq : Vec F S1x1x512x1 .f32) : FVec F S512x1 .f32 :=
  mulf (shapeCast S512x1 cq shapeCasts_S1x1x512x1_S512x1) (broadcast S512x1 (Named.named κ "log2e" 0x3FB8AA3B#32))

/-- The factor that carries the sums of the earlier blocks over to the new maximum. -/
def carry (mx mx' : FVec F S512x1 .f32) : FVec F S512x1 .f32 := exp2 (subf mx mx')

/-- The weights of a block under the new maximum. -/
def weights (mx' : FVec F S512x1 .f32) (z : FVec F S512x512 .f32) (cq : Vec F S1x1x512x1 .f32) : FVec F S512x512 .f32 :=
  exp2 (subf z (broadcastTo S512x512 (subf (addf mx' (ownGate cq)) (ownGate cq)) broadcasts_S512x1_S512x512))

/-- What the body carries from one key block to the next, for one head. -/
structure St (F : FTy → Type) [FloatOps F] where
  mx : FVec F S512x1 .f32
  sum : FVec F S512x1 .f32
  acc : FVec F S512x128 .f32

/-- Before the first key block. -/
def init : St F := ⟨k0_pay139, k0_pay140, k0_pay141⟩

/-- One key block. -/
def step (z : FVec F S512x512 .f32) (cq : Vec F S1x1x512x1 .f32) (v : Vec F S512x128 .bf16) (s : St F) : St F where
  mx := newMax s.mx z
  sum := addf (mulf (carry s.mx (newMax s.mx z)) s.sum) (shapeCast S512x1
    (multiReduction .add [1] S512 (weights (newMax s.mx z) z cq) 0x00000000#32 reduces_S512x512_S512 (.inl rfl) rfl)
    shapeCasts_S512_S512x1)
  acc := addf (mulf (broadcastTo S512x128 (carry s.mx (newMax s.mx z)) broadcasts_S512x1_S512x128) s.acc)
    (matmul dot_S512x512_S512x128_S512x128_1_0_0_1_n_n none
      (truncf .bf16 (weights (newMax s.mx z) z cq) bitsLt_bf16_f32)
      (shapeCast S512x128 v shapeCasts_S512x128_S512x128) (constant S512x128 .f32 0x00000000#32))

/-- The stored block: lanes below 64 from the first head, the others from the second. -/
def finish (s0 s1 : St F) : FVec F S512x128 .bf16 :=
  truncf .bf16 (select (broadcastTo S512x128 (shapeCast S1x128
        (cmpi .slt (iota .tc S1x128 32 [1] iota_S1x128_d1_w32) (broadcast S1x128 64#32)) shapeCasts_S1x128_S1x128)
        broadcasts_S1x128_S512x128)
      (divf s0.acc (broadcastTo S512x128 s0.sum broadcasts_S512x1_S512x128))
      (divf s1.acc (broadcastTo S512x128 s1.sum broadcasts_S512x1_S512x128))) bitsLt_bf16_f32

/-- Rows `o … o+511` of the keys or the values. -/
def rowsAt (x : Vec F S2048x128 .bf16) (o : ℕ) (h : ∀ a, (![o, 0] : Fin 2 → ℕ) a + S512x128.size a ≤ S2048x128.size a) :
    Vec F S512x128 .bf16 := View.ld x (Rect.unit (s := S2048x128) ![o, 0] S512x128.size h)

/-- The cumulated gates of key block `j` for head `e` of the pair. -/
def gatesAt (x : Vec F S1x1x4x2x512 .f32) (j e : ℕ)
    (h : ∀ a, (![0, 0, j, e, 0] : Fin 5 → ℕ) a + S1x1x1x1x512.size a ≤ S1x1x4x2x512.size a) :
    Vec F S1x1x1x1x512 .f32 := View.ld x (Rect.unit (s := S1x1x4x2x512) ![0, 0, j, e, 0] S1x1x1x1x512.size h)

/-- The cumulated gates of the query block for head `e` of the pair. -/
def ownAt (x : Vec F S1x1x512x2 .f32) (e : ℕ)
    (h : ∀ a, (![0, 0, 0, e] : Fin 4 → ℕ) a + S1x1x512x1.size a ≤ S1x1x512x2.size a) :
    Vec F S1x1x512x1 .f32 := View.ld x (Rect.unit (s := S1x1x512x2) ![0, 0, 0, e] S1x1x512x1.size h)

theorem row_inb (j : Fin 4) (a : Fin 2) : (![512 * j.val, 0] : Fin 2 → ℕ) a + S512x128.size a ≤ S2048x128.size a := by
  fin_cases j <;> fin_cases a <;> decide

theorem gate_inb (j : Fin 4) (e : Fin 2) (a : Fin 5) :
    (![0, 0, j.val, e.val, 0] : Fin 5 → ℕ) a + S1x1x1x1x512.size a ≤ S1x1x4x2x512.size a := by
  fin_cases j <;> fin_cases e <;> fin_cases a <;> decide

theorem own_inb (e : Fin 2) (a : Fin 4) : (![0, 0, 0, e.val] : Fin 4 → ℕ) a + S1x1x512x1.size a ≤ S1x1x512x2.size a := by
  fin_cases e <;> fin_cases a <;> decide

/-- The query block with the other head's lanes set to zero. -/
def qHead (e : Fin 2) (x0 : Vec F S512x128 .bf16) : FVec F S512x128 .bf16 :=
  match e with
  | 0 => k0_pay137 x0
  | 1 => k0_pay138 x0

/-- The scores of the query block against key block `j`, for head `e` of the pair. -/
def blockScore (e : Fin 2) (x0 : Vec F S512x128 .bf16) (x1 : Vec F S2048x128 .bf16) (x4 : Vec F S1x1x4x2x512 .f32)
    (j : Fin 4) : FVec F S512x512 .f32 :=
  score (qHead e x0) (rowsAt x1 (512 * j.val) (row_inb j)) (gatesAt x4 j.val e.val (gate_inb j e))

/-- Key block `j` before the diagonal. -/
def plain (e : Fin 2) (x0 : Vec F S512x128 .bf16) (x1 x2 : Vec F S2048x128 .bf16) (x3 : Vec F S1x1x512x2 .f32)
    (x4 : Vec F S1x1x4x2x512 .f32) (j : Fin 4) (s : St F) : St F :=
  step (blockScore e x0 x1 x4 j) (ownAt x3 e.val (own_inb e)) (rowsAt x2 (512 * j.val) (row_inb j)) s

/-- Key block `j` on the diagonal. -/
def diag (e : Fin 2) (x0 : Vec F S512x128 .bf16) (x1 x2 : Vec F S2048x128 .bf16) (x3 : Vec F S1x1x512x2 .f32)
    (x4 : Vec F S1x1x4x2x512 .f32) (j : Fin 4) (s : St F) : St F :=
  step (masked (blockScore e x0 x1 x4 j)) (ownAt x3 e.val (own_inb e)) (rowsAt x2 (512 * j.val) (row_inb j)) s

/-- A head of the pair through the key blocks of query block `i`: those before the diagonal, then the diagonal. -/
def headRun (i : Fin 4) (e : Fin 2) (x0 : Vec F S512x128 .bf16) (x1 x2 : Vec F S2048x128 .bf16) (x3 : Vec F S1x1x512x2 .f32)
    (x4 : Vec F S1x1x4x2x512 .f32) : St F :=
  match i with
  | 0 => diag e x0 x1 x2 x3 x4 0 init
  | 1 => diag e x0 x1 x2 x3 x4 1 (plain e x0 x1 x2 x3 x4 0 init)
  | 2 => diag e x0 x1 x2 x3 x4 2 (plain e x0 x1 x2 x3 x4 1 (plain e x0 x1 x2 x3 x4 0 init))
  | 3 => diag e x0 x1 x2 x3 x4 3 (plain e x0 x1 x2 x3 x4 2 (plain e x0 x1 x2 x3 x4 1 (plain e x0 x1 x2 x3 x4 0 init)))

/-- What query block `i` stores. -/
def blockOut (i : Fin 4) (x0 : Vec F S512x128 .bf16) (x1 x2 : Vec F S2048x128 .bf16) (x3 : Vec F S1x1x512x2 .f32)
    (x4 : Vec F S1x1x4x2x512 .f32) : FVec F S512x128 .bf16 :=
  finish (headRun i 0 x0 x1 x2 x3 x4) (headRun i 1 x0 x1 x2 x3 x4)

end Cert.KernelIdeal.Attn

end
-- ==== Proof.Read.lean ====
/- The vectors of a block read at an index, over the reals: sums over the lanes and over the keys, maxima, and the
   named constants. -/
module

public import proofs.«01_k».proof.Proof.Step
public import proofs.«01_k».proof.Proof.Words
public import Idealize.ShloMosaic.Lib.Pointwise

@[expose] public section

noncomputable section

namespace Cert.KernelIdeal.Attn

open Cert.KernelIdeal Cert.KernelIdeal.Gen Cert.KernelIdeal.Facts Idealize.ShloMosaic

/-- The named `log2 e`. -/
def logE : EReal := Named.named κ (F := Ideal) (φ := .f32) "log2e" 0x3FB8AA3B#32

/-- The named mask. -/
def maskE : EReal := Named.named κ (F := Ideal) (φ := .f32) "mask" 0xF149F2CA#32

theorem score_apply (qm : FVec Ideal S512x128 .bf16) (k : Vec Ideal S512x128 .bf16) (ck : Vec Ideal S1x1x1x1x512 .f32)
    (r c : Fin 512) :
    score qm k ck (ix2 r c) = (∑ x : Fin 128, qm (ix2 r x) * k (ix2 c x)) - ck (ix5 0 0 0 0 c) * logE := by
  unfold score logE
  pointwise [dot_S512x128_S512x128_S512x512_1_1_0_0_n_n]

theorem masked_apply (z : FVec Ideal S512x512 .f32) (r c : Fin 512) :
    masked z (ix2 r c) = if c.val ≤ r.val then z (ix2 r c) else maskE := by
  unfold masked maskE
  pointwise
  rw [Words.addi_zero, Words.sel_le (by omega) (by omega)]

theorem newMax_apply (m : FVec Ideal S512x1 .f32) (z : FVec Ideal S512x512 .f32) (r : Fin 512) :
    newMax m z (ix2 r 0) =
      max (m (ix2 r 0)) (Finset.fold max (Ideal.ofBits .f32 0xFF800000#32) (fun x => z (ix2 r x)) Finset.univ) := by
  unfold newMax
  pointwise

theorem weights_apply (m : FVec Ideal S512x1 .f32) (z : FVec Ideal S512x512 .f32) (cq : Vec Ideal S1x1x512x1 .f32)
    (r c : Fin 512) :
    weights m z cq (ix2 r c) = Ideal.exp2 (z (ix2 r c) -
      (m (ix2 r 0) + cq (ix4 0 0 r 0) * logE - cq (ix4 0 0 r 0) * logE)) := by
  unfold weights ownGate logE
  pointwise
  rfl

theorem mx_apply (z : FVec Ideal S512x512 .f32) (cq : Vec Ideal S1x1x512x1 .f32) (v : Vec Ideal S512x128 .bf16)
    (s : St Ideal) : (step z cq v s).mx = newMax s.mx z := rfl

theorem sum_apply (z : FVec Ideal S512x512 .f32) (cq : Vec Ideal S1x1x512x1 .f32) (v : Vec Ideal S512x128 .bf16)
    (s : St Ideal) (r : Fin 512) : (step z cq v s).sum (ix2 r 0) =
      Ideal.exp2 (s.mx (ix2 r 0) - newMax s.mx z (ix2 r 0)) * s.sum (ix2 r 0) +
        ∑ x : Fin 512, weights (newMax s.mx z) z cq (ix2 r x) := by
  dsimp only [step]
  unfold carry
  pointwise
  rfl

theorem acc_apply (z : FVec Ideal S512x512 .f32) (cq : Vec Ideal S1x1x512x1 .f32) (v : Vec Ideal S512x128 .bf16)
    (s : St Ideal) (r : Fin 512) (d : Fin 128) : (step z cq v s).acc (ix2 r d) =
      Ideal.exp2 (s.mx (ix2 r 0) - newMax s.mx z (ix2 r 0)) * s.acc (ix2 r d) +
        ∑ x : Fin 512, weights (newMax s.mx z) z cq (ix2 r x) * v (ix2 x d) := by
  dsimp only [step]
  unfold carry
  pointwise [dot_S512x512_S512x128_S512x128_1_0_0_1_n_n]
  rfl

theorem init_mx (r : Fin 512) : (init : St Ideal).mx (ix2 r 0) = maskE := by
  dsimp only [init]; unfold k0_pay139 maskE; pointwise

theorem init_sum (r : Fin 512) : (init : St Ideal).sum (ix2 r 0) = 0 := by
  dsimp only [init]; unfold k0_pay140; pointwise

theorem init_acc (r : Fin 512) (d : Fin 128) : (init : St Ideal).acc (ix2 r d) = 0 := by
  dsimp only [init]; unfold k0_pay141; pointwise

theorem finish_apply (s s' : St Ideal) (r : Fin 512) (d : Fin 128) :
    finish s s' (ix2 r d) = if d.val < 64 then Ideal.div (s.acc (ix2 r d)) (s.sum (ix2 r 0))
      else Ideal.div (s'.acc (ix2 r d)) (s'.sum (ix2 r 0)) := by
  unfold finish
  pointwise
  exact Words.sel_lt (a := d.val) (b := 64) (by omega) (by norm_num) _ _

theorem qHead_apply (e : Fin 2) (x : Vec Ideal S512x128 .bf16) (r : Fin 512) (d : Fin 128) :
    qHead e x (ix2 r d) = if d.val / 64 = e.val then x (ix2 r d) else 0 := by
  fin_cases e <;> dsimp only [qHead]
  · unfold k0_pay137
    pointwise
    refine (Words.sel_lt (a := d.val) (b := 64) (by omega) (by norm_num) _ _).trans (if_congr ?_ rfl rfl)
    show d.val < 64 ↔ d.val / 64 = 0
    omega
  · unfold k0_pay138
    pointwise
    refine (Words.sel_ge (a := d.val) (b := 64) (by omega) (by norm_num) _ _).trans (if_congr ?_ rfl rfl)
    show 64 ≤ d.val ↔ d.val / 64 = 1
    omega

theorem rowsAt_apply (x : Vec Ideal S2048x128 .bf16) (j : Fin 4) (r : Fin 512) (d : Fin 128) :
    rowsAt x (512 * j.val) (row_inb j) (ix2 r d) = x (ix2 ⟨512 * j.val + r.val, by omega⟩ d) := by
  unfold rowsAt
  pointwise

theorem gatesAt_apply (x : Vec Ideal S1x1x4x2x512 .f32) (j : Fin 4) (e : Fin 2) (c : Fin 512) :
    gatesAt x j.val e.val (gate_inb j e) (ix5 0 0 0 0 c) = x (ix5 0 0 j e c) := by
  unfold gatesAt
  pointwise

theorem ownAt_apply (x : Vec Ideal S1x1x512x2 .f32) (e : Fin 2) (r : Fin 512) :
    ownAt x e.val (own_inb e) (ix4 0 0 r 0) = x (ix4 0 0 r e) := by
  unfold ownAt
  pointwise

end Cert.KernelIdeal.Attn

end
-- ==== Proof.Online.lean ====
/- The online softmax over the extended reals, for one query row and one value column. The invariant of the running
   maximum, sum and weighted sum needs no more of the maximum than that it is a real number: every later quotient is
   the same for any real shift. No kernel text here. -/
module

public import Idealize.ShloMosaic.PureOps.Ideal.Laws

@[expose] public section

noncomputable section

namespace Online

open Idealize.ShloMosaic Finset

/-- A power of two of anything below `⊤` is a non-negative real. -/
theorem exp2_real {x : EReal} (h : x ≠ ⊤) : ∃ r : ℝ, 0 ≤ r ∧ Ideal.exp2 x = (r : EReal) := by
  induction x using EReal.rec with
  | bot => exact ⟨0, le_refl _, rfl⟩
  | coe x => exact ⟨Real.rpow 2 x, Real.rpow_nonneg (by norm_num) x, rfl⟩
  | top => exact absurd rfl h

/-- A non-negative real factor distributes over a finite sum of extended reals. -/
theorem real_mul_sum {ι : Type} (s : Finset ι) (f : ι → EReal) {r : ℝ} (h : 0 ≤ r) :
    (r : EReal) * ∑ i ∈ s, f i = ∑ i ∈ s, (r : EReal) * f i := by
  classical
  induction s using Finset.induction_on with
  | empty => simp
  | insert a s ha ih =>
    rw [sum_insert ha, sum_insert ha, ← ih,
      EReal.left_distrib_of_nonneg_of_ne_top (by exact_mod_cast h) (EReal.coe_ne_top r)]

/-- Real shifts cancel. -/
theorem shift_cancel (x g : ℝ) : ((x : EReal) + (g : EReal)) - (g : EReal) = x := by
  rw [← EReal.coe_add, ← EReal.coe_sub, add_sub_cancel_right]

/-- Changing the shift multiplies a weight by one factor. -/
theorem exp2_rescale (m m' : ℝ) {z : EReal} (h : z ≠ ⊤) :
    Ideal.exp2 ((m : EReal) - m') * Ideal.exp2 (z - m) = Ideal.exp2 (z - m') := by
  induction z using EReal.rec with
  | bot => simp [EReal.bot_sub]
  | coe z =>
    rw [← EReal.coe_sub, ← EReal.coe_sub, ← EReal.coe_sub, Ideal.exp2_coe, Ideal.exp2_coe, Ideal.exp2_coe,
      ← EReal.coe_mul]
    congr 1
    show (2 : ℝ) ^ (m - m') * (2 : ℝ) ^ (z - m) = (2 : ℝ) ^ (z - m')
    rw [← Real.rpow_add (by norm_num)]; congr 1; ring
  | top => exact absurd rfl h

/-- What the running maximum, sum and weighted sum are after the first `n` keys. -/
structure Inv (n : ℕ) (z v : ℕ → EReal) (m l a : EReal) : Prop where
  top : m ≠ ⊤
  bot : n = 0 ∨ m ≠ ⊥
  sum : l = ∑ k ∈ range n, Ideal.exp2 (z k - m)
  acc : a = ∑ k ∈ range n, Ideal.exp2 (z k - m) * v k

theorem Inv.init (z v : ℕ → EReal) : Inv 0 z v ⊥ 0 0 :=
  ⟨bot_ne_top, .inl rfl, by simp, by simp⟩

/-- The maximum of a block: below `⊤` when its scores are, above `⊥` when one of them is. -/
theorem fold_max_ne_top {b : ℕ} (f : Fin b → EReal) (h : ∀ x, f x ≠ ⊤) : Finset.fold max ⊥ f univ ≠ ⊤ := by
  have : Finset.fold max ⊥ f univ < ⊤ := by
    rw [Finset.fold_max_lt]; exact ⟨bot_lt_top, fun x _ => lt_top_iff_ne_top.mpr (h x)⟩
  exact this.ne

theorem fold_max_ne_bot {b : ℕ} (f : Fin b → EReal) (h : ∃ x, f x ≠ ⊥) : Finset.fold max ⊥ f univ ≠ ⊥ := by
  obtain ⟨x, hx⟩ := h
  have : (⊥ : EReal) < Finset.fold max ⊥ f univ := by
    rw [Finset.lt_fold_max]; exact .inr ⟨x, mem_univ _, bot_lt_iff_ne_bot.mpr hx⟩
  exact this.ne'

/-- ONE BLOCK of `b` keys after the first `n`. -/
theorem Inv.step {b n : ℕ} {z v : ℕ → EReal} {m l a : EReal} (h : Inv n z v m l a) (hz : ∀ k, z k ≠ ⊤)
    (hne : ∃ x : Fin b, z (n + x) ≠ ⊥) (g : ℝ) {m' : EReal}
    (hm' : m' = max m (Finset.fold max ⊥ (fun x : Fin b => z (n + x)) univ)) :
    Inv (n + b) z v m'
      (Ideal.exp2 (m - m') * l + ∑ x : Fin b, Ideal.exp2 (z (n + x) - ((m' + g) - g)))
      (Ideal.exp2 (m - m') * a + ∑ x : Fin b, Ideal.exp2 (z (n + x) - ((m' + g) - g)) * v (n + x)) := by
  have ht : m' ≠ ⊤ := by
    rw [hm']; rcases max_choice m (Finset.fold max ⊥ (fun x : Fin b => z (n + x)) univ) with e | e <;> rw [e]
    · exact h.top
    · exact fold_max_ne_top _ fun x => hz _
  have hb : m' ≠ ⊥ := by
    have := fold_max_ne_bot _ hne
    exact fun e => this (le_bot_iff.mp (((le_max_right m _).trans hm'.ge).trans e.le))
  clear hm' hne
  lift m' to ℝ using ⟨ht, hb⟩ with μ'
  have key : ∀ k < n, Ideal.exp2 (m - (μ' : EReal)) * Ideal.exp2 (z k - m) = Ideal.exp2 (z k - μ') := by
    intro k hk
    have hmb : m ≠ ⊥ := h.bot.resolve_left (by omega)
    have hmt := h.top
    clear h
    lift m to ℝ using ⟨hmt, hmb⟩ with μ
    exact exp2_rescale μ μ' (hz k)
  have hfac : m - (μ' : EReal) ≠ ⊤ := by
    have hmt := h.top
    clear h key
    induction m using EReal.rec with
    | bot => simp [EReal.bot_sub]
    | coe x => rw [← EReal.coe_sub]; exact EReal.coe_ne_top _
    | top => exact absurd rfl hmt
  obtain ⟨r, hr0, hr⟩ := exp2_real hfac
  rw [shift_cancel]
  refine ⟨ht, .inr hb, ?_, ?_⟩
  · rw [sum_range_add, h.sum, hr, real_mul_sum _ _ hr0, Fin.sum_univ_eq_sum_range (fun x => Ideal.exp2 (z (n + x) - μ')) b]
    congr 1
    refine sum_congr rfl fun k hk => ?_
    rw [← hr, key k (mem_range.mp hk)]
  · rw [sum_range_add, h.acc, hr, real_mul_sum _ _ hr0,
      Fin.sum_univ_eq_sum_range (fun x => Ideal.exp2 (z (n + x) - μ') * v (n + x)) b]
    congr 1
    refine sum_congr rfl fun k hk => ?_
    rw [← hr, ← mul_assoc, key k (mem_range.mp hk)]

/-- A weight under the base-two shift is one factor times the weight under the natural shift. -/
theorem exp2_eq_exp (σ g μ M : ℝ) :
    Real.rpow 2 ((σ - g) * (Real.log 2)⁻¹ - μ) = Real.exp (M - g - μ * Real.log 2) * Real.exp (σ - M) := by
  have h2 : Real.log 2 ≠ 0 := (Real.log_pos (by norm_num)).ne'
  show (2 : ℝ) ^ ((σ - g) * (Real.log 2)⁻¹ - μ) = _
  rw [Real.rpow_def_of_pos (by norm_num), ← Real.exp_add]
  congr 1
  field_simp
  ring

/-- THE QUOTIENT of the running sums is the softmax average, whatever real shifts the two sides take: `p` says which
    keys the query sees (all among the first `n`, and at least one), `σ` their natural scores. -/
theorem Inv.quotient {n N : ℕ} {z v : ℕ → EReal} {m l a : EReal} (h : Inv n z v m l a) (p : ℕ → Prop) [DecidablePred p]
    (σ : ℕ → ℝ) (g M : ℝ) (hz : ∀ k, z k = if p k then (((σ k - g) * (Real.log 2)⁻¹ : ℝ) : EReal) else ⊥)
    (hn : n ≤ N) (hp : ∀ k, p k → k < n) (hex : ∃ k, p k) {S : ℕ → EReal} (hS : ∀ k, S k = if p k then ((σ k : ℝ) : EReal) else ⊥) :
    Ideal.div a l = ∑ k ∈ range N, v k * Ideal.div (Ideal.exp (S k - M)) (∑ j ∈ range N, Ideal.exp (S j - M)) := by
  obtain ⟨k0, hk0⟩ := hex
  have hmb : m ≠ ⊥ := h.bot.resolve_left (by have := hp _ hk0; omega)
  have hmt := h.top
  obtain ⟨-, -, hl, ha⟩ := h
  lift m to ℝ using ⟨hmt, hmb⟩ with μ
  set C : ℝ := Real.exp (M - g - μ * Real.log 2) with hC
  have hC0 : 0 < C := Real.exp_pos _
  let ω : ℕ → ℝ := fun k => if p k then Real.exp (σ k - M) else 0
  have hω0 : ∀ k, 0 ≤ ω k := fun k => by dsimp only [ω]; split_ifs; exacts [(Real.exp_pos _).le, le_refl _]
  have hw : ∀ k, Ideal.exp2 (z k - μ) = ((C * ω k : ℝ) : EReal) := fun k => by
    rw [hz]; dsimp only [ω]
    split_ifs
    · rw [← EReal.coe_sub, Ideal.exp2_coe, exp2_eq_exp _ _ _ M]
    · simp [EReal.bot_sub]
  have he : ∀ k, Ideal.exp (S k - M) = ((ω k : ℝ) : EReal) := fun k => by
    rw [hS]; dsimp only [ω]
    split_ifs
    · rw [← EReal.coe_sub, Ideal.exp_coe]
    · simp [EReal.bot_sub]
  have hout : ∀ k, k ∉ range n → ω k = 0 := fun k hk => by
    dsimp only [ω]; rw [if_neg fun hpk => hk (mem_range.mpr (hp k hpk))]
  have hsub : range n ⊆ range N := range_subset_range.mpr hn
  set W : ℝ := ∑ k ∈ range N, ω k with hW
  have hWn : ∑ k ∈ range n, ω k = W := sum_subset hsub fun k _ hk => hout k hk
  have hW0 : 0 < W := by
    rw [← hWn]
    refine sum_pos' (fun k _ => hω0 k) ⟨k0, mem_range.mpr (hp _ hk0), ?_⟩
    dsimp only [ω]; rw [if_pos hk0]; exact Real.exp_pos _
  have hcoe : ∀ (s : Finset ℕ) (f : ℕ → ℝ), ∑ k ∈ s, ((f k : ℝ) : EReal) = ((∑ k ∈ s, f k : ℝ) : EReal) := fun s f => by
    induction s using Finset.induction_on with
    | empty => simp
    | insert a s ha ih => rw [sum_insert ha, sum_insert ha, ih, EReal.coe_add]
  have hl' : l = ((C * W : ℝ) : EReal) := by
    rw [hl, sum_congr rfl fun k _ => hw k, hcoe, ← mul_sum, hWn]
  have hL' : ∑ j ∈ range N, Ideal.exp (S j - M) = ((W : ℝ) : EReal) := by
    rw [sum_congr rfl fun k _ => he k, hcoe]
  rw [hL', hl', ha, Ideal.div_coe (mul_pos hC0 hW0).ne', mul_comm,
    real_mul_sum _ _ (by positivity), ← sum_subset hsub (f := fun k => v k * Ideal.div (Ideal.exp (S k - M)) (W : EReal))]
  · refine sum_congr rfl fun k _ => ?_
    rw [hw, he, Ideal.div_coe hW0.ne', ← mul_assoc, ← EReal.coe_mul, ← EReal.coe_mul, mul_comm]
    congr 2
    field_simp
  · intro k _ hk
    rw [he, hout k hk, Ideal.div_coe hW0.ne', ← EReal.coe_mul]; simp

end Online

end
-- ==== Proof.Rows.lean ====
/- A row of a query block through its key blocks: the running state is the online softmax's invariant. -/
module

public import proofs.«01_k».proof.Proof.Read
public import proofs.«01_k».proof.Proof.Online

@[expose] public section

noncomputable section

namespace Cert.KernelIdeal.Attn

open Cert.KernelIdeal Cert.KernelIdeal.Gen Cert.KernelIdeal.Facts Idealize.ShloMosaic

theorem logE_eq : logE = (((Real.log 2)⁻¹ : ℝ) : EReal) := by
  unfold logE; exact IdealRules.named_const.ideal_named_scalar _ _ _ _ rfl

theorem maskE_eq : maskE = ⊥ := by
  unfold maskE; exact IdealRules.named_const.ideal_named_scalar _ _ _ _ rfl

theorem ninf_eq : Ideal.ofBits .f32 0xFF800000#32 = ⊥ := by simp [Ideal.ofBits, Ideal.ieee]

/-- The invariant for row `r` and lane `d` of a state. -/
def RowInv (r : Fin 512) (d : Fin 128) (n : ℕ) (z v : ℕ → EReal) (s : St Ideal) : Prop :=
  Online.Inv n z v (s.mx (ix2 r 0)) (s.sum (ix2 r 0)) (s.acc (ix2 r d))

theorem RowInv.init (r : Fin 512) (d : Fin 128) (z v : ℕ → EReal) : RowInv r d 0 z v init := by
  unfold RowInv
  rw [init_mx, init_sum, init_acc, maskE_eq]
  exact Online.Inv.init z v

theorem RowInv.step {r : Fin 512} {d : Fin 128} {n : ℕ} {z v : ℕ → EReal} {s : St Ideal} (h : RowInv r d n z v s)
    (zv : FVec Ideal S512x512 .f32) (cq : Vec Ideal S1x1x512x1 .f32) (vv : Vec Ideal S512x128 .bf16)
    (hz : ∀ k, z k ≠ ⊤) (hne : z n ≠ ⊥) (g : ℝ) (hg : cq (ix4 0 0 r 0) * logE = (g : EReal))
    (hzv : ∀ c : Fin 512, zv (ix2 r c) = z (n + c.val)) (hvv : ∀ c : Fin 512, vv (ix2 c d) = v (n + c.val)) :
    RowInv r d (n + 512) z v (Attn.step zv cq vv s) := by
  have key := Online.Inv.step (b := 512) h hz ⟨0, by simpa using hne⟩ g (m' := newMax s.mx zv (ix2 r 0)) (by
    rw [newMax_apply, ninf_eq]; simp only [hzv])
  unfold RowInv
  rw [mx_apply, sum_apply, acc_apply]
  simp only [weights_apply, hg, hzv, hvv]
  exact key

section

variable (i : Fin 4) (e : Fin 2) (x0 : Vec Ideal S512x128 .bf16) (x1 x2 : Vec Ideal S2048x128 .bf16)
  (x3 : Vec Ideal S1x1x512x2 .f32) (x4 : Vec Ideal S1x1x4x2x512 .f32) (r : Fin 512) (d : Fin 128)
  (ζ : ℕ → ℝ) (v : ℕ → EReal) (g : ℝ)

/-- The row's scores with the keys after the query hidden. -/
def seen (ζ : ℕ → ℝ) (t k : ℕ) : EReal := if k ≤ t then ((ζ k : ℝ) : EReal) else ⊥

theorem seen_ne_top (ζ : ℕ → ℝ) (t k : ℕ) : seen ζ t k ≠ ⊤ := by
  unfold seen; split_ifs; exacts [EReal.coe_ne_top _, bot_ne_top]

theorem seen_ne_bot {ζ : ℕ → ℝ} {t k : ℕ} (h : k ≤ t) : seen ζ t k ≠ ⊥ := by
  unfold seen; rw [if_pos h]; exact EReal.coe_ne_bot _

/-- What a row's block must read for the invariant: real scores `ζ`, a real own gate, values `v`. -/
structure Reads : Prop where
  score : ∀ (j : Fin 4) (c : Fin 512), blockScore e x0 x1 x4 j (ix2 r c) = ((ζ (512 * j.val + c.val) : ℝ) : EReal)
  gate : x3 (ix4 0 0 r e) * logE = (g : EReal)
  val : ∀ (j : Fin 4) (c : Fin 512), x2 (ix2 ⟨512 * j.val + c.val, by omega⟩ d) = v (512 * j.val + c.val)

variable {i e x0 x1 x2 x3 x4 r d ζ v g}

theorem RowInv.plain (R : Reads e x0 x1 x2 x3 x4 r d ζ v g) {j : Fin 4} (hj : j.val < i.val) {s : St Ideal}
    (h : RowInv r d (512 * j.val) (seen ζ (512 * i.val + r.val)) v s) :
    RowInv r d (512 * j.val + 512) (seen ζ (512 * i.val + r.val)) v (plain e x0 x1 x2 x3 x4 j s) := by
  refine h.step _ _ _ (seen_ne_top _ _) (seen_ne_bot (by omega)) g ?_ ?_ ?_
  · rw [ownAt_apply]; exact R.gate
  · intro c; rw [R.score, seen, if_pos (by omega)]
  · intro c; rw [rowsAt_apply]; exact R.val j c

theorem RowInv.diag (R : Reads e x0 x1 x2 x3 x4 r d ζ v g) {s : St Ideal}
    (h : RowInv r d (512 * i.val) (seen ζ (512 * i.val + r.val)) v s) :
    RowInv r d (512 * i.val + 512) (seen ζ (512 * i.val + r.val)) v (diag e x0 x1 x2 x3 x4 i s) := by
  refine h.step _ _ _ (seen_ne_top _ _) (seen_ne_bot (by omega)) g ?_ ?_ ?_
  · rw [ownAt_apply]; exact R.gate
  · intro c
    rw [masked_apply, R.score, maskE_eq, seen]
    exact if_congr (by omega) rfl rfl
  · intro c; rw [rowsAt_apply]; exact R.val i c

theorem headRun_inv (R : Reads e x0 x1 x2 x3 x4 r d ζ v g) :
    RowInv r d (512 * i.val + 512) (seen ζ (512 * i.val + r.val)) v (headRun i e x0 x1 x2 x3 x4) := by
  have h0 := RowInv.init r d (seen ζ (512 * i.val + r.val)) v
  fin_cases i
  · exact RowInv.diag (i := 0) R h0
  · exact RowInv.diag (i := 1) R (RowInv.plain (i := 1) (j := 0) R (by decide) h0)
  · exact RowInv.diag (i := 2) R (RowInv.plain (i := 2) (j := 1) R (by decide)
      (RowInv.plain (i := 2) (j := 0) R (by decide) h0))
  · exact RowInv.diag (i := 3) R (RowInv.plain (i := 3) (j := 2) R (by decide)
      (RowInv.plain (i := 3) (j := 1) R (by decide) (RowInv.plain (i := 3) (j := 0) R (by decide) h0)))

end

/-- The stored block at row `r` and lane `d`: the quotient of the running sums of the lane's head. -/
theorem blockOut_apply (i : Fin 4) (x0 : Vec Ideal S512x128 .bf16) (x1 x2 : Vec Ideal S2048x128 .bf16)
    (x3 : Vec Ideal S1x1x512x2 .f32) (x4 : Vec Ideal S1x1x4x2x512 .f32) (r : Fin 512) (d : Fin 128) :
    blockOut i x0 x1 x2 x3 x4 (ix2 r d) =
      Ideal.div ((headRun i ⟨d.val / 64, by omega⟩ x0 x1 x2 x3 x4).acc (ix2 r d))
        ((headRun i ⟨d.val / 64, by omega⟩ x0 x1 x2 x3 x4).sum (ix2 r 0)) := by
  unfold blockOut
  rw [finish_apply]
  by_cases h : d.val < 64
  · have : (⟨d.val / 64, by omega⟩ : Fin 2) = 0 := Fin.ext (by show d.val / 64 = 0; omega)
    rw [if_pos h, this]
  · have : (⟨d.val / 64, by omega⟩ : Fin 2) = 1 := Fin.ext (by show d.val / 64 = 1; omega)
    rw [if_neg h, this]

/-- THE STORED BLOCK is the softmax average over the keys up to the query. -/
theorem blockOut_value (i : Fin 4) (x0 : Vec Ideal S512x128 .bf16) (x1 x2 : Vec Ideal S2048x128 .bf16)
    (x3 : Vec Ideal S1x1x512x2 .f32) (x4 : Vec Ideal S1x1x4x2x512 .f32) (r : Fin 512) (d : Fin 128)
    {σ : ℕ → ℝ} {v : ℕ → EReal} {g g' : ℝ} (M : ℝ)
    (R : Reads ⟨d.val / 64, by omega⟩ x0 x1 x2 x3 x4 r d (fun k => (σ k - g') * (Real.log 2)⁻¹) v g) :
    blockOut i x0 x1 x2 x3 x4 (ix2 r d) =
      ∑ k ∈ Finset.range 2048, v k * Ideal.div (Ideal.exp (seen σ (512 * i.val + r.val) k - M))
        (∑ j ∈ Finset.range 2048, Ideal.exp (seen σ (512 * i.val + r.val) j - M)) := by
  rw [blockOut_apply]
  exact Online.Inv.quotient (headRun_inv R) (fun k => k ≤ 512 * i.val + r.val) σ g' M (fun k => rfl) (by omega)
    (fun k hk => by omega) ⟨0, by omega⟩ (fun k => rfl)

end Cert.KernelIdeal.Attn

end
-- ==== Proof.Scores.lean ====
/- The real scores of one query against its keys, and the layer's row as a sum over keys: what both programs compute. -/
module

public import proofs.«01_k».proof.Proof.Rows

@[expose] public section

noncomputable section

namespace Attn

open Idealize.ShloMosaic Cert.KernelIdeal.Attn

/-- The four indices of queries, keys and values; three of the gates. -/
abbrev Four (α : Type) := Fin 8 → Fin 2048 → Fin 8 → Fin 64 → α
abbrev Three (α : Type) := Fin 8 → Fin 2048 → Fin 8 → α

theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- Score of key `n` for the query at `t`: scaled product plus the gates cumulated since the key. -/
def sc (q k : Four ℝ) (c : Three ℝ) (b h : Fin 8) (t : Fin 2048) (n : ℕ) : ℝ :=
  if hn : n < 2048 then (∑ x : Fin 64, q b t h x * k b ⟨n, hn⟩ h x) * (1 / 8) + c b t h - c b ⟨n, hn⟩ h else 0

/-- Value of key `n` in lane `d`. -/
def vl (v : Four EReal) (b h : Fin 8) (d : Fin 64) (n : ℕ) : EReal := if hn : n < 2048 then v b ⟨n, hn⟩ h d else 0

theorem sc_fin (q k : Four ℝ) (c : Three ℝ) (b h : Fin 8) (t n : Fin 2048) :
    sc q k c b h t n.val = (∑ x : Fin 64, q b t h x * k b n h x) * (1 / 8) + c b t h - c b n h := by
  unfold sc; rw [dif_pos n.isLt]

theorem vl_fin (v : Four EReal) (b h : Fin 8) (d : Fin 64) (n : Fin 2048) : vl v b h d n.val = v b n h d := by
  unfold vl; rw [dif_pos n.isLt]

/-- A row of the attention, its exponentials taken from `M`. -/
def row (q k : Four ℝ) (v : Four EReal) (c : Three ℝ) (b h : Fin 8) (t : Fin 2048) (d : Fin 64) (M : ℝ) : EReal :=
  ∑ n ∈ Finset.range 2048, vl v b h d n * Ideal.div (Ideal.exp (seen (sc q k c b h t) t.val n - M))
    (∑ j ∈ Finset.range 2048, Ideal.exp (seen (sc q k c b h t) t.val j - M))

end Attn

end
-- ==== Proof.Goal.lean ====
/- The reference is the attention's row at the row's own (real) maximum, for finite queries, keys and gates. -/
module

public import proofs.«01_k».proof.Proof.Ref
public import proofs.«01_k».proof.Proof.Scores

@[expose] public section

noncomputable section

namespace Cert.ReferenceIdeal.Attn

open Cert.ReferenceIdeal Cert.ReferenceIdeal.Gen Cert.ReferenceIdeal.Facts Cert.ReferenceIdeal.Read Idealize.ShloMosaic Idealize.ShloMosaic.TcCoe _root_.Attn Cert.KernelIdeal.Attn

variable {x0 x1 x2 : FVec Ideal S8x2048x8x64 .f32} {x3 : FVec Ideal S8x2048x8 .f32} {q k : Four ℝ} {c : Three ℝ}

theorem eighth : Ideal.ofBits .f32 0x3E000000#32 = ((1 / 8 : ℝ) : EReal) := by
  simp [Ideal.ofBits, Ideal.ieee, -EReal.coe_mul]; norm_num

theorem score_eq (hq : ∀ b t h d, x0 (ix4 b t h d) = (q b t h d : EReal)) (hk : ∀ b t h d, x1 (ix4 b t h d) = (k b t h d : EReal))
    (hc : ∀ b t h, x3 (ix3 b t h) = (c b t h : EReal)) (b h : Fin 8) (t n : Fin 2048) :
    (val_main_v17 (F := Ideal) x0 x1 x3 : FVec Ideal S8x8x2048x2048 .f32) (ix4 b h t n)
      = seen (sc q k c b h t) t.val n.val := by
  rw [v17_at, seen, sc_fin, ninf_eq, eighth]
  simp only [hq, hk, hc, ← EReal.coe_mul, sum_coe, ← EReal.coe_add, ← EReal.coe_sub]

theorem value (hq : ∀ b t h d, x0 (ix4 b t h d) = (q b t h d : EReal)) (hk : ∀ b t h d, x1 (ix4 b t h d) = (k b t h d : EReal))
    (hc : ∀ b t h, x3 (ix3 b t h) = (c b t h : EReal)) (b h : Fin 8) (t : Fin 2048) (d : Fin 64) :
    ∃ M : ℝ, (val_main_v32 (F := Ideal) x0 x1 x2 x3 : FVec Ideal S16384x512 .bf16)
        (ix2 ⟨2048 * b.val + t.val, by omega⟩ ⟨64 * h.val + d.val, by omega⟩)
      = row q k (fun b t h d => x2 (ix4 b t h d)) c b h t d M := by
  have hM : ∃ M : ℝ, (val_main_v20 (F := Ideal) x0 x1 x3 : FVec Ideal S8x8x2048 .f32) (ix3 b h t) = (M : EReal) := by
    rw [v20_at, ninf_eq, max_eq_right bot_le]
    simp only [score_eq hq hk hc]
    refine ⟨EReal.toReal _, (EReal.coe_toReal ?_ ?_).symm⟩
    · exact Online.fold_max_ne_top _ fun n => seen_ne_top _ _ _
    · exact Online.fold_max_ne_bot _ ⟨⟨0, by omega⟩, seen_ne_bot (Nat.zero_le _)⟩
  obtain ⟨M, hM⟩ := hM
  refine ⟨M, ?_⟩
  rw [v32_at, row, Finset.sum_range]
  refine Finset.sum_congr rfl fun n _ => ?_
  rw [v28_at, hM, Finset.sum_range, vl_fin]
  simp only [score_eq hq hk hc]

end Cert.ReferenceIdeal.Attn

end
-- ==== Proof.Heads.lean ====
/- A point's blocks given as parts of queries, keys, values and gates: what the rows of head `e` of the pair read. -/
module

public import proofs.«01_k».proof.Proof.Scores

@[expose] public section

noncomputable section

namespace Cert.KernelIdeal.Attn

open Cert.KernelIdeal Cert.KernelIdeal.Gen Cert.KernelIdeal.Facts Idealize.ShloMosaic _root_.Attn

/-- A sum over the 128 lanes of a pair of heads in which only head `e` is not zero. -/
theorem sum_head (e : Fin 2) (f : Fin 128 → EReal) :
    (∑ x : Fin 128, if x.val / 64 = e.val then f x else 0) = ∑ l : Fin 64, f ⟨64 * e.val + l.val, by omega⟩ := by
  have split : ∀ g : Fin (64 + 64) → EReal,
      ∑ x, g x = (∑ l : Fin 64, g ⟨l.val, by omega⟩) + ∑ l : Fin 64, g ⟨64 + l.val, by omega⟩ := fun g => by
    rw [Fin.sum_univ_add]; rfl
  refine (split _).trans ?_
  fin_cases e
  · refine (congrArg₂ (· + ·) (Finset.sum_congr rfl fun l _ => if_pos (show l.val / 64 = 0 by omega))
      (Finset.sum_eq_zero fun l _ => if_neg (show ¬(64 + l.val) / 64 = 0 by omega))).trans ((add_zero _).trans ?_)
    exact Finset.sum_congr rfl fun l _ => congrArg f (Fin.ext (by simp))
  · refine (congrArg₂ (· + ·) (Finset.sum_eq_zero fun l _ => if_neg (show ¬l.val / 64 = 1 by omega))
      (Finset.sum_congr rfl fun l _ => if_pos (show (64 + l.val) / 64 = 1 by omega))).trans ((zero_add _).trans ?_)
    exact Finset.sum_congr rfl fun l _ => congrArg f (Fin.ext (by simp))

variable {q k : Four ℝ} {v : Four EReal} {c : Three ℝ} (b : Fin 8) (p i : Fin 4)
  (x0 : Vec Ideal S512x128 .bf16) (x1 x2 : Vec Ideal S2048x128 .bf16) (x3 : Vec Ideal S1x1x512x2 .f32)
  (x4 : Vec Ideal S1x1x4x2x512 .f32)

/-- The blocks of point `(b, p, i)`. -/
structure Blocks (q k : Four ℝ) (v : Four EReal) (c : Three ℝ) : Prop where
  q : ∀ (r : Fin 512) (e : Fin 2) (l : Fin 64), x0 (ix2 r ⟨64 * e.val + l.val, by omega⟩)
    = q b ⟨512 * i.val + r.val, by omega⟩ ⟨2 * p.val + e.val, by omega⟩ l * ((1 / 8 * (Real.log 2)⁻¹ : ℝ) : EReal)
  k : ∀ (t : Fin 2048) (e : Fin 2) (l : Fin 64), x1 (ix2 t ⟨64 * e.val + l.val, by omega⟩)
    = k b t ⟨2 * p.val + e.val, by omega⟩ l
  v : ∀ (t : Fin 2048) (e : Fin 2) (l : Fin 64), x2 (ix2 t ⟨64 * e.val + l.val, by omega⟩)
    = v b t ⟨2 * p.val + e.val, by omega⟩ l
  own : ∀ (r : Fin 512) (e : Fin 2), x3 (ix4 0 0 r e)
    = c b ⟨512 * i.val + r.val, by omega⟩ ⟨2 * p.val + e.val, by omega⟩
  key : ∀ (j : Fin 4) (e : Fin 2) (n : Fin 512), x4 (ix5 0 0 j e n)
    = c b ⟨512 * j.val + n.val, by omega⟩ ⟨2 * p.val + e.val, by omega⟩

variable {b p i x0 x1 x2 x3 x4}

theorem Blocks.score (B : Blocks b p i x0 x1 x2 x3 x4 q k v c) (e : Fin 2) (r : Fin 512) (j : Fin 4) (n : Fin 512) :
    blockScore e x0 x1 x4 j (ix2 r n) =
      (((sc q k c b ⟨2 * p.val + e.val, by omega⟩ ⟨512 * i.val + r.val, by omega⟩ (512 * j.val + n.val)
        - c b ⟨512 * i.val + r.val, by omega⟩ ⟨2 * p.val + e.val, by omega⟩) * (Real.log 2)⁻¹ : ℝ) : EReal) := by
  unfold blockScore
  rw [score_apply, gatesAt_apply, B.key, logE_eq]
  simp only [qHead_apply, rowsAt_apply, ite_mul, zero_mul]
  rw [sum_head]
  simp only [B.q, B.k, ← EReal.coe_mul, sum_coe, ← EReal.coe_sub]
  congr 1
  have := sc_fin q k c b ⟨2 * p.val + e.val, by omega⟩ ⟨512 * i.val + r.val, by omega⟩ ⟨512 * j.val + n.val, by omega⟩
  dsimp only at this
  rw [this, Finset.sum_congr rfl fun l _ => (mul_right_comm _ _ _), ← Finset.sum_mul]
  ring

theorem Blocks.value (B : Blocks b p i x0 x1 x2 x3 x4 q k v c) (r : Fin 512) (e : Fin 2) (l : Fin 64) (M : ℝ) :
    blockOut i x0 x1 x2 x3 x4 (ix2 r ⟨64 * e.val + l.val, by omega⟩)
      = row q k v c b ⟨2 * p.val + e.val, by omega⟩ ⟨512 * i.val + r.val, by omega⟩ l M := by
  have he : (⟨(64 * e.val + l.val) / 64, by omega⟩ : Fin 2) = e := Fin.ext (by simp; omega)
  refine blockOut_value i x0 x1 x2 x3 x4 r ⟨64 * e.val + l.val, by omega⟩ (v := vl v b ⟨2 * p.val + e.val, by omega⟩ l)
    (g := c b ⟨512 * i.val + r.val, by omega⟩ ⟨2 * p.val + e.val, by omega⟩ * (Real.log 2)⁻¹)
    (g' := c b ⟨512 * i.val + r.val, by omega⟩ ⟨2 * p.val + e.val, by omega⟩) M ?_
  dsimp only
  rw [he]
  refine ⟨fun j n => B.score e r j n, ?_, fun j n => ?_⟩
  · rw [B.own, logE_eq, EReal.coe_mul]
  · rw [B.v]
    exact (vl_fin v b ⟨2 * p.val + e.val, by omega⟩ l ⟨512 * j.val + n.val, by omega⟩).symm

end Cert.KernelIdeal.Attn

end
-- ==== Proof.Host.lean ====
/- The arrays the kernel's windows stage, as functions of the arguments, and those functions read at coordinates:
   scaled queries, keys, values (rows `2048·b + t`, columns `64·h + d`), and the cumulated gates in their two layouts. -/
module

public import proofs.«01_k».proof.Proof.Gen.KernelIdeal.Value
public import Idealize.ShloMosaic.Lib.Pointwise

@[expose] public section

noncomputable section

namespace Cert.KernelIdeal.Attn

open Cert.KernelIdeal Cert.KernelIdeal.Gen Cert.KernelIdeal.Facts Idealize.ShloMosaic Idealize.ShloMosaic.TcCoe

/-- The scale of the queries, `(1/8) / log 2`. -/
def scale : FVec Ideal S_ .f32 := Host.divf (constant S_ .f32 0x3E000000#32) (Host.log (constant S_ .f32 0x40000000#32))

def hostQ (x : FVec Ideal S8x2048x8x64 .f32) : FVec Ideal S16384x512 .bf16 :=
  truncf .bf16 (mulf (shapeCast S16384x512 x shapeCasts_S8x2048x8x64_S16384x512)
    (broadcastInDim S16384x512 ![] bcast_S_S16384x512 scale)) bitsLt_bf16_f32

def hostKV (x : FVec Ideal S8x2048x8x64 .f32) : FVec Ideal S16384x512 .bf16 :=
  truncf .bf16 (shapeCast S16384x512 x shapeCasts_S8x2048x8x64_S16384x512) bitsLt_bf16_f32

def hostCq (x : FVec Ideal S8x2048x8 .f32) : FVec Ideal S8x4x2048x2 .f32 :=
  transpose S8x4x2048x2 [0, 2, 1, 3] (shapeCast S8x2048x4x2 x shapeCasts_S8x2048x8_S8x2048x4x2)
    transposes_S8x2048x4x2_S8x4x2048x2_0_2_1_3

def hostCk (x : FVec Ideal S8x2048x8 .f32) : FVec Ideal S8x4x4x2x512 .f32 :=
  transpose S8x4x4x2x512 [0, 3, 1, 4, 2] (shapeCast S8x4x512x4x2 (shapeCast S8x2048x4x2 x shapeCasts_S8x2048x8_S8x2048x4x2)
    shapeCasts_S8x2048x4x2_S8x4x512x4x2) transposes_S8x4x512x4x2_S8x4x4x2x512_0_3_1_4_2

theorem scale_eq (i : S_.Idx) : scale i = ((1 / 8 * (Real.log 2)⁻¹ : ℝ) : EReal) := by
  show Ideal.div (Ideal.ofBits .f32 0x3E000000#32) (Ideal.log (Ideal.ofBits .f32 0x40000000#32)) = _
  have h8 : Ideal.ofBits .f32 0x3E000000#32 = ((1 / 8 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  have hl : Real.log 2 ≠ 0 := (Real.log_pos (by norm_num)).ne'
  rw [h8, h2, Ideal.log_coe, if_neg (by norm_num), Ideal.div_coe hl, ← EReal.coe_mul, one_div (Real.log 2)]

theorem hostQ_apply (x : FVec Ideal S8x2048x8x64 .f32) (b : Fin 8) (t : Fin 2048) (h : Fin 8) (d : Fin 64) :
    hostQ x (ix2 ⟨2048 * b.val + t.val, by omega⟩ ⟨64 * h.val + d.val, by omega⟩)
      = x (ix4 b t h d) * ((1 / 8 * (Real.log 2)⁻¹ : ℝ) : EReal) := by
  unfold hostQ
  pointwise
  rw [scale_eq]

theorem hostKV_apply (x : FVec Ideal S8x2048x8x64 .f32) (b : Fin 8) (t : Fin 2048) (h : Fin 8) (d : Fin 64) :
    hostKV x (ix2 ⟨2048 * b.val + t.val, by omega⟩ ⟨64 * h.val + d.val, by omega⟩) = x (ix4 b t h d) := by
  unfold hostKV
  pointwise

theorem hostCq_apply (x : FVec Ideal S8x2048x8 .f32) (b : Fin 8) (p : Fin 4) (t : Fin 2048) (e : Fin 2) :
    hostCq x (ix4 b p t e) = x (ix3 b t ⟨p.val * 2 + e.val, by omega⟩) := by
  unfold hostCq
  pointwise

theorem hostCk_apply (x : FVec Ideal S8x2048x8 .f32) (b : Fin 8) (p : Fin 4) (j : Fin 4) (e : Fin 2) (k : Fin 512) :
    hostCk x (ix5 b p j e k) = x (ix3 b ⟨j.val * 512 + k.val, by omega⟩ ⟨p.val * 2 + e.val, by omega⟩) := by
  unfold hostCk
  pointwise

section

variable (m : (ℓ : Loc nD τ sig) → Buf (Elt Ideal) ℓ) (c : Dev nD)

theorem V_q : V m c main_v5 = hostQ (m ((c : Thread nD τ).loc main_arg0)) := rfl
theorem V_k : V m c main_v7 = hostKV (m ((c : Thread nD τ).loc main_arg1)) := rfl
theorem V_v : V m c main_v9 = hostKV (m ((c : Thread nD τ).loc main_arg2)) := rfl
theorem V_cq : V m c main_v11 = hostCq (m ((c : Thread nD τ).loc main_arg3)) := rfl
theorem V_ck : V m c main_v13 = hostCk (m ((c : Thread nD τ).loc main_arg3)) := rfl

end

end Cert.KernelIdeal.Attn

end
-- ==== Proof.BlockA.lean ====
/- What the body stores at a point of case A: the functions of `Step.lean` composed. -/
module

public import proofs.«01_k».proof.Proof.Step
public import proofs.«01_k».proof.Proof.Gen.KernelIdeal.Frame

@[expose] public section

set_option maxRecDepth 16384

noncomputable section

namespace Cert.KernelIdeal.Attn

open Cert.KernelIdeal Cert.KernelIdeal.Gen Cert.KernelIdeal.Facts Idealize.ShloMosaic Idealize.ShloMosaic.TcCoe Idealize.ShloMosaic.Tactic Idealize.SL.Sem

variable {F : FTy → Type} [FloatOps F] [Named F]

/-- Query block 0 stores the two heads run through key blocks 0 … 0. -/
theorem out_A (c : Dev nD) (i : grid0.Coords) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x1x512x2 .f32) (harg6 : arg6.IsWhole) (arg7 : Memref sig .tc .vmem S1x1x4x2x512 .f32) (harg7 : arg7.IsWhole) (arg8 : Memref sig .tc .vmem S512x128 .bf16) (harg8 : arg8.IsWhole) (hc0 : cond0_0 i) (hc1 : ¬cond0_1 i) (hc2 : ¬cond0_2 i) (hc3 : ¬cond0_3 i)
    (x0 : Vec F S512x128 .bf16) (x1 : Vec F S2048x128 .bf16) (x2 : Vec F S2048x128 .bf16) (x3 : Vec F S1x1x512x2 .f32) (x4 : Vec F S1x1x4x2x512 .f32) :
    out0_A_5 c i arg3 harg3 arg4 harg4 arg5 harg5 arg6 harg6 arg7 harg7 arg8 harg8 hc0 hc1 hc2 hc3 x0 x1 x2 x3 x4
      = blockOut 0 x0 x1 x2 x3 x4 := by
  unfold out0_A_5
  rw [View.read_writes_eq_canon _ _ _ (cover0_A_5 c i arg3 harg3 arg4 harg4 arg5 harg5 arg6 harg6 arg7 harg7 arg8 harg8 hc0 hc1 hc2 hc3 x0 x1 x2 x3 x4)]
  unfold kernelRun0_A
  dsimp only
  sl_unfold_words
  simp only [View.readAt_eq_ld, harg3.read_unread, harg4.read_unread, harg5.read_unread, harg6.read_unread, harg7.read_unread]
  rw [View.canon_unit_zero (by funext a; fin_cases a <;> rfl)]
  rw [View.ld_unit_zero (by funext a; fin_cases a <;> rfl)]
  rfl

end Cert.KernelIdeal.Attn

end
-- ==== Proof.BlockB.lean ====
/- What the body stores at a point of case B: the functions of `Step.lean` composed. -/
module

public import proofs.«01_k».proof.Proof.Step
public import proofs.«01_k».proof.Proof.Gen.KernelIdeal.Frame

@[expose] public section

set_option maxRecDepth 16384

noncomputable section

namespace Cert.KernelIdeal.Attn

open Cert.KernelIdeal Cert.KernelIdeal.Gen Cert.KernelIdeal.Facts Idealize.ShloMosaic Idealize.ShloMosaic.TcCoe Idealize.ShloMosaic.Tactic Idealize.SL.Sem

variable {F : FTy → Type} [FloatOps F] [Named F]

/-- Query block 1 stores the two heads run through key blocks 0 … 1. -/
theorem out_B (c : Dev nD) (i : grid0.Coords) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x1x512x2 .f32) (harg6 : arg6.IsWhole) (arg7 : Memref sig .tc .vmem S1x1x4x2x512 .f32) (harg7 : arg7.IsWhole) (arg8 : Memref sig .tc .vmem S512x128 .bf16) (harg8 : arg8.IsWhole) (hc0 : ¬cond0_0 i) (hc1 : cond0_1 i) (hc2 : ¬cond0_2 i) (hc3 : ¬cond0_3 i)
    (x0 : Vec F S512x128 .bf16) (x1 : Vec F S2048x128 .bf16) (x2 : Vec F S2048x128 .bf16) (x3 : Vec F S1x1x512x2 .f32) (x4 : Vec F S1x1x4x2x512 .f32) :
    out0_B_5 c i arg3 harg3 arg4 harg4 arg5 harg5 arg6 harg6 arg7 harg7 arg8 harg8 hc0 hc1 hc2 hc3 x0 x1 x2 x3 x4
      = blockOut 1 x0 x1 x2 x3 x4 := by
  unfold out0_B_5
  rw [View.read_writes_eq_canon _ _ _ (cover0_B_5 c i arg3 harg3 arg4 harg4 arg5 harg5 arg6 harg6 arg7 harg7 arg8 harg8 hc0 hc1 hc2 hc3 x0 x1 x2 x3 x4)]
  unfold kernelRun0_B
  dsimp only
  sl_unfold_words
  simp only [View.readAt_eq_ld, harg3.read_unread, harg4.read_unread, harg5.read_unread, harg6.read_unread, harg7.read_unread]
  rw [View.canon_unit_zero (by funext a; fin_cases a <;> rfl)]
  rw [View.ld_unit_zero (by funext a; fin_cases a <;> rfl)]
  rfl

end Cert.KernelIdeal.Attn

end
-- ==== Proof.BlockC.lean ====
/- What the body stores at a point of case C: the functions of `Step.lean` composed. -/
module

public import proofs.«01_k».proof.Proof.Step
public import proofs.«01_k».proof.Proof.Gen.KernelIdeal.Frame

@[expose] public section

set_option maxRecDepth 16384

noncomputable section

namespace Cert.KernelIdeal.Attn

open Cert.KernelIdeal Cert.KernelIdeal.Gen Cert.KernelIdeal.Facts Idealize.ShloMosaic Idealize.ShloMosaic.TcCoe Idealize.ShloMosaic.Tactic Idealize.SL.Sem

variable {F : FTy → Type} [FloatOps F] [Named F]

/-- Query block 2 stores the two heads run through key blocks 0 … 2. -/
theorem out_C (c : Dev nD) (i : grid0.Coords) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x1x512x2 .f32) (harg6 : arg6.IsWhole) (arg7 : Memref sig .tc .vmem S1x1x4x2x512 .f32) (harg7 : arg7.IsWhole) (arg8 : Memref sig .tc .vmem S512x128 .bf16) (harg8 : arg8.IsWhole) (hc0 : ¬cond0_0 i) (hc1 : ¬cond0_1 i) (hc2 : cond0_2 i) (hc3 : ¬cond0_3 i)
    (x0 : Vec F S512x128 .bf16) (x1 : Vec F S2048x128 .bf16) (x2 : Vec F S2048x128 .bf16) (x3 : Vec F S1x1x512x2 .f32) (x4 : Vec F S1x1x4x2x512 .f32) :
    out0_C_5 c i arg3 harg3 arg4 harg4 arg5 harg5 arg6 harg6 arg7 harg7 arg8 harg8 hc0 hc1 hc2 hc3 x0 x1 x2 x3 x4
      = blockOut 2 x0 x1 x2 x3 x4 := by
  unfold out0_C_5
  rw [View.read_writes_eq_canon _ _ _ (cover0_C_5 c i arg3 harg3 arg4 harg4 arg5 harg5 arg6 harg6 arg7 harg7 arg8 harg8 hc0 hc1 hc2 hc3 x0 x1 x2 x3 x4)]
  unfold kernelRun0_C
  dsimp only
  sl_unfold_words
  simp only [View.readAt_eq_ld, harg3.read_unread, harg4.read_unread, harg5.read_unread, harg6.read_unread, harg7.read_unread]
  rw [View.canon_unit_zero (by funext a; fin_cases a <;> rfl)]
  rw [View.ld_unit_zero (by funext a; fin_cases a <;> rfl)]
  rfl

end Cert.KernelIdeal.Attn

end
-- ==== Proof.BlockD.lean ====
/- What the body stores at a point of case D: the functions of `Step.lean` composed. -/
module

public import proofs.«01_k».proof.Proof.Step
public import proofs.«01_k».proof.Proof.Gen.KernelIdeal.Frame

@[expose] public section

set_option maxRecDepth 16384

noncomputable section

namespace Cert.KernelIdeal.Attn

open Cert.KernelIdeal Cert.KernelIdeal.Gen Cert.KernelIdeal.Facts Idealize.ShloMosaic Idealize.ShloMosaic.TcCoe Idealize.ShloMosaic.Tactic Idealize.SL.Sem

variable {F : FTy → Type} [FloatOps F] [Named F]

/-- Query block 3 stores the two heads run through key blocks 0 … 3. -/
theorem out_D (c : Dev nD) (i : grid0.Coords) (arg3 : Memref sig .tc .vmem S512x128 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x1x512x2 .f32) (harg6 : arg6.IsWhole) (arg7 : Memref sig .tc .vmem S1x1x4x2x512 .f32) (harg7 : arg7.IsWhole) (arg8 : Memref sig .tc .vmem S512x128 .bf16) (harg8 : arg8.IsWhole) (hc0 : ¬cond0_0 i) (hc1 : ¬cond0_1 i) (hc2 : ¬cond0_2 i) (hc3 : cond0_3 i)
    (x0 : Vec F S512x128 .bf16) (x1 : Vec F S2048x128 .bf16) (x2 : Vec F S2048x128 .bf16) (x3 : Vec F S1x1x512x2 .f32) (x4 : Vec F S1x1x4x2x512 .f32) :
    out0_D_5 c i arg3 harg3 arg4 harg4 arg5 harg5 arg6 harg6 arg7 harg7 arg8 harg8 hc0 hc1 hc2 hc3 x0 x1 x2 x3 x4
      = blockOut 3 x0 x1 x2 x3 x4 := by
  unfold out0_D_5
  rw [View.read_writes_eq_canon _ _ _ (cover0_D_5 c i arg3 harg3 arg4 harg4 arg5 harg5 arg6 harg6 arg7 harg7 arg8 harg8 hc0 hc1 hc2 hc3 x0 x1 x2 x3 x4)]
  unfold kernelRun0_D
  dsimp only
  sl_unfold_words
  simp only [View.readAt_eq_ld, harg3.read_unread, harg4.read_unread, harg5.read_unread, harg6.read_unread, harg7.read_unread]
  rw [View.canon_unit_zero (by funext a; fin_cases a <;> rfl)]
  rw [View.ld_unit_zero (by funext a; fin_cases a <;> rfl)]
  rfl

end Cert.KernelIdeal.Attn

end
-- ==== Proof.Final.lean ====
/- From the windows' blocks to the result array: each point's blocks are the parts `Heads.Blocks` of the arguments, so
   the array after the run is any array whose entries are the attention's rows. -/
module

public import proofs.«01_k».proof.Proof.Heads
public import proofs.«01_k».proof.Proof.Host
public import proofs.«01_k».proof.Proof.BlockA
public import proofs.«01_k».proof.Proof.BlockB
public import proofs.«01_k».proof.Proof.BlockC
public import proofs.«01_k».proof.Proof.BlockD
public import Idealize.ShloMosaic.Lib.Pipeline.ValueKit

@[expose] public section

noncomputable section

namespace Cert.KernelIdeal.Attn

open Cert.KernelIdeal Cert.KernelIdeal.Gen Cert.KernelIdeal.Facts Cert.KernelIdeal.Value Idealize.ShloMosaic Idealize.ShloMosaic.TcCoe _root_.Attn

theorem lt128 (t : Fin cfg0.N) : t.val < 128 := t.isLt.trans_eq rfl

def bOf (t : Fin cfg0.N) : Fin 8 := ⟨t.val / 16, by have := lt128 t; omega⟩
def pOf (t : Fin cfg0.N) : Fin 4 := ⟨t.val / 4 % 4, by omega⟩
def iOf (t : Fin cfg0.N) : Fin 4 := ⟨t.val % 4, by omega⟩

theorem idx0 : ∀ t : Fin cfg0.N, win0_0.index t (0 : Fin 2) = t.val / 16 * 4 + t.val % 4 ∧ win0_0.index t (1 : Fin 2) = t.val / 4 % 4 :=
  (by decide +kernel : ∀ t : Fin grid0.N, _)
theorem idx1 : ∀ t : Fin cfg0.N, win0_1.index t (0 : Fin 2) = t.val / 16 ∧ win0_1.index t (1 : Fin 2) = t.val / 4 % 4 :=
  (by decide +kernel : ∀ t : Fin grid0.N, _)
theorem idx2 : ∀ t : Fin cfg0.N, win0_2.index t (0 : Fin 2) = t.val / 16 ∧ win0_2.index t (1 : Fin 2) = t.val / 4 % 4 :=
  (by decide +kernel : ∀ t : Fin grid0.N, _)
theorem idx3 : ∀ t : Fin cfg0.N, win0_3.index t (0 : Fin 4) = t.val / 16 ∧ win0_3.index t (1 : Fin 4) = t.val / 4 % 4
    ∧ win0_3.index t (2 : Fin 4) = t.val % 4 ∧ win0_3.index t (3 : Fin 4) = 0 :=
  (by decide +kernel : ∀ t : Fin grid0.N, _)
theorem idx4 : ∀ t : Fin cfg0.N, win0_4.index t (0 : Fin 5) = t.val / 16 ∧ win0_4.index t (1 : Fin 5) = t.val / 4 % 4
    ∧ win0_4.index t (2 : Fin 5) = 0 ∧ win0_4.index t (3 : Fin 5) = 0 ∧ win0_4.index t (4 : Fin 5) = 0 :=
  (by decide +kernel : ∀ t : Fin grid0.N, _)
theorem idx5 : ∀ t : Fin cfg0.N, win0_5.index t (0 : Fin 2) = t.val / 16 * 4 + t.val % 4 ∧ win0_5.index t (1 : Fin 2) = t.val / 4 % 4 :=
  (by decide +kernel : ∀ t : Fin grid0.N, _)

theorem emb0 (t : Fin cfg0.N) (r : Fin 512) (e : Fin 2) (l : Fin 64) :
    (win0_0.blk t).view.emb (ix2 r (⟨64 * e.val + l.val, by omega⟩ : Fin 128))
      = ix2 (⟨2048 * (bOf t).val + (512 * (iOf t).val + r.val), by have := (bOf t).isLt; have := (iOf t).isLt; omega⟩ : Fin 16384)
        (⟨64 * (2 * (pOf t).val + e.val) + l.val, by have := (pOf t).isLt; omega⟩ : Fin 512) := by
  obtain ⟨h0, h1⟩ := idx0 t
  funext a; apply Fin.ext
  match a with
  | ⟨0, _⟩ => show win0_0.index t (0 : Fin 2) * 512 + 1 * r.val = 2048 * (t.val / 16) + (512 * (t.val % 4) + r.val); omega
  | ⟨1, _⟩ => show win0_0.index t (1 : Fin 2) * 128 + 1 * (64 * e.val + l.val) = 64 * (2 * (t.val / 4 % 4) + e.val) + l.val; omega

theorem emb5 (t : Fin cfg0.N) (r : Fin 512) (e : Fin 2) (l : Fin 64) :
    (win0_5.blk t).view.emb (ix2 r (⟨64 * e.val + l.val, by omega⟩ : Fin 128))
      = ix2 (⟨2048 * (bOf t).val + (512 * (iOf t).val + r.val), by have := (bOf t).isLt; have := (iOf t).isLt; omega⟩ : Fin 16384)
        (⟨64 * (2 * (pOf t).val + e.val) + l.val, by have := (pOf t).isLt; omega⟩ : Fin 512) := by
  obtain ⟨h0, h1⟩ := idx5 t
  funext a; apply Fin.ext
  match a with
  | ⟨0, _⟩ => show win0_5.index t (0 : Fin 2) * 512 + 1 * r.val = 2048 * (t.val / 16) + (512 * (t.val % 4) + r.val); omega
  | ⟨1, _⟩ => show win0_5.index t (1 : Fin 2) * 128 + 1 * (64 * e.val + l.val) = 64 * (2 * (t.val / 4 % 4) + e.val) + l.val; omega

theorem emb1 (t : Fin cfg0.N) (r : Fin 2048) (e : Fin 2) (l : Fin 64) :
    (win0_1.blk t).view.emb (ix2 r (⟨64 * e.val + l.val, by omega⟩ : Fin 128))
      = ix2 (⟨2048 * (bOf t).val + r.val, by have := (bOf t).isLt; omega⟩ : Fin 16384)
        (⟨64 * (2 * (pOf t).val + e.val) + l.val, by have := (pOf t).isLt; omega⟩ : Fin 512) := by
  obtain ⟨h0, h1⟩ := idx1 t
  funext a; apply Fin.ext
  match a with
  | ⟨0, _⟩ => show win0_1.index t (0 : Fin 2) * 2048 + 1 * r.val = 2048 * (t.val / 16) + r.val; omega
  | ⟨1, _⟩ => show win0_1.index t (1 : Fin 2) * 128 + 1 * (64 * e.val + l.val) = 64 * (2 * (t.val / 4 % 4) + e.val) + l.val; omega

theorem emb2 (t : Fin cfg0.N) (r : Fin 2048) (e : Fin 2) (l : Fin 64) :
    (win0_2.blk t).view.emb (ix2 r (⟨64 * e.val + l.val, by omega⟩ : Fin 128))
      = ix2 (⟨2048 * (bOf t).val + r.val, by have := (bOf t).isLt; omega⟩ : Fin 16384)
        (⟨64 * (2 * (pOf t).val + e.val) + l.val, by have := (pOf t).isLt; omega⟩ : Fin 512) := by
  obtain ⟨h0, h1⟩ := idx2 t
  funext a; apply Fin.ext
  match a with
  | ⟨0, _⟩ => show win0_2.index t (0 : Fin 2) * 2048 + 1 * r.val = 2048 * (t.val / 16) + r.val; omega
  | ⟨1, _⟩ => show win0_2.index t (1 : Fin 2) * 128 + 1 * (64 * e.val + l.val) = 64 * (2 * (t.val / 4 % 4) + e.val) + l.val; omega

theorem emb3 (t : Fin cfg0.N) (r : Fin 512) (e : Fin 2) :
    (win0_3.blk t).view.emb (ix4 (0 : Fin 1) (0 : Fin 1) r e)
      = ix4 (bOf t) (pOf t) (⟨512 * (iOf t).val + r.val, by have := (iOf t).isLt; omega⟩ : Fin 2048) e := by
  obtain ⟨h0, h1, h2, h3⟩ := idx3 t
  funext a; apply Fin.ext
  match a with
  | ⟨0, _⟩ => show win0_3.index t (0 : Fin 4) * 1 + 1 * 0 = t.val / 16; omega
  | ⟨1, _⟩ => show win0_3.index t (1 : Fin 4) * 1 + 1 * 0 = t.val / 4 % 4; omega
  | ⟨2, _⟩ => show win0_3.index t (2 : Fin 4) * 512 + 1 * r.val = 512 * (t.val % 4) + r.val; omega
  | ⟨3, _⟩ => show win0_3.index t (3 : Fin 4) * 2 + 1 * e.val = e.val; omega

theorem emb4 (t : Fin cfg0.N) (j : Fin 4) (e : Fin 2) (n : Fin 512) :
    (win0_4.blk t).view.emb (ix5 (0 : Fin 1) (0 : Fin 1) j e n) = ix5 (bOf t) (pOf t) j e n := by
  obtain ⟨h0, h1, h2, h3, h4⟩ := idx4 t
  funext a; apply Fin.ext
  match a with
  | ⟨0, _⟩ => show win0_4.index t (0 : Fin 5) * 1 + 1 * 0 = t.val / 16; omega
  | ⟨1, _⟩ => show win0_4.index t (1 : Fin 5) * 1 + 1 * 0 = t.val / 4 % 4; omega
  | ⟨2, _⟩ => show win0_4.index t (2 : Fin 5) * 4 + 1 * j.val = j.val; omega
  | ⟨3, _⟩ => show win0_4.index t (3 : Fin 5) * 2 + 1 * e.val = e.val; omega
  | ⟨4, _⟩ => show win0_4.index t (4 : Fin 5) * 512 + 1 * n.val = n.val; omega

variable (m : (ℓ : Loc nD τ sig) → Buf (Elt Ideal) ℓ) (c : Dev nD)

/-- The arguments are finite reals, the values any. -/
structure Args (x0 x1 x2 : FVec Ideal S8x2048x8x64 .f32) (x3 : FVec Ideal S8x2048x8 .f32) (q k : Four ℝ) (v : Four EReal) (g : Three ℝ) : Prop where
  q : ∀ b t h d, x0 (ix4 b t h d) = (q b t h d : EReal)
  k : ∀ b t h d, x1 (ix4 b t h d) = (k b t h d : EReal)
  v : ∀ b t h d, x2 (ix4 b t h d) = v b t h d
  c : ∀ b t h, x3 (ix3 b t h) = (g b t h : EReal)

theorem blocks_at {q k : Four ℝ} {v : Four EReal} {g : Three ℝ}
    (A : Args (m ((c : Thread nD τ).loc main_arg0)) (m ((c : Thread nD τ).loc main_arg1)) (m ((c : Thread nD τ).loc main_arg2))
      (m ((c : Thread nD τ).loc main_arg3)) q k v g) (t : Fin cfg0.N) :
    Blocks (bOf t) (pOf t) (iOf t) (iblk m c 0 t) (iblk m c 1 t) (iblk m c 2 t) (iblk m c 3 t) (iblk m c 4 t) q k v g where
  q r e l := by
    show V m c main_v5 ((win0_0.blk t).view.emb (ix2 r (⟨64 * e.val + l.val, by omega⟩ : Fin 128))) = _
    rw [emb0, V_q, ← A.q]
    exact hostQ_apply _ (bOf t) ⟨512 * (iOf t).val + r.val, by have := (iOf t).isLt; omega⟩ ⟨2 * (pOf t).val + e.val, by have := (pOf t).isLt; omega⟩ l
  k r e l := by
    show V m c main_v7 ((win0_1.blk t).view.emb (ix2 r (⟨64 * e.val + l.val, by omega⟩ : Fin 128))) = _
    rw [emb1, V_k, ← A.k]
    exact hostKV_apply _ (bOf t) r ⟨2 * (pOf t).val + e.val, by have := (pOf t).isLt; omega⟩ l
  v r e l := by
    show V m c main_v9 ((win0_2.blk t).view.emb (ix2 r (⟨64 * e.val + l.val, by omega⟩ : Fin 128))) = _
    rw [emb2, V_v, ← A.v]
    exact hostKV_apply _ (bOf t) r ⟨2 * (pOf t).val + e.val, by have := (pOf t).isLt; omega⟩ l
  own r e := by
    show V m c main_v11 ((win0_3.blk t).view.emb (ix4 (0 : Fin 1) (0 : Fin 1) r e)) = _
    rw [emb3, V_cq, hostCq_apply, ← A.c]
    refine congrArg _ (congrArg _ (Fin.ext ?_))
    show (pOf t).val * 2 + e.val = 2 * (pOf t).val + e.val; omega
  key j e n := by
    show V m c main_v13 ((win0_4.blk t).view.emb (ix5 (0 : Fin 1) (0 : Fin 1) j e n)) = _
    rw [emb4, V_ck, hostCk_apply, ← A.c]
    refine congrArg _ (congrArg₂ _ (Fin.ext ?_) (Fin.ext ?_))
    · show j.val * 512 + n.val = 512 * j.val + n.val; omega
    · show (pOf t).val * 2 + e.val = 2 * (pOf t).val + e.val; omega

/-- What a point writes back is the block's rows. -/
theorem flushed_at (t : Fin cfg0.N) : (dats m 0 c).flushed 5 t
    = (cfg0.win 5).cut (grid0.coords t) (blockOut (iOf t) (iblk m c 0 t) (iblk m c 1 t) (iblk m c 2 t) (iblk m c 3 t) (iblk m c 4 t)) := by
  have h : t.val % 4 < 4 := by omega
  by_cases h0 : t.val % 4 = 0
  · rw [flushed5_A m c t h0 (by omega) (by omega) (by omega), out_A, show iOf t = 0 from Fin.ext h0]
  by_cases h1 : t.val % 4 = 1
  · rw [flushed5_B m c t h0 h1 (by omega) (by omega), out_B, show iOf t = 1 from Fin.ext h1]
  by_cases h2 : t.val % 4 = 2
  · rw [flushed5_C m c t h0 h1 h2 (by omega), out_C, show iOf t = 2 from Fin.ext h2]
  · rw [flushed5_D m c t h0 h1 h2 (by omega), out_D, show iOf t = 3 from Fin.ext (by show t.val % 4 = 3; omega)]

/-- The array after the run, when each entry of `G` is the attention's row at some real offset. -/
theorem final {q k : Four ℝ} {v : Four EReal} {g : Three ℝ}
    (A : Args (m ((c : Thread nD τ).loc main_arg0)) (m ((c : Thread nD τ).loc main_arg1)) (m ((c : Thread nD τ).loc main_arg2))
      (m ((c : Thread nD τ).loc main_arg3)) q k v g) (G : Vec Ideal S16384x512 .bf16)
    (hG : ∀ (b h : Fin 8) (t : Fin 2048) (d : Fin 64), ∃ M : ℝ,
      G (ix2 ⟨2048 * b.val + t.val, by omega⟩ ⟨64 * h.val + d.val, by omega⟩) = row q k v g b h t d M) :
    (dats m 0 c).arrAt 5 cfg0.N = G := by
  refine (dats m 0 c).arrAt_eq_of_cover 5 G (fun t _ => ?_) fun j => ?_
  · rw [flushed_at]
    funext y
    obtain ⟨r, d, rfl⟩ : ∃ (r : Fin 512) (d : Fin 128), y = ix2 r d := ⟨y 0, y 1, by funext a; match a with | ⟨0, _⟩ => rfl | ⟨1, _⟩ => rfl⟩
    obtain ⟨e, l, rfl⟩ : ∃ (e : Fin 2) (l : Fin 64), d = ⟨64 * e.val + l.val, by omega⟩ :=
      ⟨⟨d.val / 64, by omega⟩, ⟨d.val % 64, by omega⟩, Fin.ext (by show d.val = 64 * (d.val / 64) + d.val % 64; omega)⟩
    show blockOut (iOf t) (iblk m c 0 t) (iblk m c 1 t) (iblk m c 2 t) (iblk m c 3 t) (iblk m c 4 t) (ix2 r ⟨64 * e.val + l.val, by omega⟩)
      = G ((win0_5.blk t).view.emb (ix2 r (⟨64 * e.val + l.val, by omega⟩ : Fin 128)))
    rw [emb5]
    obtain ⟨M, hM⟩ := hG (bOf t) ⟨2 * (pOf t).val + e.val, by have := (pOf t).isLt; omega⟩ ⟨512 * (iOf t).val + r.val, by have := (iOf t).isLt; omega⟩ l
    exact ((blocks_at m c A t).value r e l M).trans hM.symm
  · obtain ⟨R, C, rfl⟩ : ∃ (R : Fin 16384) (C : Fin 512), j = ix2 R C := ⟨j 0, j 1, by funext a; match a with | ⟨0, _⟩ => rfl | ⟨1, _⟩ => rfl⟩
    have ht : R.val / 2048 * 16 + C.val / 128 * 4 + R.val / 512 % 4 < cfg0.N := by
      show _ < 128; omega
    refine ⟨⟨_, ht⟩, flush0_5 _, ?_⟩
    have h := (win0_5.blk ⟨_, ht⟩).view.emb_mem_set (ix2 (⟨R.val % 512, by omega⟩ : Fin 512)
      (⟨64 * (⟨C.val / 64 % 2, by omega⟩ : Fin 2).val + (⟨C.val % 64, by omega⟩ : Fin 64).val, by dsimp only; omega⟩ : Fin 128))
    rw [emb5] at h
    convert h using 2 <;> apply Fin.ext
    · show R.val = 2048 * ((R.val / 2048 * 16 + C.val / 128 * 4 + R.val / 512 % 4) / 16) + (512 * ((R.val / 2048 * 16 + C.val / 128 * 4 + R.val / 512 % 4) % 4) + R.val % 512)
      omega
    · show C.val = 64 * (2 * ((R.val / 2048 * 16 + C.val / 128 * 4 + R.val / 512 % 4) / 4 % 4) + C.val / 64 % 2) + C.val % 64
      omega

end Cert.KernelIdeal.Attn

end
-- ==== Proof.Algebraic.lean ====
/- The value claim: on finite queries, keys and gates the kernel's result array is the reference's. -/
module

public import proofs.«01_k».proof.Defs
public import proofs.«01_k».proof.Proof.Gen.ReferenceIdeal.Run
public import proofs.«01_k».proof.Proof.Finite
public import proofs.«01_k».proof.Proof.Goal
public import proofs.«01_k».proof.Proof.Final

@[expose] public section

noncomputable section

namespace Cert.Proof

open Idealize.ShloMosaic Idealize.ShloMosaic.TcCoe Idealize.SL.Sem

/-- The kernel's result on device `c`, from memory `m`. -/
theorem result (m : (ℓ : Loc Cert.KernelIdeal.nD Cert.KernelIdeal.τ Cert.KernelIdeal.sig) → Buf (Elt Ideal) ℓ)
    (h : Pre_KernelIdeal_finite m) (c : Dev Cert.KernelIdeal.nD) :
    (Cert.KernelIdeal.Gen.dats m 0 c).arrAt 5 Cert.KernelIdeal.cfg0.N
      = Cert.ReferenceIdeal.Read.val_main_v32 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) := by
  have fin := Cert.Pre_finite.Attn.finite _ _ _ _ (h c)
  have A : Cert.KernelIdeal.Attn.Args
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (fun b t g d => EReal.toReal (m ((c.tc : Thread Cert.KernelIdeal.nD Cert.KernelIdeal.τ).loc Cert.KernelIdeal.main_arg0) (ix4 b t g d)))
      (fun b t g d => EReal.toReal (m ((c.tc : Thread Cert.KernelIdeal.nD Cert.KernelIdeal.τ).loc Cert.KernelIdeal.main_arg1) (ix4 b t g d)))
      (fun b t g d => m ((c.tc : Thread Cert.KernelIdeal.nD Cert.KernelIdeal.τ).loc Cert.KernelIdeal.main_arg2) (ix4 b t g d))
      (fun b t g => EReal.toReal (m ((c.tc : Thread Cert.KernelIdeal.nD Cert.KernelIdeal.τ).loc Cert.KernelIdeal.main_arg3) (ix3 b t g))) :=
    ⟨fun b t g d => (EReal.coe_toReal (fin b t g d).1.1 (fin b t g d).1.2).symm,
     fun b t g d => (EReal.coe_toReal (fin b t g d).2.1.1 (fin b t g d).2.1.2).symm,
     fun _ _ _ _ => rfl,
     fun b t g => (EReal.coe_toReal (fin b t g 0).2.2.1 (fin b t g 0).2.2.2).symm⟩
  exact Cert.KernelIdeal.Attn.final m c A _ fun b g t d => Cert.ReferenceIdeal.Attn.value A.q A.k A.c b g t d

theorem algebraic : algebraic_KernelIdeal_ReferenceIdeal_pre_finite := by
  intro m g m' g' h agree
  refine ⟨fun c => (Cert.KernelIdeal.Gen.dats m 0 c).arrAt 5 Cert.KernelIdeal.cfg0.N,
    Cert.KernelIdeal.Value.run_blocks m g, ?_⟩
  refine (θ_run _ _ _).mono (fun r hr c => ⟨(hr c).1.trans ?_, (hr c).2⟩) (Cert.ReferenceIdeal.Value.run m' g')
  obtain ⟨e0, e1, e2, e3⟩ := agree c
  rw [Cert.ReferenceIdeal.Read.val_main_v32_eq, e0, e1, e2, e3]
  exact (result m h c).symm

end Cert.Proof

end
-- ==== Proof.LatentFinite.lean ====
/- The precondition of the latent attention decoded: every entry of the six arguments is neither infinity. -/
module

public import proofs.«01_k».proof.Proof.Gen.Pre_finite2
public import proofs.«01_k».proof.Proof.Finite
public import Idealize.ShloMosaic.Lib.ReduceAll

@[expose] public section

noncomputable section

namespace Cert.Pre_finite2.Attn

open Cert.Pre_finite2 Cert.Pre_finite2.Facts Idealize.ShloMosaic Cert.Pre_finite.Attn

/-- One argument's conjunction over all its entries. -/
theorem all_finite {s : Shape} {axes : List (Fin s.rank)} (x : FVec Ideal s .f32) (hb : S_.BroadcastsInDim s (![] : Fin 0 → Fin s.rank))
    (hr : s.ReducesTo axes S_) (j : S_.Idx)
    (e : Host.reduce IntOp.andi (cmpf .olt (Host.absf x) (broadcastInDim s ![] hb (constant S_ .f32 0x7F800000#32)))
      (constantI S_ 1 1#1) hr h_S_ j = 1#1) (i : s.Idx) : x i ≠ ⊤ ∧ x i ≠ ⊥ :=
  finite_of_abs (of_bool (Host.reduce_andi_all _ _ _ _ j e i))

theorem finite (x0 : FVec Ideal S8x2048x8x64 .f32) (x1 : FVec Ideal S8x2048x8x32 .f32) (x2 : FVec Ideal S8x2048x256 .f32)
    (x3 : FVec Ideal S8x2048x32 .f32) (x4 x5 : FVec Ideal S256x8x64 .f32)
    (h : Cert.Pre_finite2.fn (F := Ideal) x0 x1 x2 x3 x4 x5 = fun _ => 1#1) :
    (∀ i, x0 i ≠ ⊤ ∧ x0 i ≠ ⊥) ∧ (∀ i, x1 i ≠ ⊤ ∧ x1 i ≠ ⊥) ∧ (∀ i, x2 i ≠ ⊤ ∧ x2 i ≠ ⊥) ∧ (∀ i, x3 i ≠ ⊤ ∧ x3 i ≠ ⊥)
      ∧ (∀ i, x4 i ≠ ⊤ ∧ x4 i ≠ ⊥) ∧ (∀ i, x5 i ≠ ⊤ ∧ x5 i ≠ ⊥) := by
  have e := congrFun h (Shape.Idx.first h_S_)
  unfold Cert.Pre_finite2.fn Cert.Pre_finite2.fn_part1 at e
  obtain ⟨e, e5⟩ := and_one e
  obtain ⟨e, e4⟩ := and_one e
  obtain ⟨e, e3⟩ := and_one e
  obtain ⟨e, e2⟩ := and_one e
  obtain ⟨e0, e1⟩ := and_one e
  exact ⟨all_finite x0 _ _ _ e0, all_finite x1 _ _ _ e1, all_finite x2 _ _ _ e2, all_finite x3 _ _ _ e3,
    all_finite x4 _ _ _ e4, all_finite x5 _ _ _ e5⟩

end Cert.Pre_finite2.Attn

end
-- ==== Proof.LatentStep.lean ====
/- One block of the latent attention's online softmax, as functions of the vectors it reads: as in `Step.lean`, with the
   queries and keys of a head in 128 lanes of their own and no gates. -/
module

public import proofs.«01_k».proof.Proof.Step
public import proofs.«01_k».proof.Proof.Gen.Kernel2Ideal.Skeleton

@[expose] public section

noncomputable section

namespace Cert.Kernel2Ideal.Attn

open Cert.Kernel2Ideal Cert.Kernel2Ideal.Gen Cert.Kernel2Ideal.Facts Idealize.ShloMosaic
open Cert.KernelIdeal.Attn (St newMax carry finish rowsAt row_inb)

variable {F : FTy → Type} [FloatOps F] [Named F]

/-- A query block against a key block. -/
def score (q k : Vec F S512x128 .bf16) : FVec F S512x512 .f32 :=
  matmul dot_S512x128_S512x128_S512x512_1_1_0_0_n_n none (shapeCast S512x128 q shapeCasts_S512x128_S512x128 : FVec F S512x128 .bf16)
    (shapeCast S512x128 k shapeCasts_S512x128_S512x128 : FVec F S512x128 .bf16) (constant S512x512 .f32 0x00000000#32)

/-- The causal mask of the diagonal block. -/
def masked (z : FVec F S512x512 .f32) : FVec F S512x512 .f32 :=
  select (cmpi .sle (iota .tc S512x512 32 [1] iota_S512x512_d1_w32)
      (addi (iota .tc S512x512 32 [0] iota_S512x512_d0_w32) (broadcast S512x512 0#32)))
    z (broadcast S512x512 (Named.named κ "mask" 0xF149F2CA#32))

/-- The weights of a block under the new maximum. -/
def weights (mx' : FVec F S512x1 .f32) (z : FVec F S512x512 .f32) : FVec F S512x512 .f32 :=
  exp2 (subf z (broadcastTo S512x512 mx' broadcasts_S512x1_S512x512))

/-- Before the first key block. -/
def init : St F := ⟨k0_pay3, k0_pay4, k0_pay5⟩

/-- One key block. -/
def step (z : FVec F S512x512 .f32) (v : Vec F S512x128 .bf16) (s : St F) : St F where
  mx := newMax s.mx z
  sum := addf (mulf (carry s.mx (newMax s.mx z)) s.sum) (shapeCast S512x1
    (multiReduction .add [1] S512 (weights (newMax s.mx z) z) 0x00000000#32 reduces_S512x512_S512 (.inl rfl) rfl)
    shapeCasts_S512_S512x1)
  acc := addf (mulf (broadcastTo S512x128 (carry s.mx (newMax s.mx z)) broadcasts_S512x1_S512x128) s.acc)
    (matmul dot_S512x512_S512x128_S512x128_1_0_0_1_n_n none
      (truncf .bf16 (weights (newMax s.mx z) z) bitsLt_bf16_f32)
      (shapeCast S512x128 v shapeCasts_S512x128_S512x128 : FVec F S512x128 .bf16) (constant S512x128 .f32 0x00000000#32))

theorem lane_inb (e : Fin 2) (a : Fin 2) : (![0, 128 * e.val] : Fin 2 → ℕ) a + S512x128.size a ≤ S512x256.size a := by
  fin_cases e <;> fin_cases a <;> decide

theorem key_inb (j : Fin 4) (e : Fin 2) (a : Fin 2) :
    (![512 * j.val, 128 * e.val] : Fin 2 → ℕ) a + S512x128.size a ≤ S2048x256.size a := by
  fin_cases j <;> fin_cases e <;> fin_cases a <;> decide

/-- The lanes of head `e` of the query block. -/
def lanesAt (x : Vec F S512x256 .bf16) (e : Fin 2) : Vec F S512x128 .bf16 :=
  View.ld x (Rect.unit (s := S512x256) ![0, 128 * e.val] S512x128.size (lane_inb e))

/-- Key block `j` in the lanes of head `e`. -/
def keysAt (x : Vec F S2048x256 .bf16) (j : Fin 4) (e : Fin 2) : Vec F S512x128 .bf16 :=
  View.ld x (Rect.unit (s := S2048x256) ![512 * j.val, 128 * e.val] S512x128.size (key_inb j e))

/-- The scores of the query block against key block `j`, for head `e` of the pair. -/
def blockScore (e : Fin 2) (x0 : Vec F S512x256 .bf16) (x1 : Vec F S2048x256 .bf16) (j : Fin 4) : FVec F S512x512 .f32 :=
  score (lanesAt x0 e) (keysAt x1 j e)

/-- Key block `j` before the diagonal. -/
def plain (e : Fin 2) (x0 : Vec F S512x256 .bf16) (x1 : Vec F S2048x256 .bf16) (x2 : Vec F S2048x128 .bf16) (j : Fin 4)
    (s : St F) : St F :=
  step (blockScore e x0 x1 j) (rowsAt x2 (512 * j.val) (row_inb j)) s

/-- Key block `j` on the diagonal. -/
def diag (e : Fin 2) (x0 : Vec F S512x256 .bf16) (x1 : Vec F S2048x256 .bf16) (x2 : Vec F S2048x128 .bf16) (j : Fin 4)
    (s : St F) : St F :=
  step (masked (blockScore e x0 x1 j)) (rowsAt x2 (512 * j.val) (row_inb j)) s

/-- A head of the pair through the key blocks of query block `i`: those before the diagonal, then the diagonal. -/
def headRun (i : Fin 4) (e : Fin 2) (x0 : Vec F S512x256 .bf16) (x1 : Vec F S2048x256 .bf16) (x2 : Vec F S2048x128 .bf16) : St F :=
  match i with
  | 0 => diag e x0 x1 x2 0 init
  | 1 => diag e x0 x1 x2 1 (plain e x0 x1 x2 0 init)
  | 2 => diag e x0 x1 x2 2 (plain e x0 x1 x2 1 (plain e x0 x1 x2 0 init))
  | 3 => diag e x0 x1 x2 3 (plain e x0 x1 x2 2 (plain e x0 x1 x2 1 (plain e x0 x1 x2 0 init)))

/-- What query block `i` stores. -/
def blockOut (i : Fin 4) (x0 : Vec F S512x256 .bf16) (x1 : Vec F S2048x256 .bf16) (x2 : Vec F S2048x128 .bf16) :
    FVec F S512x128 .bf16 :=
  finish (headRun i 0 x0 x1 x2) (headRun i 1 x0 x1 x2)

end Cert.Kernel2Ideal.Attn

end
-- ==== Proof.LatentRows.lean ====
/- The latent attention's block read at an index over the reals, and a row of a query block through its key blocks: the
   running state is the online softmax's invariant. -/
module

public import proofs.«01_k».proof.Proof.LatentStep
public import proofs.«01_k».proof.Proof.Rows

@[expose] public section

noncomputable section

namespace Cert.Kernel2Ideal.Attn

open Cert.Kernel2Ideal Cert.Kernel2Ideal.Gen Cert.Kernel2Ideal.Facts Idealize.ShloMosaic
open Cert.KernelIdeal.Attn (St newMax carry finish rowsAt row_inb newMax_apply finish_apply rowsAt_apply ninf_eq RowInv seen
  seen_ne_top seen_ne_bot)

/-- The named mask. -/
def maskE : EReal := Named.named κ (F := Ideal) (φ := .f32) "mask" 0xF149F2CA#32

theorem maskE_eq : maskE = ⊥ := by
  unfold maskE; exact IdealRules.named_const.ideal_named_scalar _ _ _ _ rfl

theorem score_apply (q k : Vec Ideal S512x128 .bf16) (r c : Fin 512) :
    score q k (ix2 r c) = ∑ x : Fin 128, q (ix2 r x) * k (ix2 c x) := by
  unfold score
  pointwise [dot_S512x128_S512x128_S512x512_1_1_0_0_n_n]

theorem masked_apply (z : FVec Ideal S512x512 .f32) (r c : Fin 512) :
    masked z (ix2 r c) = if c.val ≤ r.val then z (ix2 r c) else maskE := by
  unfold masked maskE
  pointwise
  rw [Words.addi_zero, Words.sel_le (by omega) (by omega)]

theorem weights_apply (m : FVec Ideal S512x1 .f32) (z : FVec Ideal S512x512 .f32) (r c : Fin 512) :
    weights m z (ix2 r c) = Ideal.exp2 (z (ix2 r c) - m (ix2 r 0)) := by
  unfold weights
  pointwise
  rfl

theorem sum_apply (z : FVec Ideal S512x512 .f32) (v : Vec Ideal S512x128 .bf16) (s : St Ideal) (r : Fin 512) :
    (step z v s).sum (ix2 r 0) = Ideal.exp2 (s.mx (ix2 r 0) - newMax s.mx z (ix2 r 0)) * s.sum (ix2 r 0) +
      ∑ x : Fin 512, weights (newMax s.mx z) z (ix2 r x) := by
  dsimp only [step]
  unfold carry
  pointwise
  rfl

theorem acc_apply (z : FVec Ideal S512x512 .f32) (v : Vec Ideal S512x128 .bf16) (s : St Ideal) (r : Fin 512) (d : Fin 128) :
    (step z v s).acc (ix2 r d) = Ideal.exp2 (s.mx (ix2 r 0) - newMax s.mx z (ix2 r 0)) * s.acc (ix2 r d) +
      ∑ x : Fin 512, weights (newMax s.mx z) z (ix2 r x) * v (ix2 x d) := by
  dsimp only [step]
  unfold carry
  pointwise [dot_S512x512_S512x128_S512x128_1_0_0_1_n_n]
  rfl

theorem lanesAt_apply (x : Vec Ideal S512x256 .bf16) (e : Fin 2) (r : Fin 512) (d : Fin 128) :
    lanesAt x e (ix2 r d) = x (ix2 r ⟨128 * e.val + d.val, by omega⟩) := by
  unfold lanesAt
  pointwise

theorem keysAt_apply (x : Vec Ideal S2048x256 .bf16) (j : Fin 4) (e : Fin 2) (r : Fin 512) (d : Fin 128) :
    keysAt x j e (ix2 r d) = x (ix2 ⟨512 * j.val + r.val, by omega⟩ ⟨128 * e.val + d.val, by omega⟩) := by
  unfold keysAt
  pointwise

theorem init_inv (r : Fin 512) (d : Fin 128) (z v : ℕ → EReal) : RowInv r d 0 z v init := by
  have h0 : (init : St Ideal).mx (ix2 r 0) = maskE := by dsimp only [init]; unfold k0_pay3 maskE; pointwise
  have h1 : (init : St Ideal).sum (ix2 r 0) = 0 := by dsimp only [init]; unfold k0_pay4; pointwise
  have h2 : (init : St Ideal).acc (ix2 r d) = 0 := by dsimp only [init]; unfold k0_pay5; pointwise
  unfold RowInv
  rw [h0, h1, h2, maskE_eq]
  exact Online.Inv.init z v

theorem step_inv {r : Fin 512} {d : Fin 128} {n : ℕ} {z v : ℕ → EReal} {s : St Ideal} (h : RowInv r d n z v s)
    (zv : FVec Ideal S512x512 .f32) (vv : Vec Ideal S512x128 .bf16) (hz : ∀ k, z k ≠ ⊤) (hne : z n ≠ ⊥)
    (hzv : ∀ c : Fin 512, zv (ix2 r c) = z (n + c.val)) (hvv : ∀ c : Fin 512, vv (ix2 c d) = v (n + c.val)) :
    RowInv r d (n + 512) z v (step zv vv s) := by
  have key := Online.Inv.step (b := 512) h hz ⟨0, by simpa using hne⟩ 0 (m' := newMax s.mx zv (ix2 r 0)) (by
    rw [newMax_apply, ninf_eq]; simp only [hzv])
  simp only [EReal.coe_zero, add_zero, sub_zero] at key
  unfold RowInv
  rw [sum_apply, acc_apply]
  simp only [weights_apply, hzv, hvv]
  exact key

section

variable (i : Fin 4) (e : Fin 2) (x0 : Vec Ideal S512x256 .bf16) (x1 : Vec Ideal S2048x256 .bf16) (x2 : Vec Ideal S2048x128 .bf16)
  (r : Fin 512) (d : Fin 128) (ζ : ℕ → ℝ) (v : ℕ → EReal)

/-- What a row's block must read for the invariant: real scores `ζ`, values `v`. -/
structure Reads : Prop where
  score : ∀ (j : Fin 4) (c : Fin 512), blockScore e x0 x1 j (ix2 r c) = ((ζ (512 * j.val + c.val) : ℝ) : EReal)
  val : ∀ (j : Fin 4) (c : Fin 512), x2 (ix2 ⟨512 * j.val + c.val, by omega⟩ d) = v (512 * j.val + c.val)

variable {i e x0 x1 x2 r d ζ v}

theorem plain_inv (R : Reads e x0 x1 x2 r d ζ v) {j : Fin 4} (hj : j.val < i.val) {s : St Ideal}
    (h : RowInv r d (512 * j.val) (seen ζ (512 * i.val + r.val)) v s) :
    RowInv r d (512 * j.val + 512) (seen ζ (512 * i.val + r.val)) v (plain e x0 x1 x2 j s) := by
  refine step_inv h _ _ (seen_ne_top _ _) (seen_ne_bot (by omega)) ?_ ?_
  · intro c; rw [R.score, seen, if_pos (by omega)]
  · intro c; exact (rowsAt_apply x2 j c d).trans (R.val j c)

theorem diag_inv (R : Reads e x0 x1 x2 r d ζ v) {s : St Ideal}
    (h : RowInv r d (512 * i.val) (seen ζ (512 * i.val + r.val)) v s) :
    RowInv r d (512 * i.val + 512) (seen ζ (512 * i.val + r.val)) v (diag e x0 x1 x2 i s) := by
  refine step_inv h _ _ (seen_ne_top _ _) (seen_ne_bot (by omega)) ?_ ?_
  · intro c
    rw [masked_apply, R.score, maskE_eq, seen]
    exact if_congr (by omega) rfl rfl
  · intro c; exact (rowsAt_apply x2 i c d).trans (R.val i c)

theorem headRun_inv (R : Reads e x0 x1 x2 r d ζ v) :
    RowInv r d (512 * i.val + 512) (seen ζ (512 * i.val + r.val)) v (headRun i e x0 x1 x2) := by
  have h0 := init_inv r d (seen ζ (512 * i.val + r.val)) v
  fin_cases i
  · exact diag_inv (i := 0) R h0
  · exact diag_inv (i := 1) R (plain_inv (i := 1) (j := 0) R (by decide) h0)
  · exact diag_inv (i := 2) R (plain_inv (i := 2) (j := 1) R (by decide) (plain_inv (i := 2) (j := 0) R (by decide) h0))
  · exact diag_inv (i := 3) R (plain_inv (i := 3) (j := 2) R (by decide)
      (plain_inv (i := 3) (j := 1) R (by decide) (plain_inv (i := 3) (j := 0) R (by decide) h0)))

end

/-- THE STORED BLOCK is the softmax average over the keys up to the query. -/
theorem blockOut_value (i : Fin 4) (e : Fin 2) (l : Fin 64) (x0 : Vec Ideal S512x256 .bf16) (x1 : Vec Ideal S2048x256 .bf16)
    (x2 : Vec Ideal S2048x128 .bf16) (r : Fin 512) {σ : ℕ → ℝ} {v : ℕ → EReal} (M : ℝ)
    (R : Reads e x0 x1 x2 r ⟨64 * e.val + l.val, by omega⟩ (fun k => (σ k - 0) * (Real.log 2)⁻¹) v) :
    blockOut i x0 x1 x2 (ix2 r ⟨64 * e.val + l.val, by omega⟩) =
      ∑ k ∈ Finset.range 2048, v k * Ideal.div (Ideal.exp (seen σ (512 * i.val + r.val) k - M))
        (∑ j ∈ Finset.range 2048, Ideal.exp (seen σ (512 * i.val + r.val) j - M)) := by
  have h := Online.Inv.quotient (N := 2048) (headRun_inv (i := i) R) (fun k => k ≤ 512 * i.val + r.val) σ 0 M (fun k => rfl) (by omega)
    (fun k hk => by omega) ⟨0, by omega⟩ (S := seen σ (512 * i.val + r.val)) (fun k => rfl)
  refine (finish_apply (headRun i 0 x0 x1 x2) (headRun i 1 x0 x1 x2) r ⟨64 * e.val + l.val, by omega⟩).trans (Eq.trans ?_ h)
  fin_cases e
  · exact if_pos (show 64 * 0 + l.val < 64 by omega)
  · exact if_neg (show ¬64 * 1 + l.val < 64 by omega)

end Cert.Kernel2Ideal.Attn

end
-- ==== Proof.Latent.lean ====
/- The latent attention over the reals: one query's scores against its keys in the absorbed and in the lane-wise form,
   and its row, the weighted values with the up-projection inside the sum over the keys or outside it. -/
module

public import proofs.«01_k».proof.Proof.Scores

@[expose] public section

noncomputable section

namespace Latent

open Idealize.ShloMosaic Cert.KernelIdeal.Attn _root_.Attn Finset

/-- The arguments: queries without and with position, latents, rotary keys, the up-projections of keys and values. -/
structure Reals where
  qn : Fin 8 → Fin 2048 → Fin 8 → Fin 64 → ℝ
  qr : Fin 8 → Fin 2048 → Fin 8 → Fin 32 → ℝ
  lat : Fin 8 → Fin 2048 → Fin 256 → ℝ
  kr : Fin 8 → Fin 2048 → Fin 32 → ℝ
  uk : Fin 256 → Fin 8 → Fin 64 → ℝ
  uv : Fin 256 → Fin 8 → Fin 64 → ℝ

variable (A : Reals) (b h : Fin 8) (t n : Fin 2048)

/-- Lane `d` of the query: 64 lanes without position, 32 with, the rest zero. -/
def qLane (d : Fin 128) : ℝ :=
  if h0 : d.val < 64 then A.qn b t h ⟨d.val, h0⟩ else if h1 : d.val < 96 then A.qr b t h ⟨d.val - 64, by omega⟩ else 0

/-- Lane `d` of the key. -/
def kLane (d : Fin 128) : ℝ :=
  if h0 : d.val < 64 then ∑ c : Fin 256, A.lat b n c * A.uk c h ⟨d.val, h0⟩
  else if h1 : d.val < 96 then A.kr b n ⟨d.val - 64, by omega⟩ else 0

/-- The value of a key. -/
def val (d : Fin 64) : ℝ := ∑ c : Fin 256, A.lat b n c * A.uv c h d

/-- The unscaled score, absorbed: the query carried into the latent space. -/
def dot : ℝ := (∑ c : Fin 256, (∑ x : Fin 64, A.qn b t h x * A.uk c h x) * A.lat b n c) + ∑ y : Fin 32, A.qr b t h y * A.kr b n y

theorem sum_split (g : Fin 128 → ℝ) : ∑ x, g x = (∑ l : Fin 64, g ⟨l.val, by omega⟩) + (∑ l : Fin 32, g ⟨64 + l.val, by omega⟩)
    + ∑ l : Fin 32, g ⟨96 + l.val, by omega⟩ := by
  have : ∀ f : Fin (64 + 32 + 32) → ℝ, ∑ x, f x = (∑ l : Fin 64, f ⟨l.val, by omega⟩) + (∑ l : Fin 32, f ⟨64 + l.val, by omega⟩)
      + ∑ l : Fin 32, f ⟨96 + l.val, by omega⟩ := fun f => by
    rw [Fin.sum_univ_add, Fin.sum_univ_add]; rfl
  exact this g

/-- The product of the lanes is the absorbed score. -/
theorem lanes_eq : ∑ d : Fin 128, qLane A b h t d * kLane A b h n d = dot A b h t n := by
  rw [sum_split, dot]
  have h0 : ∀ l : Fin 64, qLane A b h t ⟨l.val, by omega⟩ * kLane A b h n ⟨l.val, by omega⟩
      = ∑ c : Fin 256, A.qn b t h l * A.uk c h l * A.lat b n c := fun l => by
    unfold qLane kLane
    rw [dif_pos (show l.val < 64 from l.isLt), dif_pos (show l.val < 64 from l.isLt), mul_sum]
    exact sum_congr rfl fun c _ => by ring
  have h1 : ∀ l : Fin 32, qLane A b h t ⟨64 + l.val, by omega⟩ * kLane A b h n ⟨64 + l.val, by omega⟩
      = A.qr b t h l * A.kr b n l := fun l => by
    unfold qLane kLane
    have e : (⟨64 + l.val - 64, by omega⟩ : Fin 32) = l := Fin.ext (by simp)
    rw [dif_neg (show ¬64 + l.val < 64 by omega), dif_pos (show 64 + l.val < 96 by omega),
      dif_neg (show ¬64 + l.val < 64 by omega), dif_pos (show 64 + l.val < 96 by omega)]
    dsimp only
    rw [e]
  have h2 : ∀ l : Fin 32, qLane A b h t ⟨96 + l.val, by omega⟩ * kLane A b h n ⟨96 + l.val, by omega⟩ = 0 := fun l => by
    unfold qLane
    rw [dif_neg (show ¬96 + l.val < 64 by omega), dif_neg (show ¬96 + l.val < 96 by omega), zero_mul]
  rw [sum_congr rfl fun l _ => h0 l, sum_congr rfl fun l _ => h1 l, sum_congr rfl fun l _ => h2 l, sum_const_zero, add_zero,
    sum_comm]
  refine congrArg (· + _) (sum_congr rfl fun c _ => ?_)
  rw [sum_mul]

variable (s M : ℝ)

/-- Score of key `k`, scaled by `s`. -/
def sc (k : ℕ) : ℝ := if hk : k < 2048 then dot A b h t ⟨k, hk⟩ * s else 0

/-- Value of key `k` in lane `d`. -/
def vl (d : Fin 64) (k : ℕ) : EReal := if hk : k < 2048 then ((val A b h ⟨k, hk⟩ d : ℝ) : EReal) else 0

theorem sc_fin : sc A b h t s n.val = dot A b h t n * s := by unfold sc; rw [dif_pos n.isLt]

theorem vl_fin (d : Fin 64) : vl A b h d n.val = ((val A b h n d : ℝ) : EReal) := by unfold vl; rw [dif_pos n.isLt]

/-- The softmax weight of key `k`, exponentials taken from `M`. -/
def weight (k : ℕ) : EReal := Ideal.div (Ideal.exp (seen (sc A b h t s) t.val k - M))
  (∑ j ∈ range 2048, Ideal.exp (seen (sc A b h t s) t.val j - M))

/-- A row of the attention. -/
def row (d : Fin 64) : EReal := ∑ k ∈ range 2048, vl A b h d k * weight A b h t s M k

/-- The weights are real numbers. -/
theorem weight_real : ∃ P : ℕ → ℝ, ∀ k, weight A b h t s M k = ((P k : ℝ) : EReal) := by
  let ω : ℕ → ℝ := fun k => if k ≤ t.val then Real.exp (sc A b h t s k - M) else 0
  have he : ∀ k, Ideal.exp (seen (sc A b h t s) t.val k - M) = ((ω k : ℝ) : EReal) := fun k => by
    dsimp only [ω, seen]
    split_ifs
    · rw [← EReal.coe_sub, Ideal.exp_coe]
    · simp [EReal.bot_sub]
  have h0 : 0 < ∑ k ∈ range 2048, ω k := by
    refine sum_pos' (fun k _ => ?_) ⟨0, by simp, ?_⟩
    · dsimp only [ω]; split_ifs; exacts [(Real.exp_pos _).le, le_refl _]
    · dsimp only [ω]; rw [if_pos (Nat.zero_le _)]; exact Real.exp_pos _
  refine ⟨fun k => (1 / ∑ k ∈ range 2048, ω k) * ω k, fun k => ?_⟩
  unfold weight
  rw [sum_congr rfl fun j _ => he j, he, sum_coe, Ideal.div_coe h0.ne', ← EReal.coe_mul, mul_comm]

/-- The values' up-projection of the weighted latents is the row. -/
theorem absorbed (d : Fin 64) :
    ∑ c : Fin 256, (∑ k : Fin 2048, ((A.lat b k c : ℝ) : EReal) * weight A b h t s M k.val) * ((A.uv c h d : ℝ) : EReal)
      = row A b h t s M d := by
  obtain ⟨P, hP⟩ := weight_real A b h t s M
  unfold row
  rw [sum_range]
  simp only [vl_fin, hP, ← EReal.coe_mul, sum_coe]
  congr 1
  unfold val
  simp only [sum_mul]
  rw [sum_comm]
  exact sum_congr rfl fun k _ => sum_congr rfl fun c _ => by ring

end Latent

end
-- ==== Proof.LatentHost.lean ====
/- The arrays the latent attention's windows stage, as functions of the arguments, and those functions read at
   coordinates: rows `2048·b + t`; lanes `128·h + d` of the scaled queries and of the keys, `64·h + d` of the values. -/
module

public import proofs.«01_k».proof.Proof.Latent
public import proofs.«01_k».proof.Proof.Gen.Kernel2Ideal.Skeleton
public import Idealize.ShloMosaic.Lib.Pointwise

@[expose] public section

noncomputable section

namespace Cert.Kernel2Ideal.Attn

open Cert.Kernel2Ideal Cert.Kernel2Ideal.Gen Cert.Kernel2Ideal.Facts Idealize.ShloMosaic Idealize.ShloMosaic.TcCoe

/-- The scale of the scores, a real number. -/
def s0 : ℝ := 13698540 / 134217728

theorem s0_eq : Ideal.ofBits .f32 0x3DD105EC#32 = ((s0 : ℝ) : EReal) := by
  unfold s0
  simp [Ideal.ofBits, Ideal.ieee, -EReal.coe_mul]; norm_num

/-- The scale of the queries, that number over `log 2`. -/
def scale : FVec Ideal S_ .f32 := Host.divf (constant S_ .f32 0x3DD105EC#32) (Host.log (constant S_ .f32 0x40000000#32))

theorem scale_eq (i : S_.Idx) : scale i = ((s0 * (Real.log 2)⁻¹ : ℝ) : EReal) := by
  show Ideal.div (Ideal.ofBits .f32 0x3DD105EC#32) (Ideal.log (Ideal.ofBits .f32 0x40000000#32)) = _
  have h2 : Ideal.ofBits .f32 0x40000000#32 = ((2 : ℝ) : EReal) := by
    simp [Ideal.ofBits, Ideal.ieee, -EReal.coe_mul]; norm_num
  have hl : Real.log 2 ≠ 0 := (Real.log_pos (by norm_num)).ne'
  rw [s0_eq, h2, Ideal.log_coe, if_neg (by norm_num), Ideal.div_coe hl, ← EReal.coe_mul, one_div (Real.log 2), mul_comm]

def catQ (x0 : FVec Ideal S8x2048x8x64 .f32) (x1 : FVec Ideal S8x2048x8x32 .f32) : FVec Ideal S8x2048x8x128 .f32 :=
  concatenate S8x2048x8x128 3 [⟨S8x2048x8x64, x0⟩, ⟨S8x2048x8x32, x1⟩,
    ⟨S8x2048x8x32, broadcastInDim S8x2048x8x32 ![] bcast_S_S8x2048x8x32 (constant S_ .f32 0x00000000#32)⟩]
    concatenates_S8x2048x8x64_S8x2048x8x32_S8x2048x8x32_S8x2048x8x128_d3

def hostQ (x0 : FVec Ideal S8x2048x8x64 .f32) (x1 : FVec Ideal S8x2048x8x32 .f32) : FVec Ideal S16384x1024 .bf16 :=
  truncf .bf16 (mulf (shapeCast S16384x1024 (catQ x0 x1) shapeCasts_S8x2048x8x128_S16384x1024)
    (broadcastInDim S16384x1024 ![] bcast_S_S16384x1024 scale)) bitsLt_bf16_f32

def rowsL (x2 : FVec Ideal S8x2048x256 .f32) : FVec Ideal S16384x256 .bf16 :=
  truncf .bf16 (shapeCast S16384x256 x2 shapeCasts_S8x2048x256_S16384x256) bitsLt_bf16_f32

def catW (x4 : FVec Ideal S256x8x64 .f32) : FVec Ideal S256x8x128 .f32 :=
  concatenate S256x8x128 2 [⟨S256x8x64, x4⟩,
    ⟨S256x8x64, broadcastInDim S256x8x64 ![] bcast_S_S256x8x64 (constant S_ .f32 0x00000000#32)⟩]
    concatenates_S256x8x64_S256x8x64_S256x8x128_d2

def colsK (x4 : FVec Ideal S256x8x64 .f32) : FVec Ideal S256x1024 .bf16 :=
  truncf .bf16 (shapeCast S256x1024 (catW x4) shapeCasts_S256x8x128_S256x1024) bitsLt_bf16_f32

def catR (x3 : FVec Ideal S8x2048x32 .f32) : FVec Ideal S16384x128 .f32 :=
  concatenate S16384x128 1 [⟨S16384x64, broadcastInDim S16384x64 ![] bcast_S_S16384x64 (constant S_ .f32 0x00000000#32)⟩,
    ⟨S16384x32, shapeCast S16384x32 x3 shapeCasts_S8x2048x32_S16384x32⟩,
    ⟨S16384x32, broadcastInDim S16384x32 ![] bcast_S_S16384x32 (constant S_ .f32 0x00000000#32)⟩]
    concatenates_S16384x64_S16384x32_S16384x32_S16384x128_d1

def eight (y : FVec Ideal S16384x128 .f32) : FVec Ideal S16384x1024 .f32 :=
  concatenate S16384x1024 1 [⟨S16384x128, y⟩, ⟨S16384x128, y⟩, ⟨S16384x128, y⟩, ⟨S16384x128, y⟩, ⟨S16384x128, y⟩,
    ⟨S16384x128, y⟩, ⟨S16384x128, y⟩, ⟨S16384x128, y⟩]
    concatenates_S16384x128_S16384x128_S16384x128_S16384x128_S16384x128_S16384x128_S16384x128_S16384x128_S16384x1024_d1

def upK (l : FVec Ideal S16384x256 .bf16) (w : FVec Ideal S256x1024 .bf16) : FVec Ideal S16384x1024 .f32 :=
  Host.dotGeneral dot_S16384x256_S256x1024_S16384x1024_1_0_0_1_n_n none l w

def hostK (x2 : FVec Ideal S8x2048x256 .f32) (x3 : FVec Ideal S8x2048x32 .f32) (x4 : FVec Ideal S256x8x64 .f32) :
    FVec Ideal S16384x1024 .bf16 :=
  truncf .bf16 (addf (upK (rowsL x2) (colsK x4)) (eight (catR x3))) bitsLt_bf16_f32

def colsV (x5 : FVec Ideal S256x8x64 .f32) : FVec Ideal S256x512 .bf16 :=
  truncf .bf16 (shapeCast S256x512 x5 shapeCasts_S256x8x64_S256x512) bitsLt_bf16_f32

def upV (l : FVec Ideal S16384x256 .bf16) (w : FVec Ideal S256x512 .bf16) : FVec Ideal S16384x512 .f32 :=
  Host.dotGeneral dot_S16384x256_S256x512_S16384x512_1_0_0_1_n_n none l w

def hostV (x2 : FVec Ideal S8x2048x256 .f32) (x5 : FVec Ideal S256x8x64 .f32) : FVec Ideal S16384x512 .bf16 :=
  truncf .bf16 (upV (rowsL x2) (colsV x5)) bitsLt_bf16_f32

theorem catQ_apply (x0 : FVec Ideal S8x2048x8x64 .f32) (x1 : FVec Ideal S8x2048x8x32 .f32) (b : Fin 8) (t : Fin 2048) (h : Fin 8)
    (d : Fin 128) : catQ x0 x1 (ix4 b t h d) = if h0 : d.val < 64 then x0 (ix4 b t h ⟨d.val, h0⟩)
      else if h1 : d.val < 96 then x1 (ix4 b t h ⟨d.val - 64, by omega⟩) else 0 := by
  unfold catQ
  pointwise
  by_cases h0 : d.val < 64
  · refine (dif_pos h0).trans ?_
    rw [dif_pos h0]
  by_cases h1 : d.val < 96
  · refine (dif_neg h0).trans ((dif_pos (show d.val - 64 < 32 by omega)).trans ?_)
    rw [dif_neg h0, dif_pos h1]
  · refine (dif_neg h0).trans ((dif_neg (show ¬d.val - 64 < 32 by omega)).trans ?_)
    rw [dif_neg h0, dif_neg h1]

theorem catW_apply (x4 : FVec Ideal S256x8x64 .f32) (c : Fin 256) (h : Fin 8) (d : Fin 128) :
    catW x4 (ix3 c h d) = if h0 : d.val < 64 then x4 (ix3 c h ⟨d.val, h0⟩) else 0 := by
  unfold catW
  pointwise

theorem catR_apply (x3 : FVec Ideal S8x2048x32 .f32) (b : Fin 8) (t : Fin 2048) (d : Fin 128) :
    catR x3 (ix2 ⟨2048 * b.val + t.val, by omega⟩ d) = if h0 : d.val < 64 then 0
      else if h1 : d.val < 96 then x3 (ix3 b t ⟨d.val - 64, by omega⟩) else 0 := by
  unfold catR
  pointwise
  by_cases h0 : d.val < 64
  · refine (dif_pos h0).trans ?_
    rw [dif_pos h0]
  by_cases h1 : d.val < 96
  · refine (dif_neg h0).trans ((dif_pos (show d.val - 64 < 32 by omega)).trans ?_)
    rw [dif_neg h0, dif_pos h1]
  · refine (dif_neg h0).trans ((dif_neg (show ¬d.val - 64 < 32 by omega)).trans ?_)
    rw [dif_neg h0, dif_neg h1]

theorem eight_apply (y : FVec Ideal S16384x128 .f32) (r : Fin 16384) (h : Fin 8) (d : Fin 128) :
    eight y (ix2 r ⟨128 * h.val + d.val, by omega⟩) = y (ix2 r d) := by
  refine concatenate_replicate_apply (t := S16384x1024) (s₁ := S16384x128) 1 8 y
    concatenates_S16384x128_S16384x128_S16384x128_S16384x128_S16384x128_S16384x128_S16384x128_S16384x128_S16384x1024_d1 rfl _ _ ?_ ?_
  · show d.val = (128 * h.val + d.val) % 128
    omega
  · intro b hb
    match b with
    | ⟨0, _⟩ => rfl
    | ⟨1, _⟩ => exact absurd rfl hb

theorem hostQ_apply (x0 : FVec Ideal S8x2048x8x64 .f32) (x1 : FVec Ideal S8x2048x8x32 .f32) (b : Fin 8) (t : Fin 2048) (h : Fin 8)
    (d : Fin 128) : hostQ x0 x1 (ix2 ⟨2048 * b.val + t.val, by omega⟩ ⟨128 * h.val + d.val, by omega⟩)
      = catQ x0 x1 (ix4 b t h d) * ((s0 * (Real.log 2)⁻¹ : ℝ) : EReal) := by
  unfold hostQ
  generalize catQ x0 x1 = y
  pointwise
  rw [scale_eq]

theorem rowsL_apply (x2 : FVec Ideal S8x2048x256 .f32) (b : Fin 8) (t : Fin 2048) (c : Fin 256) :
    rowsL x2 (ix2 ⟨2048 * b.val + t.val, by omega⟩ c) = x2 (ix3 b t c) := by
  unfold rowsL
  pointwise

theorem colsK_apply (x4 : FVec Ideal S256x8x64 .f32) (c : Fin 256) (h : Fin 8) (d : Fin 128) :
    colsK x4 (ix2 c ⟨128 * h.val + d.val, by omega⟩) = catW x4 (ix3 c h d) := by
  unfold colsK
  generalize catW x4 = y
  pointwise

theorem colsV_apply (x5 : FVec Ideal S256x8x64 .f32) (c : Fin 256) (h : Fin 8) (d : Fin 64) :
    colsV x5 (ix2 c ⟨64 * h.val + d.val, by omega⟩) = x5 (ix3 c h d) := by
  unfold colsV
  pointwise

theorem upK_apply (l : FVec Ideal S16384x256 .bf16) (w : FVec Ideal S256x1024 .bf16) (r : Fin 16384) (d : Fin 1024) :
    upK l w (ix2 r d) = ∑ c : Fin 256, l (ix2 r c) * w (ix2 c d) := by
  unfold upK
  pointwise [dot_S16384x256_S256x1024_S16384x1024_1_0_0_1_n_n]

theorem upV_apply (l : FVec Ideal S16384x256 .bf16) (w : FVec Ideal S256x512 .bf16) (r : Fin 16384) (d : Fin 512) :
    upV l w (ix2 r d) = ∑ c : Fin 256, l (ix2 r c) * w (ix2 c d) := by
  unfold upV
  pointwise [dot_S16384x256_S256x512_S16384x512_1_0_0_1_n_n]

theorem hostK_apply (x2 : FVec Ideal S8x2048x256 .f32) (x3 : FVec Ideal S8x2048x32 .f32) (x4 : FVec Ideal S256x8x64 .f32)
    (b : Fin 8) (t : Fin 2048) (h : Fin 8) (d : Fin 128) :
    hostK x2 x3 x4 (ix2 ⟨2048 * b.val + t.val, by omega⟩ ⟨128 * h.val + d.val, by omega⟩)
      = (∑ c : Fin 256, x2 (ix3 b t c) * catW x4 (ix3 c h d)) + catR x3 (ix2 ⟨2048 * b.val + t.val, by omega⟩ d) := by
  show upK (rowsL x2) (colsK x4) _ + eight (catR x3) _ = _
  rw [upK_apply, eight_apply]
  simp only [rowsL_apply, colsK_apply]

theorem hostV_apply (x2 : FVec Ideal S8x2048x256 .f32) (x5 : FVec Ideal S256x8x64 .f32) (b : Fin 8) (t : Fin 2048) (h : Fin 8)
    (d : Fin 64) : hostV x2 x5 (ix2 ⟨2048 * b.val + t.val, by omega⟩ ⟨64 * h.val + d.val, by omega⟩)
      = ∑ c : Fin 256, x2 (ix3 b t c) * x5 (ix3 c h d) := by
  show upV (rowsL x2) (colsV x5) _ = _
  rw [upV_apply]
  simp only [rowsL_apply, colsV_apply]

end Cert.Kernel2Ideal.Attn

end
-- ==== Proof.LatentRef.lean ====
/- The reference of the latent attention read at coordinates: the masked score, the row maximum, the softmax weight and
   the up-projected weighted latents; on real arguments it is the attention's row at the row's own maximum. -/
module

public import proofs.«01_k».proof.Proof.Gen.Reference2Ideal.Read
public import proofs.«01_k».proof.Proof.Goal
public import proofs.«01_k».proof.Proof.LatentHost

@[expose] public section

noncomputable section

namespace Cert.Reference2Ideal.Attn

open Cert.Reference2Ideal Cert.Reference2Ideal.Gen Cert.Reference2Ideal.Facts Cert.Reference2Ideal.Read Idealize.ShloMosaic Idealize.ShloMosaic.TcCoe
open _root_.Attn Cert.KernelIdeal.Attn
open Cert.Kernel2Ideal.Attn (s0 s0_eq)

variable (x0 : FVec Ideal S8x2048x8x64 .f32) (x1 : FVec Ideal S8x2048x8x32 .f32) (x2 : FVec Ideal S8x2048x256 .f32)
  (x3 : FVec Ideal S8x2048x32 .f32) (x4 x5 : FVec Ideal S256x8x64 .f32)

theorem v2_at (b : Fin 8) (t : Fin 2048) (h : Fin 8) (c : Fin 256) :
    (val_main_v2 (F := Ideal) x0 x4 : FVec Ideal S8x2048x8x256 .f32) (ix4 b t h c)
      = ∑ x : Fin 64, x4 (ix3 c h x) * x0 (ix4 b t h x) := by
  unfold val_main_v2 val_main_v1
  pointwise [dot_S256x8x64_S8x2048x8x64_S8x256x8x2048_2_3_0_01_1_2]

theorem v4_at (b h : Fin 8) (t k : Fin 2048) :
    (val_main_v4 (F := Ideal) x0 x2 x4 : FVec Ideal S8x8x2048x2048 .f32) (ix4 b h t k)
      = ∑ c : Fin 256, x2 (ix3 b k c) * ∑ x : Fin 64, x4 (ix3 c h x) * x0 (ix4 b t h x) := by
  unfold val_main_v4 val_main_v3
  simp only [← v2_at]
  generalize val_main_v2 (F := Ideal) x0 x4 = y
  pointwise [dot_S8x2048x256_S8x2048x8x256_S8x2048x2048x8_2_3_1_12_0_0]

theorem v6_at (b h : Fin 8) (t k : Fin 2048) :
    (val_main_v6 (F := Ideal) x1 x3 : FVec Ideal S8x8x2048x2048 .f32) (ix4 b h t k)
      = ∑ y : Fin 32, x3 (ix3 b k y) * x1 (ix4 b t h y) := by
  unfold val_main_v6 val_main_v5
  pointwise [dot_S8x2048x32_S8x2048x8x32_S8x2048x2048x8_2_3_1_12_0_0]

theorem v15_at (b h : Fin 8) (t k : Fin 2048) :
    (val_main_v15 (F := Ideal) x0 x1 x2 x3 x4 : FVec Ideal S8x8x2048x2048 .f32) (ix4 b h t k) = if k.val ≤ t.val then
      ((∑ c : Fin 256, x2 (ix3 b k c) * ∑ x : Fin 64, x4 (ix3 c h x) * x0 (ix4 b t h x))
        + ∑ y : Fin 32, x3 (ix3 b k y) * x1 (ix4 b t h y)) * Ideal.ofBits .f32 0x3DD105EC#32
      else Ideal.ofBits .f32 0xFF800000#32 := by
  rw [← v4_at, ← v6_at]
  unfold val_main_v15 val_main_call0_v1 val_main_v14 val_main_v12 val_main_v13 val_main_v11 val_main_v10 val_main_v0
    val_main_v9 val_main_v8 val_main_v7 val_main_cst val_main_call0_v2 val_main_call0_v0 val_main_cst_0
  generalize val_main_v4 (F := Ideal) x0 x2 x4 = y
  generalize val_main_v6 (F := Ideal) x1 x3 = z
  pointwise
  exact Words.sel_le (by omega) (by omega) _ _

theorem max_at (S : FVec Ideal S8x8x2048x2048 .f32) (c : FVec Ideal S_ .f32) (b h : Fin 8) (t : Fin 2048) :
    Host.reduce FloatOps.maximumf S c reducesTo_S8x8x2048x2048_S8x8x2048_d3 h_S_ (ix3 b h t)
      = Finset.fold max (c (Shape.Idx.first h_S_)) (fun x : Fin 2048 => S (ix4 b h t x)) Finset.univ := by
  pointwise

theorem v18_at (b h : Fin 8) (t : Fin 2048) :
    (val_main_v18 (F := Ideal) x0 x1 x2 x3 x4 : FVec Ideal S8x8x2048 .f32) (ix3 b h t) =
      max (Ideal.ofBits .f32 0xFF800000#32) (Finset.fold max (Ideal.ofBits .f32 0xFF800000#32)
        (fun x : Fin 2048 => (val_main_v15 (F := Ideal) x0 x1 x2 x3 x4 : FVec Ideal S8x8x2048x2048 .f32) (ix4 b h t x)) Finset.univ) := by
  rw [val_main_v18_apply, val_main_v17_apply, val_main_cst_2_apply]
  unfold val_main_v16
  generalize val_main_v15 (F := Ideal) x0 x1 x2 x3 x4 = S
  rw [max_at]
  rfl

theorem v26_at (b h : Fin 8) (t k : Fin 2048) :
    (val_main_v26 (F := Ideal) x0 x1 x2 x3 x4 : FVec Ideal S8x8x2048x2048 .f32) (ix4 b h t k) =
      Ideal.div (Ideal.exp ((val_main_v15 (F := Ideal) x0 x1 x2 x3 x4 : FVec Ideal S8x8x2048x2048 .f32) (ix4 b h t k)
          - (val_main_v18 (F := Ideal) x0 x1 x2 x3 x4 : FVec Ideal S8x8x2048 .f32) (ix3 b h t)))
        (∑ x : Fin 2048, Ideal.exp ((val_main_v15 (F := Ideal) x0 x1 x2 x3 x4 : FVec Ideal S8x8x2048x2048 .f32) (ix4 b h t x)
          - (val_main_v18 (F := Ideal) x0 x1 x2 x3 x4 : FVec Ideal S8x8x2048 .f32) (ix3 b h t))) := by
  unfold val_main_v26 val_main_v25 val_main_v24 val_main_v23 val_main_v22 val_main_v21 val_main_v20 val_main_v19
    val_main_cst_3
  generalize val_main_v15 (F := Ideal) x0 x1 x2 x3 x4 = S
  generalize val_main_v18 (F := Ideal) x0 x1 x2 x3 x4 = M
  pointwise

theorem v28_at (b : Fin 8) (t : Fin 2048) (h : Fin 8) (c : Fin 256) :
    (val_main_v28 (F := Ideal) x0 x1 x2 x3 x4 : FVec Ideal S8x2048x8x256 .f32) (ix4 b t h c)
      = ∑ k : Fin 2048, x2 (ix3 b k c) *
          (val_main_v26 (F := Ideal) x0 x1 x2 x3 x4 : FVec Ideal S8x8x2048x2048 .f32) (ix4 b h t k) := by
  unfold val_main_v28 val_main_v27
  generalize val_main_v26 (F := Ideal) x0 x1 x2 x3 x4 = S
  pointwise [dot_S8x2048x256_S8x8x2048x2048_S8x256x8x2048_1_3_2_12_0_0]

theorem v32_at (b h : Fin 8) (t : Fin 2048) (d : Fin 64) :
    (val_main_v32 (F := Ideal) x0 x1 x2 x3 x4 x5 : FVec Ideal S16384x512 .bf16)
        (ix2 ⟨2048 * b.val + t.val, by omega⟩ ⟨64 * h.val + d.val, by omega⟩)
      = ∑ c : Fin 256, x5 (ix3 c h d) *
          (val_main_v28 (F := Ideal) x0 x1 x2 x3 x4 : FVec Ideal S8x2048x8x256 .f32) (ix4 b t h c) := by
  unfold val_main_v32 val_main_v31 val_main_v30 val_main_v29
  generalize val_main_v28 (F := Ideal) x0 x1 x2 x3 x4 = S
  pointwise [dot_S256x8x64_S8x2048x8x256_S8x64x8x2048_0_3_2_01_1_2]

variable {x0 x1 x2 x3 x4 x5}

/-- The arguments are real numbers. -/
structure Args (x0 : FVec Ideal S8x2048x8x64 .f32) (x1 : FVec Ideal S8x2048x8x32 .f32) (x2 : FVec Ideal S8x2048x256 .f32)
    (x3 : FVec Ideal S8x2048x32 .f32) (x4 x5 : FVec Ideal S256x8x64 .f32) (A : Latent.Reals) : Prop where
  qn : ∀ b t h d, x0 (ix4 b t h d) = (A.qn b t h d : EReal)
  qr : ∀ b t h d, x1 (ix4 b t h d) = (A.qr b t h d : EReal)
  lat : ∀ b t c, x2 (ix3 b t c) = (A.lat b t c : EReal)
  kr : ∀ b t d, x3 (ix3 b t d) = (A.kr b t d : EReal)
  uk : ∀ c h d, x4 (ix3 c h d) = (A.uk c h d : EReal)
  uv : ∀ c h d, x5 (ix3 c h d) = (A.uv c h d : EReal)

variable {A : Latent.Reals}

theorem score_eq (H : Args x0 x1 x2 x3 x4 x5 A) (b h : Fin 8) (t n : Fin 2048) :
    (val_main_v15 (F := Ideal) x0 x1 x2 x3 x4 : FVec Ideal S8x8x2048x2048 .f32) (ix4 b h t n)
      = seen (Latent.sc A b h t s0) t.val n.val := by
  rw [v15_at, seen, Latent.sc_fin, ninf_eq, s0_eq]
  simp only [H.qn, H.qr, H.lat, H.kr, H.uk, ← EReal.coe_mul, sum_coe, ← EReal.coe_add]
  unfold Latent.dot
  congr 3
  congr 1
  · refine Finset.sum_congr rfl fun c _ => ?_
    rw [mul_comm]
    exact congrArg (· * _) (Finset.sum_congr rfl fun x _ => mul_comm _ _)
  · exact Finset.sum_congr rfl fun y _ => mul_comm _ _

theorem value (H : Args x0 x1 x2 x3 x4 x5 A) (b h : Fin 8) (t : Fin 2048) (d : Fin 64) :
    ∃ M : ℝ, (val_main_v32 (F := Ideal) x0 x1 x2 x3 x4 x5 : FVec Ideal S16384x512 .bf16)
        (ix2 ⟨2048 * b.val + t.val, by omega⟩ ⟨64 * h.val + d.val, by omega⟩)
      = Latent.row A b h t s0 M d := by
  have hM : ∃ M : ℝ, (val_main_v18 (F := Ideal) x0 x1 x2 x3 x4 : FVec Ideal S8x8x2048 .f32) (ix3 b h t) = (M : EReal) := by
    rw [v18_at, ninf_eq, max_eq_right bot_le]
    simp only [score_eq H]
    refine ⟨EReal.toReal _, (EReal.coe_toReal ?_ ?_).symm⟩
    · exact Online.fold_max_ne_top _ fun n => seen_ne_top _ _ _
    · exact Online.fold_max_ne_bot _ ⟨⟨0, by omega⟩, seen_ne_bot (Nat.zero_le _)⟩
  obtain ⟨M, hM⟩ := hM
  refine ⟨M, ?_⟩
  have hw : ∀ k : Fin 2048, (val_main_v26 (F := Ideal) x0 x1 x2 x3 x4 : FVec Ideal S8x8x2048x2048 .f32) (ix4 b h t k)
      = Latent.weight A b h t s0 M k.val := fun k => by
    rw [v26_at, hM, Latent.weight, Finset.sum_range]
    simp only [score_eq H]
  rw [v32_at, ← Latent.absorbed]
  refine Finset.sum_congr rfl fun c _ => ?_
  rw [v28_at, H.uv, mul_comm]
  refine congrArg (· * _) (Finset.sum_congr rfl fun k _ => ?_)
  rw [hw, H.lat]

end Cert.Reference2Ideal.Attn

end
-- ==== Proof.LatentMem.lean ====
/- The three staged arrays of the latent attention are the functions of `LatentHost.lean` of the argument buffers. -/
module

public import proofs.«01_k».proof.Proof.LatentHost
public import proofs.«01_k».proof.Proof.Gen.Kernel2Ideal.Value

@[expose] public section

noncomputable section

namespace Cert.Kernel2Ideal.Attn

open Cert.Kernel2Ideal Cert.Kernel2Ideal.Gen Cert.Kernel2Ideal.Facts Idealize.ShloMosaic Idealize.ShloMosaic.TcCoe

variable (m : (ℓ : Loc nD τ sig) → Buf (Elt Ideal) ℓ) (c : Dev nD)

theorem V_q : V m c main_v7 = hostQ (m ((c : Thread nD τ).loc main_arg0)) (m ((c : Thread nD τ).loc main_arg1)) := rfl

theorem V_v : V m c main_v25 = hostV (m ((c : Thread nD τ).loc main_arg2)) (m ((c : Thread nD τ).loc main_arg5)) := rfl

/-- The last operations before the call: eight copies of the rotary lanes added to the projected keys. -/
theorem keys_after (W : Valuation τ sig (Elt Ideal)) :
    StableHlo.after ((hostOps0 (F := Ideal)).drop 25) W (Proc.devRef .tc main_v21)
      = truncf .bf16 (addf (W (Proc.devRef .tc main_v18) : FVec Ideal S16384x1024 .f32)
        (eight (W (Proc.devRef .tc main_v17) : FVec Ideal S16384x128 .f32))) bitsLt_bf16_f32 := rfl

theorem rotary_after : StableHlo.after ((hostOps0 (F := Ideal)).take 25) (fun b => m (c, b)) (Proc.devRef .tc main_v17)
    = catR (m ((c : Thread nD τ).loc main_arg3)) := rfl

theorem projected_after : StableHlo.after ((hostOps0 (F := Ideal)).take 25) (fun b => m (c, b)) (Proc.devRef .tc main_v18)
    = upK (rowsL (m ((c : Thread nD τ).loc main_arg2))) (colsK (m ((c : Thread nD τ).loc main_arg4))) := rfl

theorem V_k : V m c main_v21 = hostK (m ((c : Thread nD τ).loc main_arg2)) (m ((c : Thread nD τ).loc main_arg3))
    (m ((c : Thread nD τ).loc main_arg4)) :=
  (keys_after (StableHlo.after ((hostOps0 (F := Ideal)).take 25) (fun b => m (c, b)))).trans
    (congrArg₂ (fun (x : FVec Ideal S16384x1024 .f32) (y : FVec Ideal S16384x128 .f32) => truncf .bf16 (addf x (eight y)) bitsLt_bf16_f32)
      (projected_after m c) (rotary_after m c))

end Cert.Kernel2Ideal.Attn

end
-- ==== Proof.LatentBlockA.lean ====
/- What the body stores at a point of case A: the functions of `LatentStep.lean` composed. -/
module

public import proofs.«01_k».proof.Proof.LatentStep
public import proofs.«01_k».proof.Proof.Gen.Kernel2Ideal.Frame

@[expose] public section

set_option maxRecDepth 16384

noncomputable section

namespace Cert.Kernel2Ideal.Attn

open Cert.Kernel2Ideal Cert.Kernel2Ideal.Gen Cert.Kernel2Ideal.Facts Idealize.ShloMosaic Idealize.ShloMosaic.TcCoe Idealize.ShloMosaic.Tactic Idealize.SL.Sem

variable {F : FTy → Type} [FloatOps F] [Named F]

/-- Query block 0 stores the two heads run through key blocks 0 … 0. -/
theorem out_A (c : Dev nD) (i : grid0.Coords) (arg3 : Memref sig .tc .vmem S512x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S512x128 .bf16) (harg6 : arg6.IsWhole) (hc0 : cond0_0 i) (hc1 : ¬cond0_1 i) (hc2 : ¬cond0_2 i) (hc3 : ¬cond0_3 i)
    (x0 : Vec F S512x256 .bf16) (x1 : Vec F S2048x256 .bf16) (x2 : Vec F S2048x128 .bf16) :
    out0_A_3 c i arg3 harg3 arg4 harg4 arg5 harg5 arg6 harg6 hc0 hc1 hc2 hc3 x0 x1 x2
      = blockOut 0 x0 x1 x2 := by
  unfold out0_A_3
  rw [View.read_writes_eq_canon _ _ _ (cover0_A_3 c i arg3 harg3 arg4 harg4 arg5 harg5 arg6 harg6 hc0 hc1 hc2 hc3 x0 x1 x2)]
  unfold kernelRun0_A
  dsimp only
  sl_unfold_words
  simp only [View.readAt_eq_ld, harg3.read_unread, harg4.read_unread, harg5.read_unread]
  rw [View.canon_unit_zero (by funext a; fin_cases a <;> rfl)]
  rfl

end Cert.Kernel2Ideal.Attn

end
-- ==== Proof.LatentBlockB.lean ====
/- What the body stores at a point of case B: the functions of `LatentStep.lean` composed. -/
module

public import proofs.«01_k».proof.Proof.LatentStep
public import proofs.«01_k».proof.Proof.Gen.Kernel2Ideal.Frame

@[expose] public section

set_option maxRecDepth 16384

noncomputable section

namespace Cert.Kernel2Ideal.Attn

open Cert.Kernel2Ideal Cert.Kernel2Ideal.Gen Cert.Kernel2Ideal.Facts Idealize.ShloMosaic Idealize.ShloMosaic.TcCoe Idealize.ShloMosaic.Tactic Idealize.SL.Sem

variable {F : FTy → Type} [FloatOps F] [Named F]

/-- Query block 1 stores the two heads run through key blocks 0 … 1. -/
theorem out_B (c : Dev nD) (i : grid0.Coords) (arg3 : Memref sig .tc .vmem S512x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S512x128 .bf16) (harg6 : arg6.IsWhole) (hc0 : ¬cond0_0 i) (hc1 : cond0_1 i) (hc2 : ¬cond0_2 i) (hc3 : ¬cond0_3 i)
    (x0 : Vec F S512x256 .bf16) (x1 : Vec F S2048x256 .bf16) (x2 : Vec F S2048x128 .bf16) :
    out0_B_3 c i arg3 harg3 arg4 harg4 arg5 harg5 arg6 harg6 hc0 hc1 hc2 hc3 x0 x1 x2
      = blockOut 1 x0 x1 x2 := by
  unfold out0_B_3
  rw [View.read_writes_eq_canon _ _ _ (cover0_B_3 c i arg3 harg3 arg4 harg4 arg5 harg5 arg6 harg6 hc0 hc1 hc2 hc3 x0 x1 x2)]
  unfold kernelRun0_B
  dsimp only
  sl_unfold_words
  simp only [View.readAt_eq_ld, harg3.read_unread, harg4.read_unread, harg5.read_unread]
  rw [View.canon_unit_zero (by funext a; fin_cases a <;> rfl)]
  rfl

end Cert.Kernel2Ideal.Attn

end
-- ==== Proof.LatentBlockC.lean ====
/- What the body stores at a point of case C: the functions of `LatentStep.lean` composed. -/
module

public import proofs.«01_k».proof.Proof.LatentStep
public import proofs.«01_k».proof.Proof.Gen.Kernel2Ideal.Frame

@[expose] public section

set_option maxRecDepth 16384

noncomputable section

namespace Cert.Kernel2Ideal.Attn

open Cert.Kernel2Ideal Cert.Kernel2Ideal.Gen Cert.Kernel2Ideal.Facts Idealize.ShloMosaic Idealize.ShloMosaic.TcCoe Idealize.ShloMosaic.Tactic Idealize.SL.Sem

variable {F : FTy → Type} [FloatOps F] [Named F]

/-- Query block 2 stores the two heads run through key blocks 0 … 2. -/
theorem out_C (c : Dev nD) (i : grid0.Coords) (arg3 : Memref sig .tc .vmem S512x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S512x128 .bf16) (harg6 : arg6.IsWhole) (hc0 : ¬cond0_0 i) (hc1 : ¬cond0_1 i) (hc2 : cond0_2 i) (hc3 : ¬cond0_3 i)
    (x0 : Vec F S512x256 .bf16) (x1 : Vec F S2048x256 .bf16) (x2 : Vec F S2048x128 .bf16) :
    out0_C_3 c i arg3 harg3 arg4 harg4 arg5 harg5 arg6 harg6 hc0 hc1 hc2 hc3 x0 x1 x2
      = blockOut 2 x0 x1 x2 := by
  unfold out0_C_3
  rw [View.read_writes_eq_canon _ _ _ (cover0_C_3 c i arg3 harg3 arg4 harg4 arg5 harg5 arg6 harg6 hc0 hc1 hc2 hc3 x0 x1 x2)]
  unfold kernelRun0_C
  dsimp only
  sl_unfold_words
  simp only [View.readAt_eq_ld, harg3.read_unread, harg4.read_unread, harg5.read_unread]
  rw [View.canon_unit_zero (by funext a; fin_cases a <;> rfl)]
  rfl

end Cert.Kernel2Ideal.Attn

end
-- ==== Proof.LatentBlockD.lean ====
/- What the body stores at a point of case D: the functions of `LatentStep.lean` composed. -/
module

public import proofs.«01_k».proof.Proof.LatentStep
public import proofs.«01_k».proof.Proof.Gen.Kernel2Ideal.Frame

@[expose] public section

set_option maxRecDepth 16384

noncomputable section

namespace Cert.Kernel2Ideal.Attn

open Cert.Kernel2Ideal Cert.Kernel2Ideal.Gen Cert.Kernel2Ideal.Facts Idealize.ShloMosaic Idealize.ShloMosaic.TcCoe Idealize.ShloMosaic.Tactic Idealize.SL.Sem

variable {F : FTy → Type} [FloatOps F] [Named F]

/-- Query block 3 stores the two heads run through key blocks 0 … 3. -/
theorem out_D (c : Dev nD) (i : grid0.Coords) (arg3 : Memref sig .tc .vmem S512x256 .bf16) (harg3 : arg3.IsWhole) (arg4 : Memref sig .tc .vmem S2048x256 .bf16) (harg4 : arg4.IsWhole) (arg5 : Memref sig .tc .vmem S2048x128 .bf16) (harg5 : arg5.IsWhole) (arg6 : Memref sig .tc .vmem S512x128 .bf16) (harg6 : arg6.IsWhole) (hc0 : ¬cond0_0 i) (hc1 : ¬cond0_1 i) (hc2 : ¬cond0_2 i) (hc3 : cond0_3 i)
    (x0 : Vec F S512x256 .bf16) (x1 : Vec F S2048x256 .bf16) (x2 : Vec F S2048x128 .bf16) :
    out0_D_3 c i arg3 harg3 arg4 harg4 arg5 harg5 arg6 harg6 hc0 hc1 hc2 hc3 x0 x1 x2
      = blockOut 3 x0 x1 x2 := by
  unfold out0_D_3
  rw [View.read_writes_eq_canon _ _ _ (cover0_D_3 c i arg3 harg3 arg4 harg4 arg5 harg5 arg6 harg6 hc0 hc1 hc2 hc3 x0 x1 x2)]
  unfold kernelRun0_D
  dsimp only
  sl_unfold_words
  simp only [View.readAt_eq_ld, harg3.read_unread, harg4.read_unread, harg5.read_unread]
  rw [View.canon_unit_zero (by funext a; fin_cases a <;> rfl)]
  rfl

end Cert.Kernel2Ideal.Attn

end
-- ==== Proof.LatentFinal.lean ====
/- The latent attention from the windows' blocks to the result array: each point's blocks are parts of queries, keys and
   values, so the array after the run is any array whose entries are the attention's rows. -/
module

public import proofs.«01_k».proof.Proof.LatentRows
public import proofs.«01_k».proof.Proof.LatentRef
public import proofs.«01_k».proof.Proof.LatentMem
public import proofs.«01_k».proof.Proof.LatentBlockA
public import proofs.«01_k».proof.Proof.LatentBlockB
public import proofs.«01_k».proof.Proof.LatentBlockC
public import proofs.«01_k».proof.Proof.LatentBlockD
public import Idealize.ShloMosaic.Lib.Pipeline.ValueKit

@[expose] public section

noncomputable section

namespace Cert.Kernel2Ideal.Attn

open Cert.Kernel2Ideal Cert.Kernel2Ideal.Gen Cert.Kernel2Ideal.Facts Cert.Kernel2Ideal.Value Idealize.ShloMosaic Idealize.ShloMosaic.TcCoe _root_.Attn
open Cert.Reference2Ideal.Attn (Args)

variable {x0 : FVec Ideal S8x2048x8x64 .f32} {x1 : FVec Ideal S8x2048x8x32 .f32} {x2 : FVec Ideal S8x2048x256 .f32}
  {x3 : FVec Ideal S8x2048x32 .f32} {x4 x5 : FVec Ideal S256x8x64 .f32} {A : Latent.Reals}

theorem catQ_real (H : Args x0 x1 x2 x3 x4 x5 A) (b : Fin 8) (t : Fin 2048) (h : Fin 8) (d : Fin 128) :
    catQ x0 x1 (ix4 b t h d) = ((Latent.qLane A b h t d : ℝ) : EReal) := by
  rw [catQ_apply, Latent.qLane]
  split_ifs
  exacts [H.qn _ _ _ _, H.qr _ _ _ _, rfl]

theorem hostK_real (H : Args x0 x1 x2 x3 x4 x5 A) (b : Fin 8) (t : Fin 2048) (h : Fin 8) (d : Fin 128) :
    hostK x2 x3 x4 (ix2 ⟨2048 * b.val + t.val, by omega⟩ ⟨128 * h.val + d.val, by omega⟩)
      = ((Latent.kLane A b h t d : ℝ) : EReal) := by
  rw [hostK_apply, catR_apply, Latent.kLane]
  simp only [catW_apply]
  split_ifs
  · simp only [H.lat, H.uk, ← EReal.coe_mul, sum_coe, add_zero]
  · simp only [mul_zero, Finset.sum_const_zero, zero_add]; exact H.kr _ _ _
  · simp

theorem hostV_real (H : Args x0 x1 x2 x3 x4 x5 A) (b : Fin 8) (t : Fin 2048) (h : Fin 8) (d : Fin 64) :
    hostV x2 x5 (ix2 ⟨2048 * b.val + t.val, by omega⟩ ⟨64 * h.val + d.val, by omega⟩)
      = ((Latent.val A b h t d : ℝ) : EReal) := by
  rw [hostV_apply, Latent.val]
  simp only [H.lat, H.uv, ← EReal.coe_mul, sum_coe]

section

variable (A) (b : Fin 8) (p i : Fin 4) (y0 : Vec Ideal S512x256 .bf16) (y1 : Vec Ideal S2048x256 .bf16)
  (y2 : Vec Ideal S2048x128 .bf16)

/-- The blocks of point `(b, p, i)`. -/
structure Blocks : Prop where
  q : ∀ (r : Fin 512) (e : Fin 2) (d : Fin 128), y0 (ix2 r ⟨128 * e.val + d.val, by omega⟩)
    = ((Latent.qLane A b ⟨2 * p.val + e.val, by omega⟩ ⟨512 * i.val + r.val, by omega⟩ d : ℝ) : EReal) * ((s0 * (Real.log 2)⁻¹ : ℝ) : EReal)
  k : ∀ (t : Fin 2048) (e : Fin 2) (d : Fin 128), y1 (ix2 t ⟨128 * e.val + d.val, by omega⟩)
    = ((Latent.kLane A b ⟨2 * p.val + e.val, by omega⟩ t d : ℝ) : EReal)
  v : ∀ (t : Fin 2048) (e : Fin 2) (l : Fin 64), y2 (ix2 t ⟨64 * e.val + l.val, by omega⟩)
    = ((Latent.val A b ⟨2 * p.val + e.val, by omega⟩ t l : ℝ) : EReal)

variable {A b p i y0 y1 y2}

theorem Blocks.score (B : Blocks A b p i y0 y1 y2) (e : Fin 2) (r : Fin 512) (j : Fin 4) (n : Fin 512) :
    blockScore e y0 y1 j (ix2 r n) =
      (((Latent.sc A b ⟨2 * p.val + e.val, by omega⟩ ⟨512 * i.val + r.val, by omega⟩ s0 (512 * j.val + n.val) - 0)
        * (Real.log 2)⁻¹ : ℝ) : EReal) := by
  unfold blockScore
  rw [score_apply]
  simp only [lanesAt_apply, keysAt_apply, B.q, B.k, ← EReal.coe_mul, sum_coe]
  have h := Latent.sc_fin A b ⟨2 * p.val + e.val, by omega⟩ ⟨512 * i.val + r.val, by omega⟩ ⟨512 * j.val + n.val, by omega⟩ s0
  dsimp only at h
  rw [h, ← Latent.lanes_eq, Finset.sum_congr rfl fun l _ => (mul_right_comm _ _ _), ← Finset.sum_mul]
  congr 1
  ring

theorem Blocks.value (B : Blocks A b p i y0 y1 y2) (r : Fin 512) (e : Fin 2) (l : Fin 64) (M : ℝ) :
    blockOut i y0 y1 y2 (ix2 r ⟨64 * e.val + l.val, by omega⟩)
      = Latent.row A b ⟨2 * p.val + e.val, by omega⟩ ⟨512 * i.val + r.val, by omega⟩ s0 M l := by
  refine blockOut_value i e l y0 y1 y2 r (σ := Latent.sc A b ⟨2 * p.val + e.val, by omega⟩ ⟨512 * i.val + r.val, by omega⟩ s0)
    (v := Latent.vl A b ⟨2 * p.val + e.val, by omega⟩ l) M ⟨fun j n => B.score e r j n, fun j n => ?_⟩
  rw [B.v]
  exact (Latent.vl_fin A b ⟨2 * p.val + e.val, by omega⟩ ⟨512 * j.val + n.val, by omega⟩ l).symm

end

theorem lt128 (t : Fin cfg0.N) : t.val < 128 := t.isLt.trans_eq rfl

def bOf (t : Fin cfg0.N) : Fin 8 := ⟨t.val / 16, by have := lt128 t; omega⟩
def pOf (t : Fin cfg0.N) : Fin 4 := ⟨t.val / 4 % 4, by omega⟩
def iOf (t : Fin cfg0.N) : Fin 4 := ⟨t.val % 4, by omega⟩

theorem idx0 : ∀ t : Fin cfg0.N, win0_0.index t (0 : Fin 2) = t.val / 16 * 4 + t.val % 4 ∧ win0_0.index t (1 : Fin 2) = t.val / 4 % 4 :=
  (by decide +kernel : ∀ t : Fin grid0.N, _)
theorem idx1 : ∀ t : Fin cfg0.N, win0_1.index t (0 : Fin 2) = t.val / 16 ∧ win0_1.index t (1 : Fin 2) = t.val / 4 % 4 :=
  (by decide +kernel : ∀ t : Fin grid0.N, _)
theorem idx2 : ∀ t : Fin cfg0.N, win0_2.index t (0 : Fin 2) = t.val / 16 ∧ win0_2.index t (1 : Fin 2) = t.val / 4 % 4 :=
  (by decide +kernel : ∀ t : Fin grid0.N, _)
theorem idx3 : ∀ t : Fin cfg0.N, win0_3.index t (0 : Fin 2) = t.val / 16 * 4 + t.val % 4 ∧ win0_3.index t (1 : Fin 2) = t.val / 4 % 4 :=
  (by decide +kernel : ∀ t : Fin grid0.N, _)

theorem emb0 (t : Fin cfg0.N) (r : Fin 512) (e : Fin 2) (d : Fin 128) :
    (win0_0.blk t).view.emb (ix2 r (⟨128 * e.val + d.val, by omega⟩ : Fin 256))
      = ix2 (⟨2048 * (bOf t).val + (512 * (iOf t).val + r.val), by have := (bOf t).isLt; have := (iOf t).isLt; omega⟩ : Fin 16384)
        (⟨128 * (2 * (pOf t).val + e.val) + d.val, by have := (pOf t).isLt; omega⟩ : Fin 1024) := by
  obtain ⟨h0, h1⟩ := idx0 t
  funext a; apply Fin.ext
  match a with
  | ⟨0, _⟩ => show win0_0.index t (0 : Fin 2) * 512 + 1 * r.val = 2048 * (t.val / 16) + (512 * (t.val % 4) + r.val); omega
  | ⟨1, _⟩ => show win0_0.index t (1 : Fin 2) * 256 + 1 * (128 * e.val + d.val) = 128 * (2 * (t.val / 4 % 4) + e.val) + d.val; omega

theorem emb1 (t : Fin cfg0.N) (r : Fin 2048) (e : Fin 2) (d : Fin 128) :
    (win0_1.blk t).view.emb (ix2 r (⟨128 * e.val + d.val, by omega⟩ : Fin 256))
      = ix2 (⟨2048 * (bOf t).val + r.val, by have := (bOf t).isLt; omega⟩ : Fin 16384)
        (⟨128 * (2 * (pOf t).val + e.val) + d.val, by have := (pOf t).isLt; omega⟩ : Fin 1024) := by
  obtain ⟨h0, h1⟩ := idx1 t
  funext a; apply Fin.ext
  match a with
  | ⟨0, _⟩ => show win0_1.index t (0 : Fin 2) * 2048 + 1 * r.val = 2048 * (t.val / 16) + r.val; omega
  | ⟨1, _⟩ => show win0_1.index t (1 : Fin 2) * 256 + 1 * (128 * e.val + d.val) = 128 * (2 * (t.val / 4 % 4) + e.val) + d.val; omega

theorem emb2 (t : Fin cfg0.N) (r : Fin 2048) (e : Fin 2) (l : Fin 64) :
    (win0_2.blk t).view.emb (ix2 r (⟨64 * e.val + l.val, by omega⟩ : Fin 128))
      = ix2 (⟨2048 * (bOf t).val + r.val, by have := (bOf t).isLt; omega⟩ : Fin 16384)
        (⟨64 * (2 * (pOf t).val + e.val) + l.val, by have := (pOf t).isLt; omega⟩ : Fin 512) := by
  obtain ⟨h0, h1⟩ := idx2 t
  funext a; apply Fin.ext
  match a with
  | ⟨0, _⟩ => show win0_2.index t (0 : Fin 2) * 2048 + 1 * r.val = 2048 * (t.val / 16) + r.val; omega
  | ⟨1, _⟩ => show win0_2.index t (1 : Fin 2) * 128 + 1 * (64 * e.val + l.val) = 64 * (2 * (t.val / 4 % 4) + e.val) + l.val; omega

theorem emb3 (t : Fin cfg0.N) (r : Fin 512) (e : Fin 2) (l : Fin 64) :
    (win0_3.blk t).view.emb (ix2 r (⟨64 * e.val + l.val, by omega⟩ : Fin 128))
      = ix2 (⟨2048 * (bOf t).val + (512 * (iOf t).val + r.val), by have := (bOf t).isLt; have := (iOf t).isLt; omega⟩ : Fin 16384)
        (⟨64 * (2 * (pOf t).val + e.val) + l.val, by have := (pOf t).isLt; omega⟩ : Fin 512) := by
  obtain ⟨h0, h1⟩ := idx3 t
  funext a; apply Fin.ext
  match a with
  | ⟨0, _⟩ => show win0_3.index t (0 : Fin 2) * 512 + 1 * r.val = 2048 * (t.val / 16) + (512 * (t.val % 4) + r.val); omega
  | ⟨1, _⟩ => show win0_3.index t (1 : Fin 2) * 128 + 1 * (64 * e.val + l.val) = 64 * (2 * (t.val / 4 % 4) + e.val) + l.val; omega

variable (m : (ℓ : Loc nD τ sig) → Buf (Elt Ideal) ℓ) (c : Dev nD)

/-- The arguments in memory are real numbers. -/
def Held (A : Latent.Reals) : Prop :=
  Args (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) A

variable {m c}

theorem blocks_at (H : Held m c A) (t : Fin cfg0.N) :
    Blocks A (bOf t) (pOf t) (iOf t) (iblk m c 0 t) (iblk m c 1 t) (iblk m c 2 t) where
  q r e d := by
    show V m c main_v7 ((win0_0.blk t).view.emb (ix2 r (⟨128 * e.val + d.val, by omega⟩ : Fin 256))) = _
    rw [emb0, V_q, ← catQ_real H]
    exact hostQ_apply _ _ (bOf t) ⟨512 * (iOf t).val + r.val, by have := (iOf t).isLt; omega⟩ ⟨2 * (pOf t).val + e.val, by have := (pOf t).isLt; omega⟩ d
  k r e d := by
    show V m c main_v21 ((win0_1.blk t).view.emb (ix2 r (⟨128 * e.val + d.val, by omega⟩ : Fin 256))) = _
    rw [emb1, V_k]
    exact hostK_real H (bOf t) r ⟨2 * (pOf t).val + e.val, by have := (pOf t).isLt; omega⟩ d
  v r e l := by
    show V m c main_v25 ((win0_2.blk t).view.emb (ix2 r (⟨64 * e.val + l.val, by omega⟩ : Fin 128))) = _
    rw [emb2, V_v]
    exact hostV_real H (bOf t) r ⟨2 * (pOf t).val + e.val, by have := (pOf t).isLt; omega⟩ l

variable (m c)

/-- What a point writes back is the block's rows. -/
theorem flushed_at (t : Fin cfg0.N) : (dats m 0 c).flushed 3 t
    = (cfg0.win 3).cut (grid0.coords t) (blockOut (iOf t) (iblk m c 0 t) (iblk m c 1 t) (iblk m c 2 t)) := by
  have h : t.val % 4 < 4 := by omega
  by_cases h0 : t.val % 4 = 0
  · rw [flushed3_A m c t h0 (by omega) (by omega) (by omega), out_A, show iOf t = 0 from Fin.ext h0]
  by_cases h1 : t.val % 4 = 1
  · rw [flushed3_B m c t h0 h1 (by omega) (by omega), out_B, show iOf t = 1 from Fin.ext h1]
  by_cases h2 : t.val % 4 = 2
  · rw [flushed3_C m c t h0 h1 h2 (by omega), out_C, show iOf t = 2 from Fin.ext h2]
  · rw [flushed3_D m c t h0 h1 h2 (by omega), out_D, show iOf t = 3 from Fin.ext (by show t.val % 4 = 3; omega)]

variable {m c}

/-- The array after the run, when each entry of `G` is the attention's row at some real offset. -/
theorem final (H : Held m c A) (G : Vec Ideal S16384x512 .bf16)
    (hG : ∀ (b h : Fin 8) (t : Fin 2048) (d : Fin 64), ∃ M : ℝ,
      G (ix2 ⟨2048 * b.val + t.val, by omega⟩ ⟨64 * h.val + d.val, by omega⟩) = Latent.row A b h t s0 M d) :
    (dats m 0 c).arrAt 3 cfg0.N = G := by
  refine (dats m 0 c).arrAt_eq_of_cover 3 G (fun t _ => ?_) fun j => ?_
  · rw [flushed_at]
    funext y
    obtain ⟨r, d, rfl⟩ : ∃ (r : Fin 512) (d : Fin 128), y = ix2 r d := ⟨y 0, y 1, by funext a; match a with | ⟨0, _⟩ => rfl | ⟨1, _⟩ => rfl⟩
    obtain ⟨e, l, rfl⟩ : ∃ (e : Fin 2) (l : Fin 64), d = ⟨64 * e.val + l.val, by omega⟩ :=
      ⟨⟨d.val / 64, by omega⟩, ⟨d.val % 64, by omega⟩, Fin.ext (by show d.val = 64 * (d.val / 64) + d.val % 64; omega)⟩
    show blockOut (iOf t) (iblk m c 0 t) (iblk m c 1 t) (iblk m c 2 t) (ix2 r ⟨64 * e.val + l.val, by omega⟩)
      = G ((win0_3.blk t).view.emb (ix2 r (⟨64 * e.val + l.val, by omega⟩ : Fin 128)))
    rw [emb3]
    obtain ⟨M, hM⟩ := hG (bOf t) ⟨2 * (pOf t).val + e.val, by have := (pOf t).isLt; omega⟩ ⟨512 * (iOf t).val + r.val, by have := (iOf t).isLt; omega⟩ l
    exact ((blocks_at H t).value r e l M).trans hM.symm
  · obtain ⟨R, C, rfl⟩ : ∃ (R : Fin 16384) (C : Fin 512), j = ix2 R C := ⟨j 0, j 1, by funext a; match a with | ⟨0, _⟩ => rfl | ⟨1, _⟩ => rfl⟩
    have ht : R.val / 2048 * 16 + C.val / 128 * 4 + R.val / 512 % 4 < cfg0.N := by
      show _ < 128; omega
    refine ⟨⟨_, ht⟩, flush0_3 _, ?_⟩
    have h := (win0_3.blk ⟨_, ht⟩).view.emb_mem_set (ix2 (⟨R.val % 512, by omega⟩ : Fin 512)
      (⟨64 * (⟨C.val / 64 % 2, by omega⟩ : Fin 2).val + (⟨C.val % 64, by omega⟩ : Fin 64).val, by dsimp only; omega⟩ : Fin 128))
    rw [emb3] at h
    convert h using 2 <;> apply Fin.ext
    · show R.val = 2048 * ((R.val / 2048 * 16 + C.val / 128 * 4 + R.val / 512 % 4) / 16) + (512 * ((R.val / 2048 * 16 + C.val / 128 * 4 + R.val / 512 % 4) % 4) + R.val % 512)
      omega
    · show C.val = 64 * (2 * ((R.val / 2048 * 16 + C.val / 128 * 4 + R.val / 512 % 4) / 4 % 4) + C.val / 64 % 2) + C.val % 64
      omega

end Cert.Kernel2Ideal.Attn

end
-- ==== Proof.LatentClaim.lean ====
/- The value claim of the latent attention: on finite arguments the kernel's result array is the reference's. -/
module

public import proofs.«01_k».proof.Defs
public import proofs.«01_k».proof.Proof.Gen.Reference2Ideal.Run
public import proofs.«01_k».proof.Proof.LatentFinite
public import proofs.«01_k».proof.Proof.LatentFinal

@[expose] public section

noncomputable section

namespace Cert.Proof

open Idealize.ShloMosaic Idealize.ShloMosaic.TcCoe Idealize.SL.Sem

/-- Finite arguments are the real numbers they hold. -/
theorem args2 (x0 : FVec Ideal Cert.Kernel2Ideal.S8x2048x8x64 .f32) (x1 : FVec Ideal Cert.Kernel2Ideal.S8x2048x8x32 .f32)
    (x2 : FVec Ideal Cert.Kernel2Ideal.S8x2048x256 .f32) (x3 : FVec Ideal Cert.Kernel2Ideal.S8x2048x32 .f32)
    (x4 x5 : FVec Ideal Cert.Kernel2Ideal.S256x8x64 .f32)
    (h : Cert.Pre_finite2.fn (F := Ideal) x0 x1 x2 x3 x4 x5 = fun _ => 1#1) :
    Cert.Reference2Ideal.Attn.Args x0 x1 x2 x3 x4 x5
      ⟨fun b t h d => EReal.toReal (x0 (ix4 b t h d)), fun b t h d => EReal.toReal (x1 (ix4 b t h d)),
        fun b t c => EReal.toReal (x2 (ix3 b t c)), fun b t d => EReal.toReal (x3 (ix3 b t d)),
        fun c h d => EReal.toReal (x4 (ix3 c h d)), fun c h d => EReal.toReal (x5 (ix3 c h d))⟩ := by
  obtain ⟨h0, h1, h2, h3, h4, h5⟩ := Cert.Pre_finite2.Attn.finite x0 x1 x2 x3 x4 x5 h
  exact ⟨fun _ _ _ _ => (EReal.coe_toReal (h0 _).1 (h0 _).2).symm, fun _ _ _ _ => (EReal.coe_toReal (h1 _).1 (h1 _).2).symm,
    fun _ _ _ => (EReal.coe_toReal (h2 _).1 (h2 _).2).symm, fun _ _ _ => (EReal.coe_toReal (h3 _).1 (h3 _).2).symm,
    fun _ _ _ => (EReal.coe_toReal (h4 _).1 (h4 _).2).symm, fun _ _ _ => (EReal.coe_toReal (h5 _).1 (h5 _).2).symm⟩

/-- The kernel's result on device `c`, from memory `m`. -/
theorem result2 (m : (ℓ : Loc Cert.Kernel2Ideal.nD Cert.Kernel2Ideal.τ Cert.Kernel2Ideal.sig) → Buf (Elt Ideal) ℓ)
    (h : Pre_Kernel2Ideal_finite2 m) (c : Dev Cert.Kernel2Ideal.nD) :
    (Cert.Kernel2Ideal.Gen.dats m 0 c).arrAt 3 Cert.Kernel2Ideal.cfg0.N
      = Cert.Reference2Ideal.Read.val_main_v32 (F := Ideal)
        (m ((c.tc : Thread Cert.Kernel2Ideal.nD Cert.Kernel2Ideal.τ).loc Cert.Kernel2Ideal.main_arg0))
        (m ((c.tc : Thread Cert.Kernel2Ideal.nD Cert.Kernel2Ideal.τ).loc Cert.Kernel2Ideal.main_arg1))
        (m ((c.tc : Thread Cert.Kernel2Ideal.nD Cert.Kernel2Ideal.τ).loc Cert.Kernel2Ideal.main_arg2))
        (m ((c.tc : Thread Cert.Kernel2Ideal.nD Cert.Kernel2Ideal.τ).loc Cert.Kernel2Ideal.main_arg3))
        (m ((c.tc : Thread Cert.Kernel2Ideal.nD Cert.Kernel2Ideal.τ).loc Cert.Kernel2Ideal.main_arg4))
        (m ((c.tc : Thread Cert.Kernel2Ideal.nD Cert.Kernel2Ideal.τ).loc Cert.Kernel2Ideal.main_arg5)) := by
  have H := args2 _ _ _ _ _ _ (h c)
  exact Cert.Kernel2Ideal.Attn.final (m := m) (c := c) H _ fun b g t d => Cert.Reference2Ideal.Attn.value H b g t d

theorem algebraic2 : algebraic_Kernel2Ideal_Reference2Ideal_pre_finite2 := by
  intro m g m' g' h agree
  refine ⟨fun c => (Cert.Kernel2Ideal.Gen.dats m 0 c).arrAt 3 Cert.Kernel2Ideal.cfg0.N,
    Cert.Kernel2Ideal.Value.run_blocks m g, ?_⟩
  refine (θ_run _ _ _).mono (fun r hr c => ⟨(hr c).1.trans ?_, (hr c).2⟩) (Cert.Reference2Ideal.Value.run m' g')
  obtain ⟨e0, e1, e2, e3, e4, e5⟩ := agree c
  rw [Cert.Reference2Ideal.Read.val_main_v32_eq, e0, e1, e2, e3, e4, e5]
  exact (result2 m h c).symm

end Cert.Proof

end
-- ==== Proof.Norm.lean ====
/- The normalisation of a row of 1024 entries - less its mean, times the inverse root of its variance - as the kernels
   compute it on a block of rows and as the references compute it on the whole array. -/
module

public import proofs.«01_k».proof.Proof.Gen.Kernel4Ideal.Skeleton
public import proofs.«01_k».proof.Proof.Gen.Reference4Ideal.Read
public import Idealize.ShloMosaic.Lib.Pointwise

@[expose] public section

noncomputable section

namespace Layer

open Idealize.ShloMosaic

/-- The mean of a row. -/
def mean (f : Fin 1024 → EReal) : EReal := Ideal.div (∑ k, f k) (Ideal.ofBits .f32 0x44800000#32)

/-- The normalised row. -/
def nrm (f : Fin 1024 → EReal) (i : Fin 1024) : EReal :=
  (f i - mean f) * Ideal.rsqrt (mean (fun k => (f k - mean f) * (f k - mean f)) + Ideal.ofBits .f32 0x3727C5AC#32)

/-- The normalised row under a modulation's scale and shift. -/
def modulated (f sc sh : Fin 1024 → EReal) (i : Fin 1024) : EReal :=
  nrm f i * (Ideal.ofBits .f32 0x3F800000#32 + sc i) + sh i

/-- The residual: the row times a constant plus the gated branch, normalised, times the gain, plus the bias. -/
def resid (f gate y gain bias : Fin 1024 → EReal) (i : Fin 1024) : EReal :=
  nrm (fun k => Ideal.ofBits .f32 0x3FB504F3#32 * f k + gate k * y k) i * gain i + bias i

end Layer

namespace Cert.Kernel4Ideal.Layer

open Cert.Kernel4Ideal Cert.Kernel4Ideal.Gen Cert.Kernel4Ideal.Facts Idealize.ShloMosaic _root_.Layer

/-- The means of the rows of a block. -/
def meanV (x : FVec Ideal S512x1024 .f32) : FVec Ideal S512x1 .f32 :=
  divf (shapeCast S512x1 (multiReduction .add [1] S512 x 0x00000000#32 reduces_S512x1024_S512 (.inl rfl) rfl)
    shapeCasts_S512_S512x1) (broadcast S512x1 (Scalar.ofBits .f32 0x44800000#32))

/-- The rows of a block less their means. -/
def centredV (x : FVec Ideal S512x1024 .f32) : FVec Ideal S512x1024 .f32 :=
  subf x (broadcastTo S512x1024 (meanV x) broadcasts_S512x1_S512x1024)

/-- The rows of a block, normalised. -/
def normV (x : FVec Ideal S512x1024 .f32) : FVec Ideal S512x1024 .f32 :=
  mulf (centredV x) (broadcastTo S512x1024
    (rsqrt (addf (meanV (mulf (centredV x) (centredV x))) (broadcast S512x1 (Scalar.ofBits .f32 0x3727C5AC#32))))
    broadcasts_S512x1_S512x1024)

/-- The rows of a block, normalised and modulated. -/
def modulatedV (x : FVec Ideal S512x1024 .f32) (sc sh : Vec Ideal S1x1x1024 .f32) : FVec Ideal S512x1024 .f32 :=
  addf (mulf (normV x) (broadcastTo S512x1024 (addf (broadcast S1x1024 (Scalar.ofBits .f32 0x3F800000#32))
      (shapeCast S1x1024 sc shapeCasts_S1x1x1024_S1x1024)) broadcasts_S1x1024_S512x1024))
    (broadcastTo S512x1024 (shapeCast S1x1024 sh shapeCasts_S1x1x1024_S1x1024) broadcasts_S1x1024_S512x1024)

/-- The residual of a block of rows. -/
def residualV (x y : FVec Ideal S512x1024 .f32) (gate : Vec Ideal S1x1x1024 .f32) (gain bias : Vec Ideal S1x1024 .f32) :
    FVec Ideal S512x1024 .f32 :=
  addf (mulf (normV (addf (mulf (broadcast S512x1024 (Scalar.ofBits .f32 0x3FB504F3#32)) x)
      (mulf (broadcastTo S512x1024 (shapeCast S1x1024 gate shapeCasts_S1x1x1024_S1x1024) broadcasts_S1x1024_S512x1024) y)))
    (broadcastTo S512x1024 (shapeCast S1x1024 gain shapeCasts_S1x1024_S1x1024) broadcasts_S1x1024_S512x1024))
    (broadcastTo S512x1024 (shapeCast S1x1024 bias shapeCasts_S1x1024_S1x1024) broadcasts_S1x1024_S512x1024)

variable (x : FVec Ideal S512x1024 .f32) (r : Fin 512) (i : Fin 1024)

theorem meanV_apply : meanV x (ix2 r 0) = mean (fun k => x (ix2 r k)) := by
  unfold meanV mean
  pointwise
  try rfl

theorem centredV_apply : centredV x (ix2 r i) = x (ix2 r i) - mean (fun k => x (ix2 r k)) := by
  unfold centredV
  pointwise
  rw [← meanV_apply]

theorem normV_apply : normV x (ix2 r i) = nrm (fun k => x (ix2 r k)) i := by
  unfold normV nrm
  generalize hc : centredV x = c
  pointwise
  rw [meanV_apply]
  subst hc
  pointwise
  simp only [centredV_apply]
  try rfl

theorem modulatedV_apply (sc sh : Vec Ideal S1x1x1024 .f32) : modulatedV x sc sh (ix2 r i)
    = modulated (fun k => x (ix2 r k)) (fun k => sc (ix3 0 0 k)) (fun k => sh (ix3 0 0 k)) i := by
  unfold modulatedV modulated
  rw [← normV_apply]
  generalize normV x = n
  pointwise
  try rfl

theorem residualV_apply (y : FVec Ideal S512x1024 .f32) (gate : Vec Ideal S1x1x1024 .f32) (gain bias : Vec Ideal S1x1024 .f32) :
    residualV x y gate gain bias (ix2 r i)
    = resid (fun k => x (ix2 r k)) (fun k => gate (ix3 0 0 k)) (fun k => y (ix2 r k)) (fun k => gain (ix2 0 k))
      (fun k => bias (ix2 0 k)) i := by
  unfold residualV resid
  generalize hz : (addf (mulf (broadcast S512x1024 (Scalar.ofBits .f32 0x3FB504F3#32)) x)
      (mulf (broadcastTo S512x1024 (shapeCast S1x1024 gate shapeCasts_S1x1x1024_S1x1024) broadcasts_S1x1024_S512x1024) y)) = z
  have h : ∀ k, z (ix2 r k) = Ideal.ofBits .f32 0x3FB504F3#32 * x (ix2 r k) + gate (ix3 0 0 k) * y (ix2 r k) := by
    intro k; subst hz; pointwise; try rfl
  pointwise
  rw [normV_apply]
  simp only [h]

end Cert.Kernel4Ideal.Layer

namespace Cert.Reference4Ideal.Layer

open Cert.Reference4Ideal Cert.Reference4Ideal.Gen Cert.Reference4Ideal.Facts Cert.Reference4Ideal.Read Idealize.ShloMosaic _root_.Layer

/-- The means of the rows of the array. -/
def meanH (x : FVec Ideal S8x2048x1024 .f32) : FVec Ideal S8x2048x1 .f32 :=
  Host.divf (broadcastInDim S8x2048x1 ![0, 1] bcast_S8x2048_S8x2048x1_0_1
      (Host.reduceAdd x (constant S_ .f32 0x00000000#32) reducesTo_S8x2048x1024_S8x2048_d2 h_S_))
    (broadcastInDim S8x2048x1 ![] bcast_S_S8x2048x1 (constant S_ .f32 0x44800000#32))

def centredH (x : FVec Ideal S8x2048x1024 .f32) : FVec Ideal S8x2048x1024 .f32 :=
  subf x (broadcastInDim S8x2048x1024 ![0, 1, 2] bcast_S8x2048x1_S8x2048x1024_0_1_2 (meanH x))

/-- The rows of the array, normalised. -/
def normH (x : FVec Ideal S8x2048x1024 .f32) : FVec Ideal S8x2048x1024 .f32 :=
  mulf (centredH x) (broadcastInDim S8x2048x1024 ![0, 1, 2] bcast_S8x2048x1_S8x2048x1024_0_1_2
    (Host.rsqrt (addf (meanH (mulf (centredH x) (centredH x)))
      (broadcastInDim S8x2048x1 ![] bcast_S_S8x2048x1 (constant S_ .f32 0x3727C5AC#32)))))

/-- The rows of the array, normalised and modulated. -/
def modulatedH (x : FVec Ideal S8x2048x1024 .f32) (sc sh : FVec Ideal S8x1x1024 .f32) : FVec Ideal S8x2048x1024 .f32 :=
  addf (mulf (normH x) (broadcastInDim S8x2048x1024 ![0, 1, 2] bcast_S8x1x1024_S8x2048x1024_0_1_2
      (addf (broadcastInDim S8x1x1024 ![] bcast_S_S8x1x1024 (constant S_ .f32 0x3F800000#32)) sc)))
    (broadcastInDim S8x2048x1024 ![0, 1, 2] bcast_S8x1x1024_S8x2048x1024_0_1_2 sh)

/-- The residual of the array's rows, as rows `2048·b + t`. -/
def residualH (x y : FVec Ideal S8x2048x1024 .f32) (gate : FVec Ideal S8x1x1024 .f32) (gain bias : FVec Ideal S1024 .f32) :
    FVec Ideal S16384x1024 .f32 :=
  shapeCast S16384x1024 (addf (mulf (normH (addf (mulf (broadcastInDim S8x2048x1024 ![] bcast_S_S8x2048x1024 (constant S_ .f32 0x3FB504F3#32)) x)
      (mulf (broadcastInDim S8x2048x1024 ![0, 1, 2] bcast_S8x1x1024_S8x2048x1024_0_1_2 gate) y)))
    (broadcastInDim S8x2048x1024 ![0, 1, 2] bcast_S1x1x1024_S8x2048x1024_0_1_2 (broadcastInDim S1x1x1024 ![2] bcast_S1024_S1x1x1024_2 gain)))
    (broadcastInDim S8x2048x1024 ![0, 1, 2] bcast_S1x1x1024_S8x2048x1024_0_1_2 (broadcastInDim S1x1x1024 ![2] bcast_S1024_S1x1x1024_2 bias)))
    shapeCasts_S8x2048x1024_S16384x1024

variable (x : FVec Ideal S8x2048x1024 .f32) (b : Fin 8) (t : Fin 2048) (i : Fin 1024)

theorem meanH_apply : meanH x (ix3 b t 0) = mean (fun k => x (ix3 b t k)) := by
  unfold meanH mean
  pointwise
  try rfl

theorem centredH_apply : centredH x (ix3 b t i) = x (ix3 b t i) - mean (fun k => x (ix3 b t k)) := by
  unfold centredH
  pointwise
  rw [← meanH_apply]

theorem normH_apply : normH x (ix3 b t i) = nrm (fun k => x (ix3 b t k)) i := by
  unfold normH nrm
  generalize hc : centredH x = c
  pointwise
  rw [meanH_apply]
  subst hc
  pointwise
  simp only [centredH_apply]
  try rfl

theorem modulatedH_apply (sc sh : FVec Ideal S8x1x1024 .f32) : modulatedH x sc sh (ix3 b t i)
    = modulated (fun k => x (ix3 b t k)) (fun k => sc (ix3 b 0 k)) (fun k => sh (ix3 b 0 k)) i := by
  unfold modulatedH modulated
  rw [← normH_apply]
  generalize normH x = n
  pointwise
  try rfl

theorem residualH_apply (y : FVec Ideal S8x2048x1024 .f32) (gate : FVec Ideal S8x1x1024 .f32) (gain bias : FVec Ideal S1024 .f32) :
    residualH x y gate gain bias (ix2 ⟨2048 * b.val + t.val, by omega⟩ i)
    = resid (fun k => x (ix3 b t k)) (fun k => gate (ix3 b 0 k)) (fun k => y (ix3 b t k)) (fun k => gain (ix1 k))
      (fun k => bias (ix1 k)) i := by
  unfold residualH resid
  generalize hz : (addf (mulf (broadcastInDim S8x2048x1024 ![] bcast_S_S8x2048x1024 (constant S_ .f32 0x3FB504F3#32)) x)
      (mulf (broadcastInDim S8x2048x1024 ![0, 1, 2] bcast_S8x1x1024_S8x2048x1024_0_1_2 gate) y)) = z
  have h : ∀ k, z (ix3 b t k) = Ideal.ofBits .f32 0x3FB504F3#32 * x (ix3 b t k) + gate (ix3 b 0 k) * y (ix3 b t k) := by
    intro k; subst hz; pointwise; try rfl
  pointwise
  rw [normH_apply]
  simp only [h]

end Cert.Reference4Ideal.Layer

end
-- ==== Proof.Ffn.lean ====
/- The feed-forward network on a block of 512 rows: what the body stores, as the normalisation, the four chunks of the
   hidden layer added one after the other, and the residual; and this read at coordinates as one sum over the hidden layer. -/
module

public import proofs.«01_k».proof.Proof.Norm
public import proofs.«01_k».proof.Proof.Gen.Kernel4Ideal.Frame

@[expose] public section

noncomputable section

namespace Layer

/-- A unit of the hidden layer: the square of the positive part. -/
def unit (h : Fin 1024 → EReal) (up : Fin 1024 → EReal) : EReal := max (∑ x, h x * up x) 0 * max (∑ x, h x * up x) 0

/-- The feed-forward network of a row. -/
def ffn (h : Fin 1024 → EReal) (up : Fin 1024 → Fin 4096 → EReal) (down : Fin 4096 → Fin 1024 → EReal) (i : Fin 1024) : EReal :=
  ∑ k, unit h (fun x => up x k) * down k i

/-- The hidden layer's sum cut in four. -/
theorem ffn_chunks (h : Fin 1024 → EReal) (up : Fin 1024 → Fin 4096 → EReal) (down : Fin 4096 → Fin 1024 → EReal) (i : Fin 1024) :
    ffn h up down i = ∑ j : Fin 4, ∑ k : Fin 1024, unit h (fun x => up x ⟨1024 * j.val + k.val, by omega⟩)
      * down ⟨1024 * j.val + k.val, by omega⟩ i := by
  unfold ffn
  rw [Idealize.ShloMosaic.Fin.sum_univ_tiles 4 1024 rfl]
  refine Finset.sum_congr rfl fun j _ => Finset.sum_congr rfl fun k _ => ?_
  simp only [Nat.mul_comm 1024 j.val]

end Layer

namespace Cert.Kernel4Ideal.Layer

open Cert.Kernel4Ideal Cert.Kernel4Ideal.Gen Cert.Kernel4Ideal.Facts Idealize.ShloMosaic _root_.Layer

/-- A chunk of the hidden layer. -/
def hiddenV (h : FVec Ideal S512x1024 .bf16) (u : Vec Ideal S1024x1024 .bf16) : FVec Ideal S512x1024 .f32 :=
  maximumf (matmul dot_S512x1024_S1024x1024_S512x1024_1_0_0_1_n_n none h
      (shapeCast S1024x1024 u shapeCasts_S1024x1024_S1024x1024 : FVec Ideal S1024x1024 .bf16) (constant S512x1024 .f32 0x00000000#32))
    (broadcast S512x1024 (Scalar.ofBits .f32 0x00000000#32))

/-- What a chunk of the hidden layer adds. -/
def chunkV (h : FVec Ideal S512x1024 .bf16) (u w : Vec Ideal S1024x1024 .bf16) : FVec Ideal S512x1024 .f32 :=
  matmul dot_S512x1024_S1024x1024_S512x1024_1_0_0_1_n_n none
    (truncf .bf16 (mulf (hiddenV h u) (hiddenV h u)) bitsLt_bf16_f32)
    (shapeCast S1024x1024 w shapeCasts_S1024x1024_S1024x1024 : FVec Ideal S1024x1024 .bf16) (constant S512x1024 .f32 0x00000000#32)

theorem col_inb (j : Fin 4) (a : Fin 2) : (![0, 1024 * j.val] : Fin 2 → ℕ) a + S1024x1024.size a ≤ S1024x4096.size a := by
  fin_cases j <;> fin_cases a <;> decide

theorem row_inb (j : Fin 4) (a : Fin 2) : (![1024 * j.val, 0] : Fin 2 → ℕ) a + S1024x1024.size a ≤ S4096x1024.size a := by
  fin_cases j <;> fin_cases a <;> decide

/-- Columns `1024·j …` of the first weight. -/
def colsAt (x : Vec Ideal S1024x4096 .bf16) (j : Fin 4) : Vec Ideal S1024x1024 .bf16 :=
  View.ld x (Rect.unit (s := S1024x4096) ![0, 1024 * j.val] S1024x1024.size (col_inb j))

/-- Rows `1024·j …` of the second weight. -/
def rowsAt (x : Vec Ideal S4096x1024 .bf16) (j : Fin 4) : Vec Ideal S1024x1024 .bf16 :=
  View.ld x (Rect.unit (s := S4096x1024) ![1024 * j.val, 0] S1024x1024.size (row_inb j))

/-- The four chunks added one after the other. -/
def ffnV (h : FVec Ideal S512x1024 .bf16) (up : Vec Ideal S1024x4096 .bf16) (down : Vec Ideal S4096x1024 .bf16) :
    FVec Ideal S512x1024 .f32 :=
  addf (addf (addf (addf (broadcast S512x1024 (Scalar.ofBits .f32 0x00000000#32)) (chunkV h (colsAt up 0) (rowsAt down 0)))
    (chunkV h (colsAt up 1) (rowsAt down 1))) (chunkV h (colsAt up 2) (rowsAt down 2))) (chunkV h (colsAt up 3) (rowsAt down 3))

/-- The rows the body reads. -/
def ownV (x : Vec Ideal S512x1024 .f32) : FVec Ideal S512x1024 .f32 :=
  shapeCast S512x1024 x shapeCasts_S512x1024_S512x1024

/-- What the body stores. -/
theorem out_eq (x0 : Vec Ideal S512x1024 .f32) (x1 x2 x3 : Vec Ideal S1x1x1024 .f32) (x4 : Vec Ideal S1024x4096 .bf16)
    (x5 : Vec Ideal S4096x1024 .bf16) (x6 x7 : Vec Ideal S1x1024 .f32) :
    out0_8 (F := Ideal) x0 x1 x2 x3 x4 x5 x6 x7
      = residualV (ownV x0) (ffnV (truncf .bf16 (modulatedV (ownV x0) x2 x1) bitsLt_bf16_f32) x4 x5) x3 x6 x7 := by
  unfold out0_8
  have two : (![0, 0] : Fin 2 → ℕ) = fun _ => 0 := by funext a; fin_cases a <;> rfl
  have three : (![0, 0, 0] : Fin 3 → ℕ) = fun _ => 0 := by funext a; fin_cases a <;> rfl
  rw [View.canon_unit_zero two]
  have h0 : View.ld x0 r0_0 = x0 := View.ld_unit_zero two _ x0
  have h1 : View.ld x1 r0_1 = x1 := View.ld_unit_zero three _ x1
  have h2 : View.ld x2 r0_1 = x2 := View.ld_unit_zero three _ x2
  have h3 : View.ld x3 r0_1 = x3 := View.ld_unit_zero three _ x3
  have h6 : View.ld x6 r0_10 = x6 := View.ld_unit_zero two _ x6
  have h7 : View.ld x7 r0_10 = x7 := View.ld_unit_zero two _ x7
  rw [h0, h1, h2, h3, h6, h7]
  rfl

variable (r : Fin 512) (i : Fin 1024)

theorem hiddenV_apply (h : FVec Ideal S512x1024 .bf16) (u : Vec Ideal S1024x1024 .bf16) :
    hiddenV h u (ix2 r i) = max (∑ x : Fin 1024, h (ix2 r x) * u (ix2 x i)) 0 := by
  unfold hiddenV
  pointwise [dot_S512x1024_S1024x1024_S512x1024_1_0_0_1_n_n]

theorem chunkV_apply (h : FVec Ideal S512x1024 .bf16) (u w : Vec Ideal S1024x1024 .bf16) :
    chunkV h u w (ix2 r i) = ∑ k : Fin 1024, unit (fun x => h (ix2 r x)) (fun x => u (ix2 x k)) * w (ix2 k i) := by
  unfold chunkV unit
  pointwise [dot_S512x1024_S1024x1024_S512x1024_1_0_0_1_n_n]
  simp only [hiddenV_apply]

theorem colsAt_apply (x : Vec Ideal S1024x4096 .bf16) (j : Fin 4) (k : Fin 1024) :
    colsAt x j (ix2 i k) = x (ix2 i ⟨1024 * j.val + k.val, by omega⟩) := by
  unfold colsAt
  pointwise

theorem rowsAt_apply (x : Vec Ideal S4096x1024 .bf16) (j : Fin 4) (k : Fin 1024) :
    rowsAt x j (ix2 k i) = x (ix2 ⟨1024 * j.val + k.val, by omega⟩ i) := by
  unfold rowsAt
  pointwise

theorem ffnV_apply (h : FVec Ideal S512x1024 .bf16) (up : Vec Ideal S1024x4096 .bf16) (down : Vec Ideal S4096x1024 .bf16) :
    ffnV h up down (ix2 r i) = ffn (fun x => h (ix2 r x)) (fun x k => up (ix2 x k)) (fun k i => down (ix2 k i)) i := by
  rw [ffn_chunks, Fin.sum_univ_four]
  unfold ffnV
  pointwise
  simp only [chunkV_apply, colsAt_apply, rowsAt_apply]
  have e1 : ((1 : Fin 4) : ℕ) = 1 := rfl
  have e2 : ((2 : Fin 4) : ℕ) = 2 := rfl
  have e3 : ((3 : Fin 4) : ℕ) = 3 := rfl
  simp only [Fin.val_zero, e1, e2, e3, Nat.mul_zero, Nat.zero_add, Nat.mul_one, Nat.reduceMul]

theorem ownV_apply (x : Vec Ideal S512x1024 .f32) : ownV x (ix2 r i) = x (ix2 r i) := by
  unfold ownV
  pointwise

/-- WHAT THE BODY STORES at row `r` and column `i`. -/
theorem out_apply (x0 : Vec Ideal S512x1024 .f32) (x1 x2 x3 : Vec Ideal S1x1x1024 .f32) (x4 : Vec Ideal S1024x4096 .bf16)
    (x5 : Vec Ideal S4096x1024 .bf16) (x6 x7 : Vec Ideal S1x1024 .f32) :
    out0_8 (F := Ideal) x0 x1 x2 x3 x4 x5 x6 x7 (ix2 r i)
      = resid (fun k => x0 (ix2 r k)) (fun k => x3 (ix3 0 0 k))
          (ffn (modulated (fun k => x0 (ix2 r k)) (fun k => x2 (ix3 0 0 k)) (fun k => x1 (ix3 0 0 k)))
            (fun x k => x4 (ix2 x k)) (fun k i => x5 (ix2 k i)))
          (fun k => x6 (ix2 0 k)) (fun k => x7 (ix2 0 k)) i := by
  rw [out_eq, residualV_apply]
  have e : ∀ v : FVec Ideal S512x1024 .f32, ∀ j, (truncf .bf16 v bitsLt_bf16_f32 : FVec Ideal S512x1024 .bf16) j = v j := fun _ _ => rfl
  simp only [ffnV_apply, ownV_apply, e, modulatedV_apply]

end Cert.Kernel4Ideal.Layer

namespace Cert.Reference4Ideal.Layer

open Cert.Reference4Ideal Cert.Reference4Ideal.Gen Cert.Reference4Ideal.Facts Cert.Reference4Ideal.Read Idealize.ShloMosaic _root_.Layer

/-- The feed-forward network on the whole array. -/
def ffnH (h : FVec Ideal S8x2048x1024 .f32) (up : FVec Ideal S1024x4096 .f32) (down : FVec Ideal S4096x1024 .f32) :
    FVec Ideal S8x2048x1024 .f32 :=
  Host.dotGeneral dot_S8x2048x4096_S4096x1024_S8x2048x1024_2_0_01_1_n_n none
    (mulf (maximumf (Host.dotGeneral dot_S8x2048x1024_S1024x4096_S8x2048x4096_2_0_01_1_n_n none h up)
        (broadcastInDim S8x2048x4096 ![] bcast_S_S8x2048x4096 (constant S_ .f32 0x00000000#32)))
      (maximumf (Host.dotGeneral dot_S8x2048x1024_S1024x4096_S8x2048x4096_2_0_01_1_n_n none h up)
        (broadcastInDim S8x2048x4096 ![] bcast_S_S8x2048x4096 (constant S_ .f32 0x00000000#32)))) down

/-- Columns `o …` of the modulation. -/
def modAt (y : FVec Ideal S8x6144 .f32) (o : ℕ) (h : S8x1x6144.Slices ![0, 0, o] S8x1x1024) :
    FVec Ideal S8x1x1024 .f32 :=
  extractStridedSlice S8x1x1024 ![0, 0, o] (broadcastInDim S8x1x6144 ![0, 2] bcast_S8x6144_S8x1x6144_0_2 y) h

theorem ffnH_apply (h : FVec Ideal S8x2048x1024 .f32) (up : FVec Ideal S1024x4096 .f32) (down : FVec Ideal S4096x1024 .f32)
    (b : Fin 8) (t : Fin 2048) (i : Fin 1024) :
    ffnH h up down (ix3 b t i) = ffn (fun x => h (ix3 b t x)) (fun x k => up (ix2 x k)) (fun k i => down (ix2 k i)) i := by
  unfold ffnH ffn unit
  pointwise [dot_S8x2048x4096_S4096x1024_S8x2048x1024_2_0_01_1_n_n, dot_S8x2048x1024_S1024x4096_S8x2048x4096_2_0_01_1_n_n]

end Cert.Reference4Ideal.Layer

end
-- ==== Proof.FfnFinal.lean ====
/- The feed-forward call as a whole: each point's blocks are the parts of the arguments, so the kernel's result array is
   the reference's. -/
module

public import proofs.«01_k».proof.Defs
public import proofs.«01_k».proof.Proof.Ffn
public import proofs.«01_k».proof.Proof.Gen.Kernel4Ideal.Value
public import proofs.«01_k».proof.Proof.Gen.Reference4Ideal.Run
public import Idealize.ShloMosaic.Lib.Pipeline.ValueKit

@[expose] public section

noncomputable section

namespace Cert.Kernel4Ideal.Layer

open Cert.Kernel4Ideal Cert.Kernel4Ideal.Gen Cert.Kernel4Ideal.Facts Cert.Kernel4Ideal.Value Idealize.ShloMosaic Idealize.ShloMosaic.TcCoe _root_.Layer

theorem lt32 (t : Fin cfg0.N) : t.val < 32 := t.isLt.trans_eq rfl

/-- The sample whose rows point `t` reads. -/
def bOf (t : Fin cfg0.N) : Fin 8 := ⟨t.val / 4, by have := lt32 t; omega⟩

/-- The time of row `r` of point `t`'s block. -/
def tOf (t : Fin cfg0.N) (r : Fin 512) : Fin 2048 := ⟨512 * (t.val % 4) + r.val, by omega⟩

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 3) = t.val / 4 ∧ win0_1.index t (1 : Fin 3) = 0 ∧ win0_1.index t (2 : Fin 3) = 3 :=
  (by decide +kernel : ∀ t : Fin grid0.N, _)
theorem idx2 : ∀ t : Fin cfg0.N, win0_2.index t (0 : Fin 3) = t.val / 4 ∧ win0_2.index t (1 : Fin 3) = 0 ∧ win0_2.index t (2 : Fin 3) = 4 :=
  (by decide +kernel : ∀ t : Fin grid0.N, _)
theorem idx3 : ∀ t : Fin cfg0.N, win0_3.index t (0 : Fin 3) = t.val / 4 ∧ win0_3.index t (1 : Fin 3) = 0 ∧ win0_3.index t (2 : Fin 3) = 5 :=
  (by decide +kernel : ∀ t : Fin grid0.N, _)
theorem idx4 : ∀ t : Fin cfg0.N, ∀ a : Fin 2, win0_4.index t a = 0 := (by decide +kernel : ∀ t : Fin grid0.N, _)
theorem idx5 : ∀ t : Fin cfg0.N, ∀ a : Fin 2, win0_5.index t a = 0 := (by decide +kernel : ∀ t : Fin grid0.N, _)
theorem idx6 : ∀ t : Fin cfg0.N, ∀ a : Fin 2, win0_6.index t a = 0 := (by decide +kernel : ∀ t : Fin grid0.N, _)
theorem idx7 : ∀ t : Fin cfg0.N, ∀ a : Fin 2, win0_7.index t a = 0 := (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)

variable (t : Fin cfg0.N) (r : Fin 512) (i : Fin 1024)

theorem emb0 : (win0_0.blk t).view.emb (ix2 r i) = ix2 (⟨2048 * (bOf t).val + (tOf t r).val, by omega⟩ : Fin 16384) i := by
  obtain ⟨h0, h1⟩ := idx0 t
  funext a; apply Fin.ext
  match a with
  | ⟨0, _⟩ => show win0_0.index t (0 : Fin 2) * 512 + 1 * r.val = 2048 * (t.val / 4) + (512 * (t.val % 4) + r.val); omega
  | ⟨1, _⟩ => show win0_0.index t (1 : Fin 2) * 1024 + 1 * i.val = i.val; omega

theorem emb8 : (win0_8.blk t).view.emb (ix2 r i) = ix2 (⟨2048 * (bOf t).val + (tOf t r).val, by omega⟩ : Fin 16384) i := by
  obtain ⟨h0, h1⟩ := idx8 t
  funext a; apply Fin.ext
  match a with
  | ⟨0, _⟩ => show win0_8.index t (0 : Fin 2) * 512 + 1 * r.val = 2048 * (t.val / 4) + (512 * (t.val % 4) + r.val); omega
  | ⟨1, _⟩ => show win0_8.index t (1 : Fin 2) * 1024 + 1 * i.val = i.val; omega

theorem emb1 : (win0_1.blk t).view.emb (ix3 (0 : Fin 1) (0 : Fin 1) i) = ix3 (bOf t) (0 : Fin 1) (⟨3072 + i.val, by omega⟩ : Fin 6144) := by
  obtain ⟨h0, h1, h2⟩ := idx1 t
  funext a; apply Fin.ext
  match a with
  | ⟨0, _⟩ => show win0_1.index t (0 : Fin 3) * 1 + 1 * 0 = t.val / 4; omega
  | ⟨1, _⟩ => show win0_1.index t (1 : Fin 3) * 1 + 1 * 0 = 0; omega
  | ⟨2, _⟩ => show win0_1.index t (2 : Fin 3) * 1024 + 1 * i.val = 3072 + i.val; omega

theorem emb2 : (win0_2.blk t).view.emb (ix3 (0 : Fin 1) (0 : Fin 1) i) = ix3 (bOf t) (0 : Fin 1) (⟨4096 + i.val, by omega⟩ : Fin 6144) := by
  obtain ⟨h0, h1, h2⟩ := idx2 t
  funext a; apply Fin.ext
  match a with
  | ⟨0, _⟩ => show win0_2.index t (0 : Fin 3) * 1 + 1 * 0 = t.val / 4; omega
  | ⟨1, _⟩ => show win0_2.index t (1 : Fin 3) * 1 + 1 * 0 = 0; omega
  | ⟨2, _⟩ => show win0_2.index t (2 : Fin 3) * 1024 + 1 * i.val = 4096 + i.val; omega

theorem emb3 : (win0_3.blk t).view.emb (ix3 (0 : Fin 1) (0 : Fin 1) i) = ix3 (bOf t) (0 : Fin 1) (⟨5120 + i.val, by omega⟩ : Fin 6144) := by
  obtain ⟨h0, h1, h2⟩ := idx3 t
  funext a; apply Fin.ext
  match a with
  | ⟨0, _⟩ => show win0_3.index t (0 : Fin 3) * 1 + 1 * 0 = t.val / 4; omega
  | ⟨1, _⟩ => show win0_3.index t (1 : Fin 3) * 1 + 1 * 0 = 0; omega
  | ⟨2, _⟩ => show win0_3.index t (2 : Fin 3) * 1024 + 1 * i.val = 5120 + i.val; omega

theorem emb4 (j : S1024x4096.Idx) : (win0_4.blk t).view.emb j = j := by
  funext a; apply Fin.ext
  show win0_4.index t a * S1024x4096.size a + 1 * (j a).val = (j a).val
  rw [idx4 t a]; omega

theorem emb5 (j : S4096x1024.Idx) : (win0_5.blk t).view.emb j = j := by
  funext a; apply Fin.ext
  show win0_5.index t a * S4096x1024.size a + 1 * (j a).val = (j a).val
  rw [idx5 t a]; omega

theorem emb6 (j : S1x1024.Idx) : (win0_6.blk t).view.emb j = j := by
  funext a; apply Fin.ext
  show win0_6.index t a * S1x1024.size a + 1 * (j a).val = (j a).val
  rw [idx6 t a]; omega

theorem emb7 (j : S1x1024.Idx) : (win0_7.blk t).view.emb j = j := by
  funext a; apply Fin.ext
  show win0_7.index t a * S1x1024.size a + 1 * (j a).val = (j a).val
  rw [idx7 t a]; omega

def hostX (x : FVec Ideal S8x2048x1024 .f32) : FVec Ideal S16384x1024 .f32 := shapeCast S16384x1024 x shapeCasts_S8x2048x1024_S16384x1024
def hostMod (x : FVec Ideal S8x6144 .f32) : FVec Ideal S8x1x6144 .f32 := shapeCast S8x1x6144 x shapeCasts_S8x6144_S8x1x6144
def hostRow (x : FVec Ideal S1024 .f32) : FVec Ideal S1x1024 .f32 := shapeCast S1x1024 x shapeCasts_S1024_S1x1024

theorem hostX_apply (x : FVec Ideal S8x2048x1024 .f32) (b : Fin 8) (t : Fin 2048) (i : Fin 1024) :
    hostX x (ix2 ⟨2048 * b.val + t.val, by omega⟩ i) = x (ix3 b t i) := by
  unfold hostX
  pointwise

theorem hostMod_apply (x : FVec Ideal S8x6144 .f32) (b : Fin 8) (i : Fin 6144) : hostMod x (ix3 b 0 i) = x (ix2 b i) := by
  unfold hostMod
  pointwise

theorem hostRow_apply (x : FVec Ideal S1024 .f32) (i : Fin 1024) : hostRow x (ix2 0 i) = x (ix1 i) := by
  unfold hostRow
  pointwise

section

variable (m : (ℓ : Loc nD τ sig) → Buf (Elt Ideal) ℓ) (c : Dev nD)

theorem blk0 : iblk m c 0 t (ix2 r i) = m ((c : Thread nD τ).loc main_arg0) (ix3 (bOf t) (tOf t r) i) := by
  show hostX (m ((c : Thread nD τ).loc main_arg0)) ((win0_0.blk t).view.emb (ix2 r i)) = _
  rw [emb0, hostX_apply]
theorem blk1 : iblk m c 1 t (ix3 0 0 i) = m ((c : Thread nD τ).loc main_arg1) (ix2 (bOf t) ⟨3072 + i.val, by omega⟩) := by
  show hostMod (m ((c : Thread nD τ).loc main_arg1)) ((win0_1.blk t).view.emb (ix3 0 0 i)) = _
  rw [emb1, hostMod_apply]
theorem blk2 : iblk m c 2 t (ix3 0 0 i) = m ((c : Thread nD τ).loc main_arg1) (ix2 (bOf t) ⟨4096 + i.val, by omega⟩) := by
  show hostMod (m ((c : Thread nD τ).loc main_arg1)) ((win0_2.blk t).view.emb (ix3 0 0 i)) = _
  rw [emb2, hostMod_apply]
theorem blk3 : iblk m c 3 t (ix3 0 0 i) = m ((c : Thread nD τ).loc main_arg1) (ix2 (bOf t) ⟨5120 + i.val, by omega⟩) := by
  show hostMod (m ((c : Thread nD τ).loc main_arg1)) ((win0_3.blk t).view.emb (ix3 0 0 i)) = _
  rw [emb3, hostMod_apply]
theorem blk4 (j : S1024x4096.Idx) : iblk m c 4 t j = m ((c : Thread nD τ).loc main_arg2) j := by
  show (m ((c : Thread nD τ).loc main_arg2) : FVec Ideal S1024x4096 .f32) ((win0_4.blk t).view.emb j) = _
  rw [emb4]
theorem blk5 (j : S4096x1024.Idx) : iblk m c 5 t j = m ((c : Thread nD τ).loc main_arg3) j := by
  show (m ((c : Thread nD τ).loc main_arg3) : FVec Ideal S4096x1024 .f32) ((win0_5.blk t).view.emb j) = _
  rw [emb5]
theorem blk6 : iblk m c 6 t (ix2 0 i) = m ((c : Thread nD τ).loc main_arg4) (ix1 i) := by
  show hostRow (m ((c : Thread nD τ).loc main_arg4)) ((win0_6.blk t).view.emb (ix2 0 i)) = _
  rw [emb6, hostRow_apply]
theorem blk7 : iblk m c 7 t (ix2 0 i) = m ((c : Thread nD τ).loc main_arg5) (ix1 i) := by
  show hostRow (m ((c : Thread nD τ).loc main_arg5)) ((win0_7.blk t).view.emb (ix2 0 i)) = _
  rw [emb7, hostRow_apply]

end

/-- The layer's rows after the feed-forward network, by coordinates. -/
def rowOf (x : FVec Ideal S8x2048x1024 .f32) (mod : FVec Ideal S8x6144 .f32) (up : FVec Ideal S1024x4096 .f32)
    (down : FVec Ideal S4096x1024 .f32) (gain bias : FVec Ideal S1024 .f32) (b : Fin 8) (s : Fin 2048) (i : Fin 1024) : EReal :=
  resid (fun k => x (ix3 b s k)) (fun k => mod (ix2 b ⟨5120 + k.val, by omega⟩))
    (ffn (modulated (fun k => x (ix3 b s k)) (fun k => mod (ix2 b ⟨4096 + k.val, by omega⟩)) (fun k => mod (ix2 b ⟨3072 + k.val, by omega⟩)))
      (fun x k => up (ix2 x k)) (fun k i => down (ix2 k i)))
    (fun k => gain (ix1 k)) (fun k => bias (ix1 k)) i

/-- The array after the run. -/
theorem final (m : (ℓ : Loc nD τ sig) → Buf (Elt Ideal) ℓ) (c : Dev nD) (G : Vec Ideal S16384x1024 .f32)
    (hG : ∀ (b : Fin 8) (s : Fin 2048) (i : Fin 1024), G (ix2 ⟨2048 * b.val + s.val, by omega⟩ i)
      = rowOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) b s i) :
    (dats m 0 c).arrAt 8 cfg0.N = G := by
  refine (dats m 0 c).arrAt_eq_of_cover 8 G (fun t _ => ?_) fun j => ?_
  · rw [flushed8]
    funext y
    obtain ⟨r, i, rfl⟩ : ∃ (r : Fin 512) (i : Fin 1024), y = ix2 r i := ⟨y 0, y 1, by funext a; match a with | ⟨0, _⟩ => rfl | ⟨1, _⟩ => rfl⟩
    show out0_8 (iblk m c 0 t) (iblk m c 1 t) (iblk m c 2 t) (iblk m c 3 t) (iblk m c 4 t) (iblk m c 5 t) (iblk m c 6 t) (iblk m c 7 t) (ix2 r i)
      = G ((win0_8.blk t).view.emb (ix2 r i))
    rw [emb8, hG, out_apply]
    unfold rowOf
    simp only [blk0, blk1, blk2, blk3, blk4, blk5, blk6, blk7]
  · obtain ⟨R, C, rfl⟩ : ∃ (R : Fin 16384) (C : Fin 1024), j = ix2 R C := ⟨j 0, j 1, by funext a; match a with | ⟨0, _⟩ => rfl | ⟨1, _⟩ => rfl⟩
    have ht : R.val / 512 < cfg0.N := by
      show _ < 32; omega
    refine ⟨⟨_, ht⟩, flush0_8 _, ?_⟩
    have h := (win0_8.blk ⟨_, ht⟩).view.emb_mem_set (ix2 (⟨R.val % 512, by omega⟩ : Fin 512) C)
    rw [emb8] at h
    convert h using 2
    apply Fin.ext
    show R.val = 2048 * (R.val / 512 / 4) + (512 * (R.val / 512 % 4) + R.val % 512)
    omega

end Cert.Kernel4Ideal.Layer

namespace Cert.Reference4Ideal.Layer

open Cert.Reference4Ideal Cert.Reference4Ideal.Gen Cert.Reference4Ideal.Facts Cert.Reference4Ideal.Read Idealize.ShloMosaic _root_.Layer

theorem modAt_apply (y : FVec Ideal S8x6144 .f32) (b : Fin 8) (i : Fin 1024) :
    modAt y 3072 slices_S8x1x6144_S8x1x1024_0_0_3072 (ix3 b 0 i) = y (ix2 b ⟨3072 + i.val, by omega⟩)
    ∧ modAt y 4096 slices_S8x1x6144_S8x1x1024_0_0_4096 (ix3 b 0 i) = y (ix2 b ⟨4096 + i.val, by omega⟩)
    ∧ modAt y 5120 slices_S8x1x6144_S8x1x1024_0_0_5120 (ix3 b 0 i) = y (ix2 b ⟨5120 + i.val, by omega⟩) := by
  unfold modAt
  refine ⟨?_, ?_, ?_⟩ <;> pointwise

variable (x : FVec Ideal S8x2048x1024 .f32) (mod : FVec Ideal S8x6144 .f32) (up : FVec Ideal S1024x4096 .f32)
  (down : FVec Ideal S4096x1024 .f32) (gain bias : FVec Ideal S1024 .f32)

/-- The reference's array as the composition of its parts. -/
theorem parts : val_main_v64 (F := Ideal) x mod up down gain bias
    = residualH x (ffnH (modulatedH x (modAt mod 4096 slices_S8x1x6144_S8x1x1024_0_0_4096)
        (modAt mod 3072 slices_S8x1x6144_S8x1x1024_0_0_3072)) up down)
      (modAt mod 5120 slices_S8x1x6144_S8x1x1024_0_0_5120) gain bias := rfl

theorem value (b : Fin 8) (s : Fin 2048) (i : Fin 1024) :
    val_main_v64 (F := Ideal) x mod up down gain bias (ix2 ⟨2048 * b.val + s.val, by omega⟩ i)
      = Cert.Kernel4Ideal.Layer.rowOf x mod up down gain bias b s i := by
  rw [parts, residualH_apply]
  unfold Cert.Kernel4Ideal.Layer.rowOf
  simp only [ffnH_apply, modulatedH_apply, (modAt_apply mod b _).1, (modAt_apply mod b _).2.1, (modAt_apply mod b _).2.2]

end Cert.Reference4Ideal.Layer

namespace Cert.Proof

open Idealize.ShloMosaic Idealize.ShloMosaic.TcCoe Idealize.SL.Sem

/-- The feed-forward call's value claim. -/
theorem algebraic4 : algebraic_Kernel4Ideal_Reference4Ideal := by
  intro m g m' g' _ agree
  refine ⟨fun c => (Cert.Kernel4Ideal.Gen.dats m 0 c).arrAt 8 Cert.Kernel4Ideal.cfg0.N,
    Cert.Kernel4Ideal.Value.run_blocks m g, ?_⟩
  refine (θ_run _ _ _).mono (fun r hr c => ⟨(hr c).1.trans ?_, (hr c).2⟩) (Cert.Reference4Ideal.Value.run m' g')
  obtain ⟨e0, e1, e2, e3, e4, e5⟩ := agree c
  rw [Cert.Reference4Ideal.Read.val_main_v64_eq, e0, e1, e2, e3, e4, e5]
  exact (Cert.Kernel4Ideal.Layer.final m c _ fun b s i => Cert.Reference4Ideal.Layer.value _ _ _ _ _ _ b s i).symm

end Cert.Proof

end
-- ==== Proof.Merge.lean ====
/- The merge of the three branches on a block of 512 rows: what the body stores, as the normalisation, the three gated
   branches, their mix and the residual; and this read at coordinates, beside the reference's array. -/
module

public import proofs.«01_k».proof.Proof.FfnFinal
public import proofs.«01_k».proof.Proof.Gen.Kernel3Ideal.Frame
public import proofs.«01_k».proof.Proof.Gen.Reference3Ideal.Read

@[expose] public section

noncomputable section

namespace Layer

open Idealize.ShloMosaic

/-- The logistic function of a gate. -/
def sgm (z : EReal) : EReal := Ideal.div (Ideal.ofBits .f32 0x3F800000#32) (Ideal.ofBits .f32 0x3F800000#32 + Ideal.exp (-z))

/-- A branch's row under its gate. -/
def gated (h : Fin 1024 → EReal) (wg : Fin 1024 → EReal) (a w : Fin 512 → EReal) : EReal :=
  sgm (∑ x, h x * wg x) * ∑ x, a x * w x

/-- The three branches' rows under their gates, mixed. -/
def mix (h : Fin 1024 → EReal) (wg : Fin 1024 → Fin 3072 → EReal) (a b c : Fin 512 → EReal)
    (wa wb wc : Fin 512 → Fin 1024 → EReal) (wo : Fin 1024 → Fin 1024 → EReal) (i : Fin 1024) : EReal :=
  ∑ k : Fin 1024, (gated h (fun x => wg x ⟨0 * 1024 + k.val, by omega⟩) a (fun x => wa x k)
    + gated h (fun x => wg x ⟨1 * 1024 + k.val, by omega⟩) b (fun x => wb x k)
    + gated h (fun x => wg x ⟨2 * 1024 + k.val, by omega⟩) c (fun x => wc x k)) * wo k i

end Layer

namespace Cert.Kernel3Ideal.Layer

open Cert.Kernel3Ideal Cert.Kernel3Ideal.Gen Cert.Kernel3Ideal.Facts Idealize.ShloMosaic _root_.Layer
open Cert.Kernel4Ideal.Layer (modulatedV residualV ownV)

/-- A gate of a block of rows. -/
def gateV (h : FVec Ideal S512x1024 .bf16) (u : Vec Ideal S1024x1024 .bf16) : FVec Ideal S512x1024 .f32 :=
  divf (broadcast S512x1024 (Scalar.ofBits .f32 0x3F800000#32))
    (addf (broadcast S512x1024 (Scalar.ofBits .f32 0x3F800000#32))
      (exp (subf (broadcast S512x1024 (Scalar.ofBits .f32 0x00000000#32))
        (matmul dot_S512x1024_S1024x1024_S512x1024_1_0_0_1_n_n none h
          (shapeCast S1024x1024 u shapeCasts_S1024x1024_S1024x1024 : FVec Ideal S1024x1024 .bf16)
          (constant S512x1024 .f32 0x00000000#32)))))

/-- A branch's output projection. -/
def branchV (a : Vec Ideal S512x512 .bf16) (w : Vec Ideal S512x1024 .bf16) : FVec Ideal S512x1024 .f32 :=
  matmul dot_S512x512_S512x1024_S512x1024_1_0_0_1_n_n none
    (shapeCast S512x512 a shapeCasts_S512x512_S512x512 : FVec Ideal S512x512 .bf16)
    (shapeCast S512x1024 w shapeCasts_S512x1024_S512x1024 : FVec Ideal S512x1024 .bf16) (constant S512x1024 .f32 0x00000000#32)

/-- The branches' mix. -/
def mixV (h : FVec Ideal S512x1024 .bf16) (u v w : Vec Ideal S1024x1024 .bf16) (a b c : FVec Ideal S512x1024 .f32)
    (wo : Vec Ideal S1024x1024 .bf16) : FVec Ideal S512x1024 .f32 :=
  matmul dot_S512x1024_S1024x1024_S512x1024_1_0_0_1_n_n none
    (truncf .bf16 (addf (addf (mulf (gateV h u) a) (mulf (gateV h v) b)) (mulf (gateV h w) c)) bitsLt_bf16_f32)
    (shapeCast S1024x1024 wo shapeCasts_S1024x1024_S1024x1024 : FVec Ideal S1024x1024 .bf16) (constant S512x1024 .f32 0x00000000#32)

theorem col_inb (j : Fin 3) (a : Fin 2) : (![0, 1024 * j.val] : Fin 2 → ℕ) a + S1024x1024.size a ≤ S1024x3072.size a := by
  fin_cases j <;> fin_cases a <;> decide

/-- Columns `1024·j …` of the gates' weight. -/
def colsAt (x : Vec Ideal S1024x3072 .bf16) (j : Fin 3) : Vec Ideal S1024x1024 .bf16 :=
  View.ld x (Rect.unit (s := S1024x3072) ![0, 1024 * j.val] S1024x1024.size (col_inb j))

/-- What the body stores. -/
theorem out_eq (x0 : Vec Ideal S512x1024 .f32) (x1 x2 x3 : Vec Ideal S1x1x1024 .f32) (x4 x5 x6 : Vec Ideal S512x512 .bf16)
    (x7 : Vec Ideal S1024x3072 .bf16) (x8 x9 x10 : Vec Ideal S512x1024 .bf16) (x11 : Vec Ideal S1024x1024 .bf16) (x12 x13 : Vec Ideal S1x1024 .f32) :
    out0_14 (F := Ideal) x0 x1 x2 x3 x4 x5 x6 x7 x8 x9 x10 x11 x12 x13
      = residualV (ownV x0) (mixV (truncf .bf16 (modulatedV (ownV x0) x2 x1) bitsLt_bf16_f32) (colsAt x7 0) (colsAt x7 1) (colsAt x7 2)
          (branchV x4 x8) (branchV x5 x9) (branchV x6 x10) x11) x3 x12 x13 := by
  unfold out0_14 k0_pay9
  have two : (![0, 0] : Fin 2 → ℕ) = fun _ => 0 := by funext a; fin_cases a <;> rfl
  have three : (![0, 0, 0] : Fin 3 → ℕ) = fun _ => 0 := by funext a; fin_cases a <;> rfl
  rw [View.canon_unit_zero two]
  have h0 : View.ld x0 r0_0 = x0 := View.ld_unit_zero two _ x0
  have h1 : View.ld x1 r0_1 = x1 := View.ld_unit_zero three _ x1
  have h2 : View.ld x2 r0_1 = x2 := View.ld_unit_zero three _ x2
  have h3 : View.ld x3 r0_1 = x3 := View.ld_unit_zero three _ x3
  have h4 : View.ld x4 r0_2 = x4 := View.ld_unit_zero two _ x4
  have h5 : View.ld x5 r0_2 = x5 := View.ld_unit_zero two _ x5
  have h6 : View.ld x6 r0_2 = x6 := View.ld_unit_zero two _ x6
  have h8 : View.ld x8 r0_0 = x8 := View.ld_unit_zero two _ x8
  have h9 : View.ld x9 r0_0 = x9 := View.ld_unit_zero two _ x9
  have h10 : View.ld x10 r0_0 = x10 := View.ld_unit_zero two _ x10
  have h11 : View.ld x11 r0_6 = x11 := View.ld_unit_zero two _ x11
  have h12 : View.ld x12 r0_7 = x12 := View.ld_unit_zero two _ x12
  have h13 : View.ld x13 r0_7 = x13 := View.ld_unit_zero two _ x13
  rw [h0, h1, h2, h3, h4, h5, h6, h8, h9, h10, h11, h12, h13]
  rfl

variable (r : Fin 512) (i : Fin 1024)

theorem gateV_apply (h : FVec Ideal S512x1024 .bf16) (u : Vec Ideal S1024x1024 .bf16) :
    gateV h u (ix2 r i) = sgm (∑ x : Fin 1024, h (ix2 r x) * u (ix2 x i)) := by
  unfold gateV sgm
  pointwise [dot_S512x1024_S1024x1024_S512x1024_1_0_0_1_n_n]
  try rw [zero_sub]
  try rfl

theorem branchV_apply (a : Vec Ideal S512x512 .bf16) (w : Vec Ideal S512x1024 .bf16) :
    branchV a w (ix2 r i) = ∑ x : Fin 512, a (ix2 r x) * w (ix2 x i) := by
  unfold branchV
  pointwise [dot_S512x512_S512x1024_S512x1024_1_0_0_1_n_n]

theorem mixV_apply (h : FVec Ideal S512x1024 .bf16) (u v w : Vec Ideal S1024x1024 .bf16) (a b c : FVec Ideal S512x1024 .f32)
    (wo : Vec Ideal S1024x1024 .bf16) : mixV h u v w a b c wo (ix2 r i)
    = ∑ k : Fin 1024, (gateV h u (ix2 r k) * a (ix2 r k) + gateV h v (ix2 r k) * b (ix2 r k) + gateV h w (ix2 r k) * c (ix2 r k)) * wo (ix2 k i) := by
  unfold mixV
  pointwise [dot_S512x1024_S1024x1024_S512x1024_1_0_0_1_n_n]

theorem colsAt_apply (x : Vec Ideal S1024x3072 .bf16) (j : Fin 3) (k : Fin 1024) :
    colsAt x j (ix2 i k) = x (ix2 i ⟨1024 * j.val + k.val, by omega⟩) := by
  unfold colsAt
  pointwise

/-- WHAT THE BODY STORES at row `r` and column `i`. -/
theorem out_apply (x0 : Vec Ideal S512x1024 .f32) (x1 x2 x3 : Vec Ideal S1x1x1024 .f32) (x4 x5 x6 : Vec Ideal S512x512 .bf16)
    (x7 : Vec Ideal S1024x3072 .bf16) (x8 x9 x10 : Vec Ideal S512x1024 .bf16) (x11 : Vec Ideal S1024x1024 .bf16) (x12 x13 : Vec Ideal S1x1024 .f32) :
    out0_14 (F := Ideal) x0 x1 x2 x3 x4 x5 x6 x7 x8 x9 x10 x11 x12 x13 (ix2 r i)
      = resid (fun k => x0 (ix2 r k)) (fun k => x3 (ix3 0 0 k))
          (mix (modulated (fun k => x0 (ix2 r k)) (fun k => x2 (ix3 0 0 k)) (fun k => x1 (ix3 0 0 k)))
            (fun x k => x7 (ix2 x k)) (fun x => x4 (ix2 r x)) (fun x => x5 (ix2 r x)) (fun x => x6 (ix2 r x))
            (fun x k => x8 (ix2 x k)) (fun x k => x9 (ix2 x k)) (fun x k => x10 (ix2 x k)) (fun x k => x11 (ix2 x k)))
          (fun k => x12 (ix2 0 k)) (fun k => x13 (ix2 0 k)) i := by
  rw [out_eq]
  refine (Cert.Kernel4Ideal.Layer.residualV_apply _ r i _ x3 x12 x13).trans ?_
  have e : ∀ v : FVec Ideal S512x1024 .f32, ∀ j, (truncf .bf16 v bitsLt_bf16_f32 : FVec Ideal S512x1024 .bf16) j = v j := fun _ _ => rfl
  have o : ∀ k, ownV x0 (ix2 r k) = x0 (ix2 r k) := fun k => Cert.Kernel4Ideal.Layer.ownV_apply r k x0
  have d : ∀ k, modulatedV (ownV x0) x2 x1 (ix2 r k) = modulated (fun k => x0 (ix2 r k)) (fun k => x2 (ix3 0 0 k)) (fun k => x1 (ix3 0 0 k)) k := by
    intro k
    refine (Cert.Kernel4Ideal.Layer.modulatedV_apply (ownV x0) r k x2 x1).trans ?_
    simp only [o]
  have e1 : ((1 : Fin 3) : ℕ) = 1 := rfl
  have e2 : ((2 : Fin 3) : ℕ) = 2 := rfl
  have y : (fun k => mixV (truncf .bf16 (modulatedV (ownV x0) x2 x1) bitsLt_bf16_f32) (colsAt x7 0) (colsAt x7 1) (colsAt x7 2)
          (branchV x4 x8) (branchV x5 x9) (branchV x6 x10) x11 (ix2 r k)) = (mix (modulated (fun k => x0 (ix2 r k)) (fun k => x2 (ix3 0 0 k)) (fun k => x1 (ix3 0 0 k)))
            (fun x k => x7 (ix2 x k)) (fun x => x4 (ix2 r x)) (fun x => x5 (ix2 r x)) (fun x => x6 (ix2 r x))
            (fun x k => x8 (ix2 x k)) (fun x k => x9 (ix2 x k)) (fun x k => x10 (ix2 x k)) (fun x k => x11 (ix2 x k))) := by
    funext k
    unfold mix gated
    simp only [mixV_apply, gateV_apply, branchV_apply, e, d, colsAt_apply, Fin.val_zero, e1, e2, Nat.mul_comm 1024]
  rw [← y]
  simp only [o]

end Cert.Kernel3Ideal.Layer

namespace Cert.Reference3Ideal.Layer

open Cert.Reference3Ideal Cert.Reference3Ideal.Gen Cert.Reference3Ideal.Facts Cert.Reference3Ideal.Read Idealize.ShloMosaic _root_.Layer
open Cert.Reference4Ideal.Layer (modulatedH residualH modAt)

/-- The three gates of the whole array. -/
def gatesH (h : FVec Ideal S8x2048x1024 .f32) (wg : FVec Ideal S1024x3072 .f32) : FVec Ideal S8x2048x3x1024 .f32 :=
  Host.divf (broadcastInDim S8x2048x3x1024 ![] bcast_S_S8x2048x3x1024 (constant S_ .f32 0x3F800000#32))
    (addf (broadcastInDim S8x2048x3x1024 ![] bcast_S_S8x2048x3x1024 (constant S_ .f32 0x3F800000#32))
      (Host.exp (Host.negf (shapeCast S8x2048x3x1024 (Host.dotGeneral dot_S8x2048x1024_S1024x3072_S8x2048x3072_2_0_01_1_n_n none h wg)
        shapeCasts_S8x2048x3072_S8x2048x3x1024))))

/-- One of the gates. -/
def pickH (g : FVec Ideal S8x2048x3x1024 .f32) (o : ℕ) (s : S8x2048x3x1024.Slices ![0, 0, o, 0] S8x2048x1x1024) :
    FVec Ideal S8x2048x1024 .f32 :=
  shapeCast S8x2048x1024 (extractStridedSlice S8x2048x1x1024 ![0, 0, o, 0] g s) shapeCasts_S8x2048x1x1024_S8x2048x1024

def branchH (a : FVec Ideal S8x2048x512 .f32) (w : FVec Ideal S512x1024 .f32) : FVec Ideal S8x2048x1024 .f32 :=
  Host.dotGeneral dot_S8x2048x512_S512x1024_S8x2048x1024_2_0_01_1_n_n none a w

/-- The branches' mix on the whole array. -/
def mixH (h : FVec Ideal S8x2048x1024 .f32) (wg : FVec Ideal S1024x3072 .f32) (a b c : FVec Ideal S8x2048x1024 .f32)
    (wo : FVec Ideal S1024x1024 .f32) : FVec Ideal S8x2048x1024 .f32 :=
  Host.dotGeneral dot_S8x2048x1024_S1024x1024_S8x2048x1024_2_0_01_1_n_n none
    (addf (addf (mulf (pickH (gatesH h wg) 0 slices_S8x2048x3x1024_S8x2048x1x1024_0_0_0_0) a)
      (mulf (pickH (gatesH h wg) 1 slices_S8x2048x3x1024_S8x2048x1x1024_0_0_1_0) b))
      (mulf (pickH (gatesH h wg) 2 slices_S8x2048x3x1024_S8x2048x1x1024_0_0_2_0) c)) wo

variable (b : Fin 8) (t : Fin 2048) (i : Fin 1024)

theorem gatesH_apply (h : FVec Ideal S8x2048x1024 .f32) (wg : FVec Ideal S1024x3072 .f32) (g : Fin 3) :
    gatesH h wg (ix4 b t g i) = sgm (∑ x : Fin 1024, h (ix3 b t x) * wg (ix2 x ⟨g.val * 1024 + i.val, by omega⟩)) := by
  unfold gatesH sgm
  pointwise [dot_S8x2048x1024_S1024x3072_S8x2048x3072_2_0_01_1_n_n]
  try rfl

theorem pickH_apply (g : FVec Ideal S8x2048x3x1024 .f32) :
    pickH g 0 slices_S8x2048x3x1024_S8x2048x1x1024_0_0_0_0 (ix3 b t i) = g (ix4 b t 0 i)
    ∧ pickH g 1 slices_S8x2048x3x1024_S8x2048x1x1024_0_0_1_0 (ix3 b t i) = g (ix4 b t 1 i)
    ∧ pickH g 2 slices_S8x2048x3x1024_S8x2048x1x1024_0_0_2_0 (ix3 b t i) = g (ix4 b t 2 i) := by
  unfold pickH
  refine ⟨?_, ?_, ?_⟩ <;> pointwise <;> rfl

theorem branchH_apply (a : FVec Ideal S8x2048x512 .f32) (w : FVec Ideal S512x1024 .f32) :
    branchH a w (ix3 b t i) = ∑ x : Fin 512, a (ix3 b t x) * w (ix2 x i) := by
  unfold branchH
  pointwise [dot_S8x2048x512_S512x1024_S8x2048x1024_2_0_01_1_n_n]

/-- The output projection of gated branches. -/
theorem outH_apply (p q r x y z : FVec Ideal S8x2048x1024 .f32) (wo : FVec Ideal S1024x1024 .f32) :
    Host.dotGeneral dot_S8x2048x1024_S1024x1024_S8x2048x1024_2_0_01_1_n_n none
      (addf (addf (mulf p x) (mulf q y)) (mulf r z)) wo (ix3 b t i)
    = ∑ k : Fin 1024, (p (ix3 b t k) * x (ix3 b t k) + q (ix3 b t k) * y (ix3 b t k) + r (ix3 b t k) * z (ix3 b t k)) * wo (ix2 k i) := by
  pointwise [dot_S8x2048x1024_S1024x1024_S8x2048x1024_2_0_01_1_n_n]

theorem mixH_apply (h : FVec Ideal S8x2048x1024 .f32) (wg : FVec Ideal S1024x3072 .f32) (x y z : FVec Ideal S8x2048x512 .f32)
    (wx wy wz : FVec Ideal S512x1024 .f32) (wo : FVec Ideal S1024x1024 .f32) :
    mixH h wg (branchH x wx) (branchH y wy) (branchH z wz) wo (ix3 b t i)
      = mix (fun k => h (ix3 b t k)) (fun x k => wg (ix2 x k)) (fun k => x (ix3 b t k)) (fun k => y (ix3 b t k)) (fun k => z (ix3 b t k))
        (fun x k => wx (ix2 x k)) (fun x k => wy (ix2 x k)) (fun x k => wz (ix2 x k)) (fun x k => wo (ix2 x k)) i := by
  refine (outH_apply b t i _ _ _ _ _ _ wo).trans (Finset.sum_congr rfl fun k _ => ?_)
  obtain ⟨p0, p1, p2⟩ := pickH_apply b t k (gatesH h wg)
  rw [p0, p1, p2, gatesH_apply, gatesH_apply, gatesH_apply, branchH_apply, branchH_apply, branchH_apply]
  rfl

end Cert.Reference3Ideal.Layer

end
-- ==== Proof.MergeFinal.lean ====
/- The merge call as a whole: each point's blocks are the parts of the arguments, so the kernel's result array is the
   reference's. -/
module

public import proofs.«01_k».proof.Proof.Merge
public import proofs.«01_k».proof.Proof.Gen.Kernel3Ideal.Value
public import proofs.«01_k».proof.Proof.Gen.Reference3Ideal.Run

@[expose] public section

noncomputable section

namespace Cert.Kernel3Ideal.Layer

open Cert.Kernel3Ideal Cert.Kernel3Ideal.Gen Cert.Kernel3Ideal.Facts Cert.Kernel3Ideal.Value Idealize.ShloMosaic Idealize.ShloMosaic.TcCoe _root_.Layer
open Cert.Kernel4Ideal.Layer (hostX hostX_apply hostMod hostMod_apply hostRow hostRow_apply)

theorem lt32 (t : Fin cfg0.N) : t.val < 32 := t.isLt.trans_eq rfl

/-- The sample whose rows point `t` reads. -/
def bOf (t : Fin cfg0.N) : Fin 8 := ⟨t.val / 4, by have := lt32 t; omega⟩

/-- The time of row `r` of point `t`'s block. -/
def tOf (t : Fin cfg0.N) (r : Fin 512) : Fin 2048 := ⟨512 * (t.val % 4) + r.val, by omega⟩

theorem idx0 : ∀ t : Fin cfg0.N, win0_0.index t (0 : Fin 2) = t.val ∧ win0_0.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx14 : ∀ t : Fin cfg0.N, win0_14.index t (0 : Fin 2) = t.val ∧ win0_14.index t (1 : Fin 2) = 0 :=
  (by decide +kernel : ∀ t : Fin grid0.N, _)
theorem idx1 : ∀ t : Fin cfg0.N, win0_1.index t (0 : Fin 3) = t.val / 4 ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val / 4 ∧ win0_2.index t (1 : Fin 3) = 0 ∧ win0_2.index t (2 : Fin 3) = 1 :=
  (by decide +kernel : ∀ t : Fin grid0.N, _)
theorem idx3 : ∀ t : Fin cfg0.N, win0_3.index t (0 : Fin 3) = t.val / 4 ∧ win0_3.index t (1 : Fin 3) = 0 ∧ win0_3.index t (2 : Fin 3) = 2 :=
  (by decide +kernel : ∀ t : Fin grid0.N, _)
theorem idx7 : ∀ t : Fin cfg0.N, ∀ a : Fin 2, win0_7.index t a = 0 := (by decide +kernel : ∀ t : Fin grid0.N, _)
theorem idx8 : ∀ t : Fin cfg0.N, ∀ a : Fin 2, win0_8.index t a = 0 := (by decide +kernel : ∀ t : Fin grid0.N, _)
theorem idx9 : ∀ t : Fin cfg0.N, ∀ a : Fin 2, win0_9.index t a = 0 := (by decide +kernel : ∀ t : Fin grid0.N, _)
theorem idx10 : ∀ t : Fin cfg0.N, ∀ a : Fin 2, win0_10.index t a = 0 := (by decide +kernel : ∀ t : Fin grid0.N, _)
theorem idx11 : ∀ t : Fin cfg0.N, ∀ a : Fin 2, win0_11.index t a = 0 := (by decide +kernel : ∀ t : Fin grid0.N, _)
theorem idx12 : ∀ t : Fin cfg0.N, ∀ a : Fin 2, win0_12.index t a = 0 := (by decide +kernel : ∀ t : Fin grid0.N, _)
theorem idx13 : ∀ t : Fin cfg0.N, ∀ a : Fin 2, win0_13.index t a = 0 := (by decide +kernel : ∀ t : Fin grid0.N, _)

variable (t : Fin cfg0.N) (r : Fin 512) (i : Fin 1024)

theorem emb0 : (win0_0.blk t).view.emb (ix2 r i) = ix2 (⟨2048 * (bOf t).val + (tOf t r).val, by omega⟩ : Fin 16384) i := by
  obtain ⟨h0, h1⟩ := idx0 t
  funext a; apply Fin.ext
  match a with
  | ⟨0, _⟩ => show win0_0.index t (0 : Fin 2) * 512 + 1 * r.val = 2048 * (t.val / 4) + (512 * (t.val % 4) + r.val); omega
  | ⟨1, _⟩ => show win0_0.index t (1 : Fin 2) * 1024 + 1 * i.val = i.val; omega

theorem emb4 (i : Fin 512) : (win0_4.blk t).view.emb (ix2 r i) = ix2 (⟨2048 * (bOf t).val + (tOf t r).val, by omega⟩ : Fin 16384) i := by
  obtain ⟨h0, h1⟩ := idx4 t
  funext a; apply Fin.ext
  match a with
  | ⟨0, _⟩ => show win0_4.index t (0 : Fin 2) * 512 + 1 * r.val = 2048 * (t.val / 4) + (512 * (t.val % 4) + r.val); omega
  | ⟨1, _⟩ => show win0_4.index t (1 : Fin 2) * 512 + 1 * i.val = i.val; omega

theorem emb5 (i : Fin 512) : (win0_5.blk t).view.emb (ix2 r i) = ix2 (⟨2048 * (bOf t).val + (tOf t r).val, by omega⟩ : Fin 16384) i := by
  obtain ⟨h0, h1⟩ := idx5 t
  funext a; apply Fin.ext
  match a with
  | ⟨0, _⟩ => show win0_5.index t (0 : Fin 2) * 512 + 1 * r.val = 2048 * (t.val / 4) + (512 * (t.val % 4) + r.val); omega
  | ⟨1, _⟩ => show win0_5.index t (1 : Fin 2) * 512 + 1 * i.val = i.val; omega

theorem emb6 (i : Fin 512) : (win0_6.blk t).view.emb (ix2 r i) = ix2 (⟨2048 * (bOf t).val + (tOf t r).val, by omega⟩ : Fin 16384) i := by
  obtain ⟨h0, h1⟩ := idx6 t
  funext a; apply Fin.ext
  match a with
  | ⟨0, _⟩ => show win0_6.index t (0 : Fin 2) * 512 + 1 * r.val = 2048 * (t.val / 4) + (512 * (t.val % 4) + r.val); omega
  | ⟨1, _⟩ => show win0_6.index t (1 : Fin 2) * 512 + 1 * i.val = i.val; omega

theorem emb14 : (win0_14.blk t).view.emb (ix2 r i) = ix2 (⟨2048 * (bOf t).val + (tOf t r).val, by omega⟩ : Fin 16384) i := by
  obtain ⟨h0, h1⟩ := idx14 t
  funext a; apply Fin.ext
  match a with
  | ⟨0, _⟩ => show win0_14.index t (0 : Fin 2) * 512 + 1 * r.val = 2048 * (t.val / 4) + (512 * (t.val % 4) + r.val); omega
  | ⟨1, _⟩ => show win0_14.index t (1 : Fin 2) * 1024 + 1 * i.val = i.val; omega

theorem emb1 : (win0_1.blk t).view.emb (ix3 (0 : Fin 1) (0 : Fin 1) i) = ix3 (bOf t) (0 : Fin 1) (⟨0 + i.val, by omega⟩ : Fin 6144) := by
  obtain ⟨h0, h1, h2⟩ := idx1 t
  funext a; apply Fin.ext
  match a with
  | ⟨0, _⟩ => show win0_1.index t (0 : Fin 3) * 1 + 1 * 0 = t.val / 4; omega
  | ⟨1, _⟩ => show win0_1.index t (1 : Fin 3) * 1 + 1 * 0 = 0; omega
  | ⟨2, _⟩ => show win0_1.index t (2 : Fin 3) * 1024 + 1 * i.val = 0 + i.val; omega

theorem emb2 : (win0_2.blk t).view.emb (ix3 (0 : Fin 1) (0 : Fin 1) i) = ix3 (bOf t) (0 : Fin 1) (⟨1024 + i.val, by omega⟩ : Fin 6144) := by
  obtain ⟨h0, h1, h2⟩ := idx2 t
  funext a; apply Fin.ext
  match a with
  | ⟨0, _⟩ => show win0_2.index t (0 : Fin 3) * 1 + 1 * 0 = t.val / 4; omega
  | ⟨1, _⟩ => show win0_2.index t (1 : Fin 3) * 1 + 1 * 0 = 0; omega
  | ⟨2, _⟩ => show win0_2.index t (2 : Fin 3) * 1024 + 1 * i.val = 1024 + i.val; omega

theorem emb3 : (win0_3.blk t).view.emb (ix3 (0 : Fin 1) (0 : Fin 1) i) = ix3 (bOf t) (0 : Fin 1) (⟨2048 + i.val, by omega⟩ : Fin 6144) := by
  obtain ⟨h0, h1, h2⟩ := idx3 t
  funext a; apply Fin.ext
  match a with
  | ⟨0, _⟩ => show win0_3.index t (0 : Fin 3) * 1 + 1 * 0 = t.val / 4; omega
  | ⟨1, _⟩ => show win0_3.index t (1 : Fin 3) * 1 + 1 * 0 = 0; omega
  | ⟨2, _⟩ => show win0_3.index t (2 : Fin 3) * 1024 + 1 * i.val = 2048 + i.val; omega

theorem emb7 (j : S1024x3072.Idx) : (win0_7.blk t).view.emb j = j := by
  funext a; apply Fin.ext
  show win0_7.index t a * S1024x3072.size a + 1 * (j a).val = (j a).val
  rw [idx7 t a]; omega

theorem emb8 (j : S512x1024.Idx) : (win0_8.blk t).view.emb j = j := by
  funext a; apply Fin.ext
  show win0_8.index t a * S512x1024.size a + 1 * (j a).val = (j a).val
  rw [idx8 t a]; omega

theorem emb9 (j : S512x1024.Idx) : (win0_9.blk t).view.emb j = j := by
  funext a; apply Fin.ext
  show win0_9.index t a * S512x1024.size a + 1 * (j a).val = (j a).val
  rw [idx9 t a]; omega

theorem emb10 (j : S512x1024.Idx) : (win0_10.blk t).view.emb j = j := by
  funext a; apply Fin.ext
  show win0_10.index t a * S512x1024.size a + 1 * (j a).val = (j a).val
  rw [idx10 t a]; omega

theorem emb11 (j : S1024x1024.Idx) : (win0_11.blk t).view.emb j = j := by
  funext a; apply Fin.ext
  show win0_11.index t a * S1024x1024.size a + 1 * (j a).val = (j a).val
  rw [idx11 t a]; omega

theorem emb12 (j : S1x1024.Idx) : (win0_12.blk t).view.emb j = j := by
  funext a; apply Fin.ext
  show win0_12.index t a * S1x1024.size a + 1 * (j a).val = (j a).val
  rw [idx12 t a]; omega

theorem emb13 (j : S1x1024.Idx) : (win0_13.blk t).view.emb j = j := by
  funext a; apply Fin.ext
  show win0_13.index t a * S1x1024.size a + 1 * (j a).val = (j a).val
  rw [idx13 t a]; omega

def hostA (x : FVec Ideal S8x2048x512 .f32) : FVec Ideal S16384x512 .bf16 :=
  truncf .bf16 (shapeCast S16384x512 x shapeCasts_S8x2048x512_S16384x512) bitsLt_bf16_f32

theorem hostA_apply (x : FVec Ideal S8x2048x512 .f32) (b : Fin 8) (t : Fin 2048) (i : Fin 512) :
    hostA x (ix2 ⟨2048 * b.val + t.val, by omega⟩ i) = x (ix3 b t i) := by
  unfold hostA
  pointwise

section

variable (m : (ℓ : Loc nD τ sig) → Buf (Elt Ideal) ℓ) (c : Dev nD)

theorem blk0 : iblk m c 0 t (ix2 r i) = m ((c : Thread nD τ).loc main_arg0) (ix3 (bOf t) (tOf t r) i) := by
  show hostX (m ((c : Thread nD τ).loc main_arg0)) ((win0_0.blk t).view.emb (ix2 r i)) = _
  rw [emb0]; exact hostX_apply _ _ _ _
theorem blk1 : iblk m c 1 t (ix3 0 0 i) = m ((c : Thread nD τ).loc main_arg1) (ix2 (bOf t) ⟨0 + i.val, by omega⟩) := by
  show hostMod (m ((c : Thread nD τ).loc main_arg1)) ((win0_1.blk t).view.emb (ix3 0 0 i)) = _
  rw [emb1]; exact hostMod_apply _ _ _
theorem blk2 : iblk m c 2 t (ix3 0 0 i) = m ((c : Thread nD τ).loc main_arg1) (ix2 (bOf t) ⟨1024 + i.val, by omega⟩) := by
  show hostMod (m ((c : Thread nD τ).loc main_arg1)) ((win0_2.blk t).view.emb (ix3 0 0 i)) = _
  rw [emb2]; exact hostMod_apply _ _ _
theorem blk3 : iblk m c 3 t (ix3 0 0 i) = m ((c : Thread nD τ).loc main_arg1) (ix2 (bOf t) ⟨2048 + i.val, by omega⟩) := by
  show hostMod (m ((c : Thread nD τ).loc main_arg1)) ((win0_3.blk t).view.emb (ix3 0 0 i)) = _
  rw [emb3]; exact hostMod_apply _ _ _
theorem blk4 (i : Fin 512) : iblk m c 4 t (ix2 r i) = m ((c : Thread nD τ).loc main_arg2) (ix3 (bOf t) (tOf t r) i) := by
  show hostA (m ((c : Thread nD τ).loc main_arg2)) ((win0_4.blk t).view.emb (ix2 r i)) = _
  rw [emb4, hostA_apply]
theorem blk5 (i : Fin 512) : iblk m c 5 t (ix2 r i) = m ((c : Thread nD τ).loc main_arg3) (ix3 (bOf t) (tOf t r) i) := by
  show hostA (m ((c : Thread nD τ).loc main_arg3)) ((win0_5.blk t).view.emb (ix2 r i)) = _
  rw [emb5, hostA_apply]
theorem blk6 (i : Fin 512) : iblk m c 6 t (ix2 r i) = m ((c : Thread nD τ).loc main_arg4) (ix3 (bOf t) (tOf t r) i) := by
  show hostA (m ((c : Thread nD τ).loc main_arg4)) ((win0_6.blk t).view.emb (ix2 r i)) = _
  rw [emb6, hostA_apply]
theorem blk7 (j : S1024x3072.Idx) : iblk m c 7 t j = m ((c : Thread nD τ).loc main_arg5) j := by
  show (m ((c : Thread nD τ).loc main_arg5) : FVec Ideal S1024x3072 .f32) ((win0_7.blk t).view.emb j) = _
  rw [emb7]
theorem blk8 (j : S512x1024.Idx) : iblk m c 8 t j = m ((c : Thread nD τ).loc main_arg6) j := by
  show (m ((c : Thread nD τ).loc main_arg6) : FVec Ideal S512x1024 .f32) ((win0_8.blk t).view.emb j) = _
  rw [emb8]
theorem blk9 (j : S512x1024.Idx) : iblk m c 9 t j = m ((c : Thread nD τ).loc main_arg7) j := by
  show (m ((c : Thread nD τ).loc main_arg7) : FVec Ideal S512x1024 .f32) ((win0_9.blk t).view.emb j) = _
  rw [emb9]
theorem blk10 (j : S512x1024.Idx) : iblk m c 10 t j = m ((c : Thread nD τ).loc main_arg8) j := by
  show (m ((c : Thread nD τ).loc main_arg8) : FVec Ideal S512x1024 .f32) ((win0_10.blk t).view.emb j) = _
  rw [emb10]
theorem blk11 (j : S1024x1024.Idx) : iblk m c 11 t j = m ((c : Thread nD τ).loc main_arg9) j := by
  show (m ((c : Thread nD τ).loc main_arg9) : FVec Ideal S1024x1024 .f32) ((win0_11.blk t).view.emb j) = _
  rw [emb11]
theorem blk12 : iblk m c 12 t (ix2 0 i) = m ((c : Thread nD τ).loc main_arg10) (ix1 i) := by
  show hostRow (m ((c : Thread nD τ).loc main_arg10)) ((win0_12.blk t).view.emb (ix2 0 i)) = _
  rw [emb12]; exact hostRow_apply _ _
theorem blk13 : iblk m c 13 t (ix2 0 i) = m ((c : Thread nD τ).loc main_arg11) (ix1 i) := by
  show hostRow (m ((c : Thread nD τ).loc main_arg11)) ((win0_13.blk t).view.emb (ix2 0 i)) = _
  rw [emb13]; exact hostRow_apply _ _

end

/-- The rows leaving the merge, by coordinates. -/
def rowOf (x : FVec Ideal S8x2048x1024 .f32) (mod : FVec Ideal S8x6144 .f32) (a b c : FVec Ideal S8x2048x512 .f32)
    (wg : FVec Ideal S1024x3072 .f32) (wa wb wc : FVec Ideal S512x1024 .f32) (wo : FVec Ideal S1024x1024 .f32)
    (gain bias : FVec Ideal S1024 .f32) (n : Fin 8) (s : Fin 2048) (i : Fin 1024) : EReal :=
  resid (fun k => x (ix3 n s k)) (fun k => mod (ix2 n ⟨2048 + k.val, by omega⟩))
    (mix (modulated (fun k => x (ix3 n s k)) (fun k => mod (ix2 n ⟨1024 + k.val, by omega⟩)) (fun k => mod (ix2 n ⟨0 + k.val, by omega⟩)))
      (fun x k => wg (ix2 x k)) (fun k => a (ix3 n s k)) (fun k => b (ix3 n s k)) (fun k => c (ix3 n s k))
      (fun x k => wa (ix2 x k)) (fun x k => wb (ix2 x k)) (fun x k => wc (ix2 x k)) (fun x k => wo (ix2 x k)))
    (fun k => gain (ix1 k)) (fun k => bias (ix1 k)) i

/-- The array after the run. -/
theorem final (m : (ℓ : Loc nD τ sig) → Buf (Elt Ideal) ℓ) (c : Dev nD) (G : Vec Ideal S16384x1024 .f32)
    (hG : ∀ (n : Fin 8) (s : Fin 2048) (i : Fin 1024), G (ix2 ⟨2048 * n.val + s.val, by omega⟩ i)
      = rowOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) n s i) :
    (dats m 0 c).arrAt 14 cfg0.N = G := by
  refine (dats m 0 c).arrAt_eq_of_cover 14 G (fun t _ => ?_) fun j => ?_
  · rw [flushed14]
    funext y
    obtain ⟨r, i, rfl⟩ : ∃ (r : Fin 512) (i : Fin 1024), y = ix2 r i := ⟨y 0, y 1, by funext a; match a with | ⟨0, _⟩ => rfl | ⟨1, _⟩ => rfl⟩
    show out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r i)
      = G ((win0_14.blk t).view.emb (ix2 r i))
    rw [emb14, hG, out_apply]
    unfold rowOf
    simp only [blk0, blk1, blk2, blk3, blk4, blk5, blk6, blk7, blk8, blk9, blk10, blk11, blk12, blk13]
  · obtain ⟨R, C, rfl⟩ : ∃ (R : Fin 16384) (C : Fin 1024), j = ix2 R C := ⟨j 0, j 1, by funext a; match a with | ⟨0, _⟩ => rfl | ⟨1, _⟩ => rfl⟩
    have ht : R.val / 512 < cfg0.N := by
      show _ < 32; omega
    refine ⟨⟨_, ht⟩, flush0_14 _, ?_⟩
    have h := (win0_14.blk ⟨_, ht⟩).view.emb_mem_set (ix2 (⟨R.val % 512, by omega⟩ : Fin 512) C)
    rw [emb14] at h
    convert h using 2
    apply Fin.ext
    show R.val = 2048 * (R.val / 512 / 4) + (512 * (R.val / 512 % 4) + R.val % 512)
    omega

end Cert.Kernel3Ideal.Layer

namespace Cert.Reference3Ideal.Layer

open Cert.Reference3Ideal Cert.Reference3Ideal.Gen Cert.Reference3Ideal.Facts Cert.Reference3Ideal.Read Idealize.ShloMosaic _root_.Layer
open Cert.Reference4Ideal.Layer (modulatedH modulatedH_apply residualH residualH_apply modAt)

theorem modAt_apply (y : FVec Ideal S8x6144 .f32) (b : Fin 8) (i : Fin 1024) :
    modAt y 0 slices_S8x1x6144_S8x1x1024_0_0_0 (ix3 b 0 i) = y (ix2 b ⟨0 + i.val, by omega⟩)
    ∧ modAt y 1024 slices_S8x1x6144_S8x1x1024_0_0_1024 (ix3 b 0 i) = y (ix2 b ⟨1024 + i.val, by omega⟩)
    ∧ modAt y 2048 slices_S8x1x6144_S8x1x1024_0_0_2048 (ix3 b 0 i) = y (ix2 b ⟨2048 + i.val, by omega⟩) := by
  unfold modAt
  refine ⟨?_, ?_, ?_⟩ <;> pointwise

variable (x : FVec Ideal S8x2048x1024 .f32) (mod : FVec Ideal S8x6144 .f32) (a b c : FVec Ideal S8x2048x512 .f32)
  (wg : FVec Ideal S1024x3072 .f32) (wa wb wc : FVec Ideal S512x1024 .f32) (wo : FVec Ideal S1024x1024 .f32)
  (gain bias : FVec Ideal S1024 .f32)

/-- The reference's array as the composition of its parts. -/
theorem parts : val_main_v83 (F := Ideal) x mod a b c wg wa wb wc wo gain bias
    = residualH x (mixH (modulatedH x (modAt mod 1024 slices_S8x1x6144_S8x1x1024_0_0_1024)
        (modAt mod 0 slices_S8x1x6144_S8x1x1024_0_0_0)) wg (branchH a wa) (branchH b wb) (branchH c wc) wo)
      (modAt mod 2048 slices_S8x1x6144_S8x1x1024_0_0_2048) gain bias := rfl

theorem value (n : Fin 8) (s : Fin 2048) (i : Fin 1024) :
    val_main_v83 (F := Ideal) x mod a b c wg wa wb wc wo gain bias (ix2 ⟨2048 * n.val + s.val, by omega⟩ i)
      = Cert.Kernel3Ideal.Layer.rowOf x mod a b c wg wa wb wc wo gain bias n s i := by
  rw [parts]
  refine (residualH_apply x n s i _ _ gain bias).trans ?_
  unfold Cert.Kernel3Ideal.Layer.rowOf
  have d : ∀ k, modulatedH x (modAt mod 1024 slices_S8x1x6144_S8x1x1024_0_0_1024) (modAt mod 0 slices_S8x1x6144_S8x1x1024_0_0_0) (ix3 n s k)
      = modulated (fun k => x (ix3 n s k)) (fun k => mod (ix2 n ⟨1024 + k.val, by omega⟩)) (fun k => mod (ix2 n ⟨0 + k.val, by omega⟩)) k := by
    intro k
    refine (modulatedH_apply x n s k _ _).trans ?_
    simp only [(modAt_apply mod n _).1, (modAt_apply mod n _).2.1]
  simp only [mixH_apply, d, (modAt_apply mod n _).2.2]

end Cert.Reference3Ideal.Layer

namespace Cert.Proof

open Idealize.ShloMosaic Idealize.ShloMosaic.TcCoe Idealize.SL.Sem

/-- The merge call's value claim. -/
theorem algebraic3 : algebraic_Kernel3Ideal_Reference3Ideal := by
  intro m g m' g' _ agree
  refine ⟨fun c => (Cert.Kernel3Ideal.Gen.dats m 0 c).arrAt 14 Cert.Kernel3Ideal.cfg0.N,
    Cert.Kernel3Ideal.Value.run_blocks m g, ?_⟩
  refine (θ_run _ _ _).mono (fun r hr c => ⟨(hr c).1.trans ?_, (hr c).2⟩) (Cert.Reference3Ideal.Value.run m' g')
  obtain ⟨e0, e1, e2, e3, e4, e5, e6, e7, e8, e9, e10, e11⟩ := agree c
  rw [Cert.Reference3Ideal.Read.val_main_v83_eq, e0, e1, e2, e3, e4, e5, e6, e7, e8, e9, e10, e11]
  exact (Cert.Kernel3Ideal.Layer.final m c _ fun b s i => Cert.Reference3Ideal.Layer.value _ _ _ _ _ _ _ _ _ _ _ _ b s i).symm

end Cert.Proof

end
-- ==== Proof.NormSample.lean ====
/- The normalisation and the residual of a row for the sample group: on a block of 256 rows, each with its own row of the
   modulation, as the kernel computes them, and on the whole array as the reference does. -/
module

public import proofs.«01_k».proof.Proof.Norm
public import proofs.«01_k».proof.Proof.Gen.Kernel5Ideal.Skeleton
public import proofs.«01_k».proof.Proof.Gen.Reference5Ideal.Read

@[expose] public section

noncomputable section

namespace Cert.Kernel5Ideal.Layer

open Cert.Kernel5Ideal Cert.Kernel5Ideal.Gen Cert.Kernel5Ideal.Facts Idealize.ShloMosaic _root_.Layer

/-- The means of the rows of a block. -/
def meanV (x : FVec Ideal S256x1024 .f32) : FVec Ideal S256x1 .f32 :=
  divf (shapeCast S256x1 (multiReduction .add [1] S256 x 0x00000000#32 reduces_S256x1024_S256 (.inl rfl) rfl)
    shapeCasts_S256_S256x1) (broadcast S256x1 (Scalar.ofBits .f32 0x44800000#32))

/-- The rows of a block less their means. -/
def centredV (x : FVec Ideal S256x1024 .f32) : FVec Ideal S256x1024 .f32 :=
  subf x (broadcastTo S256x1024 (meanV x) broadcasts_S256x1_S256x1024)

/-- The rows of a block, normalised. -/
def normV (x : FVec Ideal S256x1024 .f32) : FVec Ideal S256x1024 .f32 :=
  mulf (centredV x) (broadcastTo S256x1024
    (rsqrt (addf (meanV (mulf (centredV x) (centredV x))) (broadcast S256x1 (Scalar.ofBits .f32 0x3727C5AC#32))))
    broadcasts_S256x1_S256x1024)

/-- A block as the body loads it. -/
def ownV (x : Vec Ideal S256x1024 .f32) : FVec Ideal S256x1024 .f32 := shapeCast S256x1024 x shapeCasts_S256x1024_S256x1024

/-- The rows of a block, normalised and modulated row by row. -/
def modulatedV (x : FVec Ideal S256x1024 .f32) (sc sh : FVec Ideal S256x1024 .f32) : FVec Ideal S256x1024 .f32 :=
  addf (mulf (normV x) (addf (broadcast S256x1024 (Scalar.ofBits .f32 0x3F800000#32)) sc)) sh

/-- The residual of a block of rows, gated row by row. -/
def residualV (x y gate : FVec Ideal S256x1024 .f32) (gain bias : Vec Ideal S1x1024 .f32) : FVec Ideal S256x1024 .f32 :=
  addf (mulf (normV (addf (mulf (broadcast S256x1024 (Scalar.ofBits .f32 0x3FB504F3#32)) x) (mulf gate y)))
    (broadcastTo S256x1024 (shapeCast S1x1024 gain shapeCasts_S1x1024_S1x1024) broadcasts_S1x1024_S256x1024))
    (broadcastTo S256x1024 (shapeCast S1x1024 bias shapeCasts_S1x1024_S1x1024) broadcasts_S1x1024_S256x1024)

variable (r : Fin 256)

theorem meanV_apply (x : FVec Ideal S256x1024 .f32) : meanV x (ix2 r 0) = mean (fun k => x (ix2 r k)) := by
  unfold meanV mean
  pointwise
  try rfl

theorem centredV_apply (i : Fin 1024) (x : FVec Ideal S256x1024 .f32) :
    centredV x (ix2 r i) = x (ix2 r i) - mean (fun k => x (ix2 r k)) := by
  unfold centredV
  pointwise
  rw [← meanV_apply]

theorem normV_apply (i : Fin 1024) (x : FVec Ideal S256x1024 .f32) : normV x (ix2 r i) = nrm (fun k => x (ix2 r k)) i := by
  unfold normV nrm
  generalize hc : centredV x = c
  pointwise
  rw [meanV_apply]
  subst hc
  pointwise
  simp only [centredV_apply]
  try rfl

theorem ownV_apply (i : Fin 1024) (x : Vec Ideal S256x1024 .f32) : ownV x (ix2 r i) = x (ix2 r i) := by
  unfold ownV
  pointwise

theorem modulatedV_apply (i : Fin 1024) (x sc sh : FVec Ideal S256x1024 .f32) : modulatedV x sc sh (ix2 r i)
    = modulated (fun k => x (ix2 r k)) (fun k => sc (ix2 r k)) (fun k => sh (ix2 r k)) i := by
  unfold modulatedV modulated
  rw [← normV_apply]
  generalize normV x = n
  pointwise
  try rfl

theorem residualV_apply (i : Fin 1024) (x y gate : FVec Ideal S256x1024 .f32) (gain bias : Vec Ideal S1x1024 .f32) :
    residualV x y gate gain bias (ix2 r i)
    = resid (fun k => x (ix2 r k)) (fun k => gate (ix2 r k)) (fun k => y (ix2 r k)) (fun k => gain (ix2 0 k))
      (fun k => bias (ix2 0 k)) i := by
  unfold residualV resid
  generalize hz : addf (mulf (broadcast S256x1024 (Scalar.ofBits .f32 0x3FB504F3#32)) x) (mulf gate y) = z
  have h : ∀ k, z (ix2 r k) = Ideal.ofBits .f32 0x3FB504F3#32 * x (ix2 r k) + gate (ix2 r k) * y (ix2 r k) := by
    intro k; subst hz; pointwise; try rfl
  pointwise
  rw [normV_apply]
  simp only [h]

end Cert.Kernel5Ideal.Layer

namespace Cert.Reference5Ideal.Layer

open Cert.Reference5Ideal Cert.Reference5Ideal.Gen Cert.Reference5Ideal.Facts Cert.Reference5Ideal.Read Idealize.ShloMosaic _root_.Layer

/-- The means of the rows of the array. -/
def meanH (x : FVec Ideal S128x4x1024 .f32) : FVec Ideal S128x4x1 .f32 :=
  Host.divf (broadcastInDim S128x4x1 ![0, 1] bcast_S128x4_S128x4x1_0_1
      (Host.reduceAdd x (constant S_ .f32 0x00000000#32) reducesTo_S128x4x1024_S128x4_d2 h_S_))
    (broadcastInDim S128x4x1 ![] bcast_S_S128x4x1 (constant S_ .f32 0x44800000#32))

def centredH (x : FVec Ideal S128x4x1024 .f32) : FVec Ideal S128x4x1024 .f32 :=
  subf x (broadcastInDim S128x4x1024 ![0, 1, 2] bcast_S128x4x1_S128x4x1024_0_1_2 (meanH x))

/-- The rows of the array, normalised. -/
def normH (x : FVec Ideal S128x4x1024 .f32) : FVec Ideal S128x4x1024 .f32 :=
  mulf (centredH x) (broadcastInDim S128x4x1024 ![0, 1, 2] bcast_S128x4x1_S128x4x1024_0_1_2
    (Host.rsqrt (addf (meanH (mulf (centredH x) (centredH x)))
      (broadcastInDim S128x4x1 ![] bcast_S_S128x4x1 (constant S_ .f32 0x3727C5AC#32)))))

/-- The rows of the array, normalised and modulated. -/
def modulatedH (x : FVec Ideal S128x4x1024 .f32) (sc sh : FVec Ideal S128x1x1024 .f32) : FVec Ideal S128x4x1024 .f32 :=
  addf (mulf (normH x) (broadcastInDim S128x4x1024 ![0, 1, 2] bcast_S128x1x1024_S128x4x1024_0_1_2
      (addf (broadcastInDim S128x1x1024 ![] bcast_S_S128x1x1024 (constant S_ .f32 0x3F800000#32)) sc)))
    (broadcastInDim S128x4x1024 ![0, 1, 2] bcast_S128x1x1024_S128x4x1024_0_1_2 sh)

/-- The residual of the array's rows, as rows `4·b + t`. -/
def residualH (x y : FVec Ideal S128x4x1024 .f32) (gate : FVec Ideal S128x1x1024 .f32) (gain bias : FVec Ideal S1024 .f32) :
    FVec Ideal S512x1024 .f32 :=
  shapeCast S512x1024 (addf (mulf (normH (addf (mulf (broadcastInDim S128x4x1024 ![] bcast_S_S128x4x1024 (constant S_ .f32 0x3FB504F3#32)) x)
      (mulf (broadcastInDim S128x4x1024 ![0, 1, 2] bcast_S128x1x1024_S128x4x1024_0_1_2 gate) y)))
    (broadcastInDim S128x4x1024 ![0, 1, 2] bcast_S1x1x1024_S128x4x1024_0_1_2 (broadcastInDim S1x1x1024 ![2] bcast_S1024_S1x1x1024_2 gain)))
    (broadcastInDim S128x4x1024 ![0, 1, 2] bcast_S1x1x1024_S128x4x1024_0_1_2 (broadcastInDim S1x1x1024 ![2] bcast_S1024_S1x1x1024_2 bias)))
    shapeCasts_S128x4x1024_S512x1024

variable (b : Fin 128) (t : Fin 4)

theorem meanH_apply (x : FVec Ideal S128x4x1024 .f32) : meanH x (ix3 b t 0) = mean (fun k => x (ix3 b t k)) := by
  unfold meanH mean
  pointwise
  try rfl

theorem centredH_apply (x : FVec Ideal S128x4x1024 .f32) (i : Fin 1024) :
    centredH x (ix3 b t i) = x (ix3 b t i) - mean (fun k => x (ix3 b t k)) := by
  unfold centredH
  pointwise
  rw [← meanH_apply]

theorem normH_apply (x : FVec Ideal S128x4x1024 .f32) (i : Fin 1024) : normH x (ix3 b t i) = nrm (fun k => x (ix3 b t k)) i := by
  unfold normH nrm
  generalize hc : centredH x = c
  pointwise
  rw [meanH_apply]
  subst hc
  pointwise
  simp only [centredH_apply]
  try rfl

theorem modulatedH_apply (x : FVec Ideal S128x4x1024 .f32) (sc sh : FVec Ideal S128x1x1024 .f32) (i : Fin 1024) :
    modulatedH x sc sh (ix3 b t i)
      = modulated (fun k => x (ix3 b t k)) (fun k => sc (ix3 b 0 k)) (fun k => sh (ix3 b 0 k)) i := by
  unfold modulatedH modulated
  rw [← normH_apply]
  generalize normH x = n
  pointwise
  try rfl

theorem residualH_apply (x y : FVec Ideal S128x4x1024 .f32) (gate : FVec Ideal S128x1x1024 .f32) (gain bias : FVec Ideal S1024 .f32)
    (i : Fin 1024) : residualH x y gate gain bias (ix2 ⟨4 * b.val + t.val, by omega⟩ i)
    = resid (fun k => x (ix3 b t k)) (fun k => gate (ix3 b 0 k)) (fun k => y (ix3 b t k)) (fun k => gain (ix1 k))
      (fun k => bias (ix1 k)) i := by
  unfold residualH resid
  generalize hz : (addf (mulf (broadcastInDim S128x4x1024 ![] bcast_S_S128x4x1024 (constant S_ .f32 0x3FB504F3#32)) x)
      (mulf (broadcastInDim S128x4x1024 ![0, 1, 2] bcast_S128x1x1024_S128x4x1024_0_1_2 gate) y)) = z
  have h : ∀ k, z (ix3 b t k) = Ideal.ofBits .f32 0x3FB504F3#32 * x (ix3 b t k) + gate (ix3 b 0 k) * y (ix3 b t k) := by
    intro k; subst hz; pointwise; try rfl
  pointwise
  rw [normH_apply]
  simp only [h]

end Cert.Reference5Ideal.Layer

end
-- ==== Proof.FfnSample.lean ====
/- The sample group's feed-forward network on a block of 256 rows: what the body stores, read at coordinates as one sum over
   the hidden layer; and the reference's on the whole array. -/
module

public import proofs.«01_k».proof.Proof.Ffn
public import proofs.«01_k».proof.Proof.NormSample
public import proofs.«01_k».proof.Proof.Gen.Kernel5Ideal.Frame

@[expose] public section

noncomputable section

namespace Cert.Kernel5Ideal.Layer

open Cert.Kernel5Ideal Cert.Kernel5Ideal.Gen Cert.Kernel5Ideal.Facts Idealize.ShloMosaic _root_.Layer
open Cert.Kernel4Ideal.Layer (colsAt rowsAt colsAt_apply rowsAt_apply)

/-- A chunk of the hidden layer. -/
def hiddenV (h : FVec Ideal S256x1024 .bf16) (u : Vec Ideal S1024x1024 .bf16) : FVec Ideal S256x1024 .f32 :=
  maximumf (matmul dot_S256x1024_S1024x1024_S256x1024_1_0_0_1_n_n none h
      (shapeCast S1024x1024 u shapeCasts_S1024x1024_S1024x1024 : FVec Ideal S1024x1024 .bf16) (constant S256x1024 .f32 0x00000000#32))
    (broadcast S256x1024 (Scalar.ofBits .f32 0x00000000#32))

/-- What a chunk of the hidden layer adds. -/
def chunkV (h : FVec Ideal S256x1024 .bf16) (u w : Vec Ideal S1024x1024 .bf16) : FVec Ideal S256x1024 .f32 :=
  matmul dot_S256x1024_S1024x1024_S256x1024_1_0_0_1_n_n none
    (truncf .bf16 (mulf (hiddenV h u) (hiddenV h u)) bitsLt_bf16_f32)
    (shapeCast S1024x1024 w shapeCasts_S1024x1024_S1024x1024 : FVec Ideal S1024x1024 .bf16) (constant S256x1024 .f32 0x00000000#32)

/-- The four chunks added one after the other. -/
def ffnV (h : FVec Ideal S256x1024 .bf16) (up : Vec Ideal S1024x4096 .bf16) (down : Vec Ideal S4096x1024 .bf16) :
    FVec Ideal S256x1024 .f32 :=
  addf (addf (addf (addf (broadcast S256x1024 (Scalar.ofBits .f32 0x00000000#32)) (chunkV h (colsAt up 0) (rowsAt down 0)))
    (chunkV h (colsAt up 1) (rowsAt down 1))) (chunkV h (colsAt up 2) (rowsAt down 2))) (chunkV h (colsAt up 3) (rowsAt down 3))

/-- What the body stores. -/
theorem out_eq (x0 x1 x2 x3 : Vec Ideal S256x1024 .f32) (x4 : Vec Ideal S1024x4096 .bf16)
    (x5 : Vec Ideal S4096x1024 .bf16) (x6 x7 : Vec Ideal S1x1024 .f32) :
    out0_8 (F := Ideal) x0 x1 x2 x3 x4 x5 x6 x7
      = residualV (ownV x0) (ffnV (truncf .bf16 (modulatedV (ownV x0) (ownV x2) (ownV x1)) bitsLt_bf16_f32) x4 x5) (ownV x3) x6 x7 := by
  unfold out0_8
  have two : (![0, 0] : Fin 2 → ℕ) = fun _ => 0 := by funext a; fin_cases a <;> rfl
  rw [View.canon_unit_zero two]
  have h0 : ∀ x : Vec Ideal S256x1024 .f32, View.ld x r0_0 = x := fun x => View.ld_unit_zero two _ x
  have h6 : ∀ x : Vec Ideal S1x1024 .f32, View.ld x r0_9 = x := fun x => View.ld_unit_zero two _ x
  rw [h0 x0, h0 x1, h0 x2, h0 x3, h6 x6, h6 x7]
  rfl

variable (r : Fin 256) (i : Fin 1024)

theorem hiddenV_apply (h : FVec Ideal S256x1024 .bf16) (u : Vec Ideal S1024x1024 .bf16) :
    hiddenV h u (ix2 r i) = max (∑ x : Fin 1024, h (ix2 r x) * u (ix2 x i)) 0 := by
  unfold hiddenV
  pointwise [dot_S256x1024_S1024x1024_S256x1024_1_0_0_1_n_n]

theorem chunkV_apply (h : FVec Ideal S256x1024 .bf16) (u w : Vec Ideal S1024x1024 .bf16) :
    chunkV h u w (ix2 r i) = ∑ k : Fin 1024, unit (fun x => h (ix2 r x)) (fun x => u (ix2 x k)) * w (ix2 k i) := by
  unfold chunkV unit
  pointwise [dot_S256x1024_S1024x1024_S256x1024_1_0_0_1_n_n]
  simp only [hiddenV_apply]

theorem ffnV_apply (h : FVec Ideal S256x1024 .bf16) (up : Vec Ideal S1024x4096 .bf16) (down : Vec Ideal S4096x1024 .bf16) :
    ffnV h up down (ix2 r i) = ffn (fun x => h (ix2 r x)) (fun x k => up (ix2 x k)) (fun k i => down (ix2 k i)) i := by
  rw [ffn_chunks, Fin.sum_univ_four]
  unfold ffnV
  pointwise
  simp only [chunkV_apply, colsAt_apply, rowsAt_apply]
  have e1 : ((1 : Fin 4) : ℕ) = 1 := rfl
  have e2 : ((2 : Fin 4) : ℕ) = 2 := rfl
  have e3 : ((3 : Fin 4) : ℕ) = 3 := rfl
  simp only [Fin.val_zero, e1, e2, e3, Nat.mul_zero, Nat.zero_add, Nat.mul_one, Nat.reduceMul]

/-- WHAT THE BODY STORES at row `r` and column `i`. -/
theorem out_apply (x0 x1 x2 x3 : Vec Ideal S256x1024 .f32) (x4 : Vec Ideal S1024x4096 .bf16)
    (x5 : Vec Ideal S4096x1024 .bf16) (x6 x7 : Vec Ideal S1x1024 .f32) :
    out0_8 (F := Ideal) x0 x1 x2 x3 x4 x5 x6 x7 (ix2 r i)
      = resid (fun k => x0 (ix2 r k)) (fun k => x3 (ix2 r k))
          (ffn (modulated (fun k => x0 (ix2 r k)) (fun k => x2 (ix2 r k)) (fun k => x1 (ix2 r k)))
            (fun x k => x4 (ix2 x k)) (fun k i => x5 (ix2 k i)))
          (fun k => x6 (ix2 0 k)) (fun k => x7 (ix2 0 k)) i := by
  rw [out_eq, residualV_apply]
  have e : ∀ v : FVec Ideal S256x1024 .f32, ∀ j, (truncf .bf16 v bitsLt_bf16_f32 : FVec Ideal S256x1024 .bf16) j = v j := fun _ _ => rfl
  simp only [ffnV_apply, ownV_apply, e, modulatedV_apply]

end Cert.Kernel5Ideal.Layer

namespace Cert.Reference5Ideal.Layer

open Cert.Reference5Ideal Cert.Reference5Ideal.Gen Cert.Reference5Ideal.Facts Cert.Reference5Ideal.Read Idealize.ShloMosaic _root_.Layer

/-- The feed-forward network on the whole array. -/
def ffnH (h : FVec Ideal S128x4x1024 .f32) (up : FVec Ideal S1024x4096 .f32) (down : FVec Ideal S4096x1024 .f32) :
    FVec Ideal S128x4x1024 .f32 :=
  Host.dotGeneral dot_S128x4x4096_S4096x1024_S128x4x1024_2_0_01_1_n_n none
    (mulf (maximumf (Host.dotGeneral dot_S128x4x1024_S1024x4096_S128x4x4096_2_0_01_1_n_n none h up)
        (broadcastInDim S128x4x4096 ![] bcast_S_S128x4x4096 (constant S_ .f32 0x00000000#32)))
      (maximumf (Host.dotGeneral dot_S128x4x1024_S1024x4096_S128x4x4096_2_0_01_1_n_n none h up)
        (broadcastInDim S128x4x4096 ![] bcast_S_S128x4x4096 (constant S_ .f32 0x00000000#32)))) down

/-- One of the modulation's six vectors. -/
def modAt (y : FVec Ideal S128x6144 .f32) (o : ℕ) (s : S128x1x6144.Slices ![0, 0, o] S128x1x1024) : FVec Ideal S128x1x1024 .f32 :=
  extractStridedSlice S128x1x1024 ![0, 0, o] (broadcastInDim S128x1x6144 ![0, 2] bcast_S128x6144_S128x1x6144_0_2 y) s

theorem ffnH_apply (h : FVec Ideal S128x4x1024 .f32) (up : FVec Ideal S1024x4096 .f32) (down : FVec Ideal S4096x1024 .f32)
    (b : Fin 128) (t : Fin 4) (i : Fin 1024) :
    ffnH h up down (ix3 b t i) = ffn (fun x => h (ix3 b t x)) (fun x k => up (ix2 x k)) (fun k i => down (ix2 k i)) i := by
  unfold ffnH ffn unit
  pointwise [dot_S128x4x4096_S4096x1024_S128x4x1024_2_0_01_1_n_n, dot_S128x4x1024_S1024x4096_S128x4x4096_2_0_01_1_n_n]

end Cert.Reference5Ideal.Layer

end
-- ==== Proof.FfnSampleFinal.lean ====
/- The sample group's feed-forward call as a whole: each point's blocks are the parts of the arguments, the modulation's rows
   repeated for a sample's four new tokens, so the kernel's result array is the reference's. -/
module

public import proofs.«01_k».proof.Defs
public import proofs.«01_k».proof.Proof.FfnSample
public import proofs.«01_k».proof.Proof.Gen.Kernel5Ideal.Value
public import proofs.«01_k».proof.Proof.Gen.Reference5Ideal.Run
public import Idealize.ShloMosaic.Lib.Pipeline.ValueKit

@[expose] public section

noncomputable section

namespace Cert.Kernel5Ideal.Layer

open Cert.Kernel5Ideal Cert.Kernel5Ideal.Gen Cert.Kernel5Ideal.Facts Cert.Kernel5Ideal.Value Idealize.ShloMosaic Idealize.ShloMosaic.TcCoe _root_.Layer

theorem lt2 (t : Fin cfg0.N) : t.val < 2 := t.isLt.trans_eq rfl

/-- The array's row that row `r` of point `t`'s block is. -/
def rowAt (t : Fin cfg0.N) (r : Fin 256) : Fin 512 := ⟨256 * t.val + r.val, by have := lt2 t; omega⟩

/-- The sample of a row. -/
def bOf (n : Fin 512) : Fin 128 := ⟨n.val / 4, by omega⟩

/-- The new token of a row. -/
def tOf (n : Fin 512) : Fin 4 := ⟨n.val % 4, by omega⟩

theorem bOf_tOf (n : Fin 512) : (⟨4 * (bOf n).val + (tOf n).val, by omega⟩ : Fin 512) = n :=
  Fin.ext (show 4 * (n.val / 4) + n.val % 4 = n.val by omega)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 3 :=
  (by decide +kernel : ∀ t : Fin grid0.N, _)
theorem idx2 : ∀ t : Fin cfg0.N, win0_2.index t (0 : Fin 2) = t.val ∧ win0_2.index t (1 : Fin 2) = 4 :=
  (by decide +kernel : ∀ t : Fin grid0.N, _)
theorem idx3 : ∀ t : Fin cfg0.N, win0_3.index t (0 : Fin 2) = t.val ∧ win0_3.index t (1 : Fin 2) = 5 :=
  (by decide +kernel : ∀ t : Fin grid0.N, _)
theorem idx4 : ∀ t : Fin cfg0.N, ∀ a : Fin 2, win0_4.index t a = 0 := (by decide +kernel : ∀ t : Fin grid0.N, _)
theorem idx5 : ∀ t : Fin cfg0.N, ∀ a : Fin 2, win0_5.index t a = 0 := (by decide +kernel : ∀ t : Fin grid0.N, _)
theorem idx6 : ∀ t : Fin cfg0.N, ∀ a : Fin 2, win0_6.index t a = 0 := (by decide +kernel : ∀ t : Fin grid0.N, _)
theorem idx7 : ∀ t : Fin cfg0.N, ∀ a : Fin 2, win0_7.index t a = 0 := (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)

variable (t : Fin cfg0.N) (r : Fin 256) (i : Fin 1024)

theorem emb0 : (win0_0.blk t).view.emb (ix2 r i) = ix2 (rowAt t r) i := by
  obtain ⟨h0, h1⟩ := idx0 t
  funext a; apply Fin.ext
  match a with
  | ⟨0, _⟩ => show win0_0.index t (0 : Fin 2) * 256 + 1 * r.val = 256 * t.val + r.val; omega
  | ⟨1, _⟩ => show win0_0.index t (1 : Fin 2) * 1024 + 1 * i.val = i.val; omega

theorem emb8 : (win0_8.blk t).view.emb (ix2 r i) = ix2 (rowAt t r) i := by
  obtain ⟨h0, h1⟩ := idx8 t
  funext a; apply Fin.ext
  match a with
  | ⟨0, _⟩ => show win0_8.index t (0 : Fin 2) * 256 + 1 * r.val = 256 * t.val + r.val; omega
  | ⟨1, _⟩ => show win0_8.index t (1 : Fin 2) * 1024 + 1 * i.val = i.val; omega

theorem emb1 : (win0_1.blk t).view.emb (ix2 r i) = ix2 (rowAt t r) (⟨3072 + i.val, by omega⟩ : Fin 6144) := by
  obtain ⟨h0, h1⟩ := idx1 t
  funext a; apply Fin.ext
  match a with
  | ⟨0, _⟩ => show win0_1.index t (0 : Fin 2) * 256 + 1 * r.val = 256 * t.val + r.val; omega
  | ⟨1, _⟩ => show win0_1.index t (1 : Fin 2) * 1024 + 1 * i.val = 3072 + i.val; omega

theorem emb2 : (win0_2.blk t).view.emb (ix2 r i) = ix2 (rowAt t r) (⟨4096 + i.val, by omega⟩ : Fin 6144) := by
  obtain ⟨h0, h1⟩ := idx2 t
  funext a; apply Fin.ext
  match a with
  | ⟨0, _⟩ => show win0_2.index t (0 : Fin 2) * 256 + 1 * r.val = 256 * t.val + r.val; omega
  | ⟨1, _⟩ => show win0_2.index t (1 : Fin 2) * 1024 + 1 * i.val = 4096 + i.val; omega

theorem emb3 : (win0_3.blk t).view.emb (ix2 r i) = ix2 (rowAt t r) (⟨5120 + i.val, by omega⟩ : Fin 6144) := by
  obtain ⟨h0, h1⟩ := idx3 t
  funext a; apply Fin.ext
  match a with
  | ⟨0, _⟩ => show win0_3.index t (0 : Fin 2) * 256 + 1 * r.val = 256 * t.val + r.val; omega
  | ⟨1, _⟩ => show win0_3.index t (1 : Fin 2) * 1024 + 1 * i.val = 5120 + i.val; omega

theorem emb4 (j : S1024x4096.Idx) : (win0_4.blk t).view.emb j = j := by
  funext a; apply Fin.ext
  show win0_4.index t a * S1024x4096.size a + 1 * (j a).val = (j a).val
  rw [idx4 t a]; omega

theorem emb5 (j : S4096x1024.Idx) : (win0_5.blk t).view.emb j = j := by
  funext a; apply Fin.ext
  show win0_5.index t a * S4096x1024.size a + 1 * (j a).val = (j a).val
  rw [idx5 t a]; omega

theorem emb6 (j : S1x1024.Idx) : (win0_6.blk t).view.emb j = j := by
  funext a; apply Fin.ext
  show win0_6.index t a * S1x1024.size a + 1 * (j a).val = (j a).val
  rw [idx6 t a]; omega

theorem emb7 (j : S1x1024.Idx) : (win0_7.blk t).view.emb j = j := by
  funext a; apply Fin.ext
  show win0_7.index t a * S1x1024.size a + 1 * (j a).val = (j a).val
  rw [idx7 t a]; omega

def hostX (x : FVec Ideal S128x4x1024 .f32) : FVec Ideal S512x1024 .f32 := shapeCast S512x1024 x shapeCasts_S128x4x1024_S512x1024

/-- The modulation's rows, each repeated four times. -/
def hostMod (x : FVec Ideal S128x6144 .f32) : FVec Ideal S512x6144 .f32 :=
  shapeCast S512x6144 (broadcastInDim S128x4x6144 ![0, 2] bcast_S128x6144_S128x4x6144_0_2 x) shapeCasts_S128x4x6144_S512x6144
def hostRow (x : FVec Ideal S1024 .f32) : FVec Ideal S1x1024 .f32 := shapeCast S1x1024 x shapeCasts_S1024_S1x1024

theorem hostX_apply (x : FVec Ideal S128x4x1024 .f32) (n : Fin 512) (i : Fin 1024) :
    hostX x (ix2 n i) = x (ix3 (bOf n) (tOf n) i) := by
  have h : ∀ (b : Fin 128) (t : Fin 4), hostX x (ix2 ⟨4 * b.val + t.val, by omega⟩ i) = x (ix3 b t i) := by
    intro b t; unfold hostX; pointwise
  rw [← h, bOf_tOf]

theorem hostMod_apply (x : FVec Ideal S128x6144 .f32) (n : Fin 512) (i : Fin 6144) : hostMod x (ix2 n i) = x (ix2 (bOf n) i) := by
  have h : ∀ (b : Fin 128) (t : Fin 4), hostMod x (ix2 ⟨4 * b.val + t.val, by omega⟩ i) = x (ix2 b i) := by
    intro b t; unfold hostMod; pointwise
  rw [← h (bOf n) (tOf n), bOf_tOf]

theorem hostRow_apply (x : FVec Ideal S1024 .f32) (i : Fin 1024) : hostRow x (ix2 0 i) = x (ix1 i) := by
  unfold hostRow
  pointwise

section

variable (m : (ℓ : Loc nD τ sig) → Buf (Elt Ideal) ℓ) (c : Dev nD)

theorem blk0 : iblk m c 0 t (ix2 r i) = m ((c : Thread nD τ).loc main_arg0) (ix3 (bOf (rowAt t r)) (tOf (rowAt t r)) i) := by
  show hostX (m ((c : Thread nD τ).loc main_arg0)) ((win0_0.blk t).view.emb (ix2 r i)) = _
  rw [emb0, hostX_apply]
theorem blk1 : iblk m c 1 t (ix2 r i) = m ((c : Thread nD τ).loc main_arg1) (ix2 (bOf (rowAt t r)) ⟨3072 + i.val, by omega⟩) := by
  show hostMod (m ((c : Thread nD τ).loc main_arg1)) ((win0_1.blk t).view.emb (ix2 r i)) = _
  rw [emb1, hostMod_apply]
theorem blk2 : iblk m c 2 t (ix2 r i) = m ((c : Thread nD τ).loc main_arg1) (ix2 (bOf (rowAt t r)) ⟨4096 + i.val, by omega⟩) := by
  show hostMod (m ((c : Thread nD τ).loc main_arg1)) ((win0_2.blk t).view.emb (ix2 r i)) = _
  rw [emb2, hostMod_apply]
theorem blk3 : iblk m c 3 t (ix2 r i) = m ((c : Thread nD τ).loc main_arg1) (ix2 (bOf (rowAt t r)) ⟨5120 + i.val, by omega⟩) := by
  show hostMod (m ((c : Thread nD τ).loc main_arg1)) ((win0_3.blk t).view.emb (ix2 r i)) = _
  rw [emb3, hostMod_apply]
theorem blk4 (j : S1024x4096.Idx) : iblk m c 4 t j = m ((c : Thread nD τ).loc main_arg2) j := by
  show (m ((c : Thread nD τ).loc main_arg2) : FVec Ideal S1024x4096 .f32) ((win0_4.blk t).view.emb j) = _
  rw [emb4]
theorem blk5 (j : S4096x1024.Idx) : iblk m c 5 t j = m ((c : Thread nD τ).loc main_arg3) j := by
  show (m ((c : Thread nD τ).loc main_arg3) : FVec Ideal S4096x1024 .f32) ((win0_5.blk t).view.emb j) = _
  rw [emb5]
theorem blk6 : iblk m c 6 t (ix2 0 i) = m ((c : Thread nD τ).loc main_arg4) (ix1 i) := by
  show hostRow (m ((c : Thread nD τ).loc main_arg4)) ((win0_6.blk t).view.emb (ix2 0 i)) = _
  rw [emb6, hostRow_apply]
theorem blk7 : iblk m c 7 t (ix2 0 i) = m ((c : Thread nD τ).loc main_arg5) (ix1 i) := by
  show hostRow (m ((c : Thread nD τ).loc main_arg5)) ((win0_7.blk t).view.emb (ix2 0 i)) = _
  rw [emb7, hostRow_apply]

end

/-- A sample's rows after the feed-forward network, by coordinates. -/
def rowOf (x : FVec Ideal S128x4x1024 .f32) (mod : FVec Ideal S128x6144 .f32) (up : FVec Ideal S1024x4096 .f32)
    (down : FVec Ideal S4096x1024 .f32) (gain bias : FVec Ideal S1024 .f32) (b : Fin 128) (s : Fin 4) (i : Fin 1024) : EReal :=
  resid (fun k => x (ix3 b s k)) (fun k => mod (ix2 b ⟨5120 + k.val, by omega⟩))
    (ffn (modulated (fun k => x (ix3 b s k)) (fun k => mod (ix2 b ⟨4096 + k.val, by omega⟩)) (fun k => mod (ix2 b ⟨3072 + k.val, by omega⟩)))
      (fun x k => up (ix2 x k)) (fun k i => down (ix2 k i)))
    (fun k => gain (ix1 k)) (fun k => bias (ix1 k)) i

/-- The array after the run. -/
theorem final (m : (ℓ : Loc nD τ sig) → Buf (Elt Ideal) ℓ) (c : Dev nD) (G : Vec Ideal S512x1024 .f32)
    (hG : ∀ (b : Fin 128) (s : Fin 4) (i : Fin 1024), G (ix2 ⟨4 * b.val + s.val, by omega⟩ i)
      = rowOf (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) b s i) :
    (dats m 0 c).arrAt 8 cfg0.N = G := by
  have hG' := fun (n : Fin 512) i => (congrArg (fun n => G (ix2 n i)) (bOf_tOf n)).symm.trans (hG (bOf n) (tOf n) i)
  refine (dats m 0 c).arrAt_eq_of_cover 8 G (fun t _ => ?_) fun j => ?_
  · rw [flushed8]
    funext y
    obtain ⟨r, i, rfl⟩ : ∃ (r : Fin 256) (i : Fin 1024), y = ix2 r i := ⟨y 0, y 1, by funext a; match a with | ⟨0, _⟩ => rfl | ⟨1, _⟩ => rfl⟩
    show out0_8 (iblk m c 0 t) (iblk m c 1 t) (iblk m c 2 t) (iblk m c 3 t) (iblk m c 4 t) (iblk m c 5 t) (iblk m c 6 t) (iblk m c 7 t) (ix2 r i)
      = G ((win0_8.blk t).view.emb (ix2 r i))
    rw [emb8]
    refine Eq.trans ?_ (hG' _ _).symm
    rw [out_apply]
    unfold rowOf
    simp only [blk0, blk1, blk2, blk3, blk4, blk5, blk6, blk7]
  · obtain ⟨R, C, rfl⟩ : ∃ (R : Fin 512) (C : Fin 1024), j = ix2 R C := ⟨j 0, j 1, by funext a; match a with | ⟨0, _⟩ => rfl | ⟨1, _⟩ => rfl⟩
    have ht : R.val / 256 < cfg0.N := by
      show _ < 2; omega
    refine ⟨⟨_, ht⟩, flush0_8 _, ?_⟩
    have h := (win0_8.blk ⟨_, ht⟩).view.emb_mem_set (ix2 (⟨R.val % 256, by omega⟩ : Fin 256) C)
    rw [emb8] at h
    convert h using 2
    apply Fin.ext
    show R.val = 256 * (R.val / 256) + R.val % 256
    omega

end Cert.Kernel5Ideal.Layer

namespace Cert.Reference5Ideal.Layer

open Cert.Reference5Ideal Cert.Reference5Ideal.Gen Cert.Reference5Ideal.Facts Cert.Reference5Ideal.Read Idealize.ShloMosaic _root_.Layer

theorem modAt_apply (y : FVec Ideal S128x6144 .f32) (b : Fin 128) (i : Fin 1024) :
    modAt y 3072 slices_S128x1x6144_S128x1x1024_0_0_3072 (ix3 b 0 i) = y (ix2 b ⟨3072 + i.val, by omega⟩)
    ∧ modAt y 4096 slices_S128x1x6144_S128x1x1024_0_0_4096 (ix3 b 0 i) = y (ix2 b ⟨4096 + i.val, by omega⟩)
    ∧ modAt y 5120 slices_S128x1x6144_S128x1x1024_0_0_5120 (ix3 b 0 i) = y (ix2 b ⟨5120 + i.val, by omega⟩) := by
  unfold modAt
  refine ⟨?_, ?_, ?_⟩ <;> pointwise

variable (x : FVec Ideal S128x4x1024 .f32) (mod : FVec Ideal S128x6144 .f32) (up : FVec Ideal S1024x4096 .f32)
  (down : FVec Ideal S4096x1024 .f32) (gain bias : FVec Ideal S1024 .f32)

/-- The reference's array as the composition of its parts. -/
theorem parts : val_main_v64 (F := Ideal) x mod up down gain bias
    = residualH x (ffnH (modulatedH x (modAt mod 4096 slices_S128x1x6144_S128x1x1024_0_0_4096)
        (modAt mod 3072 slices_S128x1x6144_S128x1x1024_0_0_3072)) up down)
      (modAt mod 5120 slices_S128x1x6144_S128x1x1024_0_0_5120) gain bias := rfl

theorem value (b : Fin 128) (s : Fin 4) (i : Fin 1024) :
    val_main_v64 (F := Ideal) x mod up down gain bias (ix2 ⟨4 * b.val + s.val, by omega⟩ i)
      = Cert.Kernel5Ideal.Layer.rowOf x mod up down gain bias b s i := by
  rw [parts, residualH_apply]
  unfold Cert.Kernel5Ideal.Layer.rowOf
  simp only [ffnH_apply, modulatedH_apply, (modAt_apply mod b _).1, (modAt_apply mod b _).2.1, (modAt_apply mod b _).2.2]

end Cert.Reference5Ideal.Layer

namespace Cert.Proof

open Idealize.ShloMosaic Idealize.ShloMosaic.TcCoe Idealize.SL.Sem

/-- The sample group's feed-forward call's value claim. -/
theorem algebraic5 : algebraic_Kernel5Ideal_Reference5Ideal := by
  intro m g m' g' _ agree
  refine ⟨fun c => (Cert.Kernel5Ideal.Gen.dats m 0 c).arrAt 8 Cert.Kernel5Ideal.cfg0.N,
    Cert.Kernel5Ideal.Value.run_blocks m g, ?_⟩
  refine (θ_run _ _ _).mono (fun r hr c => ⟨(hr c).1.trans ?_, (hr c).2⟩) (Cert.Reference5Ideal.Value.run m' g')
  obtain ⟨e0, e1, e2, e3, e4, e5⟩ := agree c
  rw [Cert.Reference5Ideal.Read.val_main_v64_eq, e0, e1, e2, e3, e4, e5]
  exact (Cert.Kernel5Ideal.Layer.final m c _ fun b s i => Cert.Reference5Ideal.Layer.value _ _ _ _ _ _ b s i).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Read
public import proofs.«01_k».proof.Proof.Gen.Pre_finite2
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Read
public import proofs.«01_k».proof.Proof.Algebraic
public import proofs.«01_k».proof.Proof.LatentClaim
public import proofs.«01_k».proof.Proof.MergeFinal
public import proofs.«01_k».proof.Proof.FfnSampleFinal
public import Idealize.ShloMosaic.Lib.Quiescent
public import Idealize.ShloMosaic.Init

@[expose] public section

noncomputable section

namespace Cert.Proof

open Idealize.ShloMosaic Idealize.SL.Sem

/-- The run of reference 1 from any memory: it ends with its arguments unchanged, and it has no semaphore. -/
theorem reference : quiescent_ReferenceIdeal := fun m ρ _ =>
  (θ_run (Cert.ReferenceIdeal.defs (F := Ideal)) _ _).mono
    (fun r h => And.intro (fun c => (h c).2) (sem_eq_zero_of_no_sems (by decide) r.2))
    (Cert.ReferenceIdeal.Value.run m ρ)

/-- The run of reference 2 from any memory: it ends with its arguments unchanged, and it has no semaphore. -/
theorem reference2 : quiescent_Reference2Ideal := fun m ρ _ =>
  (θ_run (Cert.Reference2Ideal.defs (F := Ideal)) _ _).mono
    (fun r h => And.intro (fun c => (h c).2) (sem_eq_zero_of_no_sems (by decide) r.2))
    (Cert.Reference2Ideal.Value.run m ρ)

/-- The run of reference 3 from any memory: it ends with its arguments unchanged, and it has no semaphore. -/
theorem reference3 : quiescent_Reference3Ideal := fun m ρ _ =>
  (θ_run (Cert.Reference3Ideal.defs (F := Ideal)) _ _).mono
    (fun r h => And.intro (fun c => (h c).2) (sem_eq_zero_of_no_sems (by decide) r.2))
    (Cert.Reference3Ideal.Value.run m ρ)

/-- The run of reference 4 from any memory: it ends with its arguments unchanged, and it has no semaphore. -/
theorem reference4 : quiescent_Reference4Ideal := fun m ρ _ =>
  (θ_run (Cert.Reference4Ideal.defs (F := Ideal)) _ _).mono
    (fun r h => And.intro (fun c => (h c).2) (sem_eq_zero_of_no_sems (by decide) r.2))
    (Cert.Reference4Ideal.Value.run m ρ)

/-- The run of reference 5 from any memory: it ends with its arguments unchanged, and it has no semaphore. -/
theorem reference5 : quiescent_Reference5Ideal := fun m ρ _ =>
  (θ_run (Cert.Reference5Ideal.defs (F := Ideal)) _ _).mono
    (fun r h => And.intro (fun c => (h c).2) (sem_eq_zero_of_no_sems (by decide) r.2))
    (Cert.Reference5Ideal.Value.run m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Pre_finite.Gen.facts, Cert.Pre_finite2.Gen.facts,
  fun m ρ _ => Cert.Kernel.Gen.frame m ρ, fun m ρ _ => Cert.KernelIdeal.Gen.frame m ρ, fun m ρ _ => Cert.KernelIdeal.Gen.frame m ρ,
  reference, fun m ρ _ => reference m ρ trivial,
  fun m ρ _ => Cert.Kernel2.Gen.frame m ρ, fun m ρ _ => Cert.Kernel2Ideal.Gen.frame m ρ, fun m ρ _ => Cert.Kernel2Ideal.Gen.frame m ρ,
  reference2, fun m ρ _ => reference2 m ρ trivial,
  fun m ρ _ => Cert.Kernel3.Gen.frame m ρ, fun m ρ _ => Cert.Kernel3Ideal.Gen.frame m ρ,
  reference3,
  fun m ρ _ => Cert.Kernel4.Gen.frame m ρ, fun m ρ _ => Cert.Kernel4Ideal.Gen.frame m ρ,
  reference4,
  fun m ρ _ => Cert.Kernel5.Gen.frame m ρ, fun m ρ _ => Cert.Kernel5Ideal.Gen.frame m ρ,
  reference5,
  ⟨IdealRules.named_const.statement Cert.KernelIdeal.κ "mask" .f32 0xF149F2CA#32 ⊥ rfl,
    IdealRules.named_const.statement Cert.KernelIdeal.κ "log2e" .f32 0x3FB8AA3B#32 (((Real.log 2)⁻¹ : ℝ) : EReal) rfl⟩,
  algebraic,
  IdealRules.named_const.statement Cert.Kernel2Ideal.κ "mask" .f32 0xF149F2CA#32 ⊥ rfl,
  algebraic2,
  trivial, algebraic3,
  trivial, algebraic4,
  trivial, algebraic5⟩

end Cert.Proof

end
